-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_ReferenceWIdeal (m : (ℓ : Loc Cert.ReferenceWIdeal.nD Cert.ReferenceWIdeal.τ Cert.ReferenceWIdeal.sig) → Buf (Elt Ideal) ℓ) : Prop :=
  True

def Pre_KernelG (m : (ℓ : Loc Cert.KernelG.nD Cert.KernelG.τ Cert.KernelG.sig) → Buf (Elt Bits) ℓ) : Prop :=
  True

def Pre_KernelGIdeal (m : (ℓ : Loc Cert.KernelGIdeal.nD Cert.KernelGIdeal.τ Cert.KernelGIdeal.sig) → Buf (Elt Ideal) ℓ) : Prop :=
  True

def Pre_ReferenceGIdeal (m : (ℓ : Loc Cert.ReferenceGIdeal.nD Cert.ReferenceGIdeal.τ Cert.ReferenceGIdeal.sig) → Buf (Elt Ideal) ℓ) : Prop :=
  True

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_ReferenceSIdeal (m : (ℓ : Loc Cert.ReferenceSIdeal.nD Cert.ReferenceSIdeal.τ Cert.ReferenceSIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelL (m : (ℓ : Loc Cert.KernelL.nD Cert.KernelL.τ Cert.KernelL.sig) → Buf (Elt Bits) ℓ) : Prop :=
  True

def Pre_KernelLIdeal (m : (ℓ : Loc Cert.KernelLIdeal.nD Cert.KernelLIdeal.τ Cert.KernelLIdeal.sig) → Buf (Elt Ideal) ℓ) : Prop :=
  True

def Pre_ReferenceLIdeal (m : (ℓ : Loc Cert.ReferenceLIdeal.nD Cert.ReferenceLIdeal.τ Cert.ReferenceLIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1)
      ∧ r.2.mem ((c.tc : Thread Cert.KernelW.nD Cert.KernelW.τ).loc Cert.KernelW.main_arg2) = m ((c.tc : Thread Cert.KernelW.nD Cert.KernelW.τ).loc Cert.KernelW.main_arg2)
      ∧ r.2.mem ((c.tc : Thread Cert.KernelW.nD Cert.KernelW.τ).loc Cert.KernelW.main_arg3) = m ((c.tc : Thread Cert.KernelW.nD Cert.KernelW.τ).loc Cert.KernelW.main_arg3)
      ∧ r.2.mem ((c.tc : Thread Cert.KernelW.nD Cert.KernelW.τ).loc Cert.KernelW.main_arg4) = m ((c.tc : Thread Cert.KernelW.nD Cert.KernelW.τ).loc Cert.KernelW.main_arg4)
      ∧ r.2.mem ((c.tc : Thread Cert.KernelW.nD Cert.KernelW.τ).loc Cert.KernelW.main_arg5) = m ((c.tc : Thread Cert.KernelW.nD Cert.KernelW.τ).loc Cert.KernelW.main_arg5)
      ∧ r.2.mem ((c.tc : Thread Cert.KernelW.nD Cert.KernelW.τ).loc Cert.KernelW.main_arg6) = m ((c.tc : Thread Cert.KernelW.nD Cert.KernelW.τ).loc Cert.KernelW.main_arg6)
      ∧ r.2.mem ((c.tc : Thread Cert.KernelW.nD Cert.KernelW.τ).loc Cert.KernelW.main_arg7) = m ((c.tc : Thread Cert.KernelW.nD Cert.KernelW.τ).loc Cert.KernelW.main_arg7)
      ∧ r.2.mem ((c.tc : Thread Cert.KernelW.nD Cert.KernelW.τ).loc Cert.KernelW.main_arg8) = m ((c.tc : Thread Cert.KernelW.nD Cert.KernelW.τ).loc Cert.KernelW.main_arg8))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
      ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
      ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
      ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
      ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
      ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
      ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
      ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8))
      ∧ r.2.sem = fun _ => 0)

def quiescent_ReferenceWIdeal [hReferenceWIdeal : Cert.ReferenceWIdeal.Facts] : Prop :=
  ∀ (m : (ℓ : Loc Cert.ReferenceWIdeal.nD Cert.ReferenceWIdeal.τ Cert.ReferenceWIdeal.sig) → Buf (Elt Ideal) ℓ) (g : Dev Cert.ReferenceWIdeal.nD → PrngReg), Pre_ReferenceWIdeal m →
    θ_run (Cert.ReferenceWIdeal.defs (F := Ideal)) (onTc (τ := Cert.ReferenceWIdeal.τ) (Cert.ReferenceWIdeal.main (F := Ideal))) ⟨m, fun _ => 0, g⟩ (fun r => (∀ c : Dev Cert.ReferenceWIdeal.nD,
      r.2.mem ((c.tc : Thread Cert.ReferenceWIdeal.nD Cert.ReferenceWIdeal.τ).loc Cert.ReferenceWIdeal.main_arg0) = m ((c.tc : Thread Cert.ReferenceWIdeal.nD Cert.ReferenceWIdeal.τ).loc Cert.ReferenceWIdeal.main_arg0)
      ∧ r.2.mem ((c.tc : Thread Cert.ReferenceWIdeal.nD Cert.ReferenceWIdeal.τ).loc Cert.ReferenceWIdeal.main_arg1) = m ((c.tc : Thread Cert.ReferenceWIdeal.nD Cert.ReferenceWIdeal.τ).loc Cert.ReferenceWIdeal.main_arg1)
      ∧ r.2.mem ((c.tc : Thread Cert.ReferenceWIdeal.nD Cert.ReferenceWIdeal.τ).loc Cert.ReferenceWIdeal.main_arg2) = m ((c.tc : Thread Cert.ReferenceWIdeal.nD Cert.ReferenceWIdeal.τ).loc Cert.ReferenceWIdeal.main_arg2)
      ∧ r.2.mem ((c.tc : Thread Cert.ReferenceWIdeal.nD Cert.ReferenceWIdeal.τ).loc Cert.ReferenceWIdeal.main_arg3) = m ((c.tc : Thread Cert.ReferenceWIdeal.nD Cert.ReferenceWIdeal.τ).loc Cert.ReferenceWIdeal.main_arg3)
      ∧ r.2.mem ((c.tc : Thread Cert.ReferenceWIdeal.nD Cert.ReferenceWIdeal.τ).loc Cert.ReferenceWIdeal.main_arg4) = m ((c.tc : Thread Cert.ReferenceWIdeal.nD Cert.ReferenceWIdeal.τ).loc Cert.ReferenceWIdeal.main_arg4)
      ∧ r.2.mem ((c.tc : Thread Cert.ReferenceWIdeal.nD Cert.ReferenceWIdeal.τ).loc Cert.ReferenceWIdeal.main_arg5) = m ((c.tc : Thread Cert.ReferenceWIdeal.nD Cert.ReferenceWIdeal.τ).loc Cert.ReferenceWIdeal.main_arg5)
      ∧ r.2.mem ((c.tc : Thread Cert.ReferenceWIdeal.nD Cert.ReferenceWIdeal.τ).loc Cert.ReferenceWIdeal.main_arg6) = m ((c.tc : Thread Cert.ReferenceWIdeal.nD Cert.ReferenceWIdeal.τ).loc Cert.ReferenceWIdeal.main_arg6)
      ∧ r.2.mem ((c.tc : Thread Cert.ReferenceWIdeal.nD Cert.ReferenceWIdeal.τ).loc Cert.ReferenceWIdeal.main_arg7) = m ((c.tc : Thread Cert.ReferenceWIdeal.nD Cert.ReferenceWIdeal.τ).loc Cert.ReferenceWIdeal.main_arg7)
      ∧ r.2.mem ((c.tc : Thread Cert.ReferenceWIdeal.nD Cert.ReferenceWIdeal.τ).loc Cert.ReferenceWIdeal.main_arg8) = m ((c.tc : Thread Cert.ReferenceWIdeal.nD Cert.ReferenceWIdeal.τ).loc Cert.ReferenceWIdeal.main_arg8))
      ∧ r.2.sem = fun _ => 0)

def quiescent_KernelG [hKernelG : Cert.KernelG.Facts] : Prop :=
  ∀ (m : (ℓ : Loc Cert.KernelG.nD Cert.KernelG.τ Cert.KernelG.sig) → Buf (Elt Bits) ℓ) (g : Dev Cert.KernelG.nD → PrngReg), Pre_KernelG m →
    θ_run (Cert.KernelG.defs (F := Bits)) (onTc (τ := Cert.KernelG.τ) (Cert.KernelG.main (F := Bits))) ⟨m, fun _ => 0, g⟩ (fun r => (∀ c : Dev Cert.KernelG.nD,
      r.2.mem ((c.tc : Thread Cert.KernelG.nD Cert.KernelG.τ).loc Cert.KernelG.main_arg0) = m ((c.tc : Thread Cert.KernelG.nD Cert.KernelG.τ).loc Cert.KernelG.main_arg0)
      ∧ r.2.mem ((c.tc : Thread Cert.KernelG.nD Cert.KernelG.τ).loc Cert.KernelG.main_arg1) = m ((c.tc : Thread Cert.KernelG.nD Cert.KernelG.τ).loc Cert.KernelG.main_arg1)
      ∧ r.2.mem ((c.tc : Thread Cert.KernelG.nD Cert.KernelG.τ).loc Cert.KernelG.main_arg2) = m ((c.tc : Thread Cert.KernelG.nD Cert.KernelG.τ).loc Cert.KernelG.main_arg2)
      ∧ r.2.mem ((c.tc : Thread Cert.KernelG.nD Cert.KernelG.τ).loc Cert.KernelG.main_arg3) = m ((c.tc : Thread Cert.KernelG.nD Cert.KernelG.τ).loc Cert.KernelG.main_arg3)
      ∧ r.2.mem ((c.tc : Thread Cert.KernelG.nD Cert.KernelG.τ).loc Cert.KernelG.main_arg4) = m ((c.tc : Thread Cert.KernelG.nD Cert.KernelG.τ).loc Cert.KernelG.main_arg4)
      ∧ r.2.mem ((c.tc : Thread Cert.KernelG.nD Cert.KernelG.τ).loc Cert.KernelG.main_arg5) = m ((c.tc : Thread Cert.KernelG.nD Cert.KernelG.τ).loc Cert.KernelG.main_arg5)
      ∧ r.2.mem ((c.tc : Thread Cert.KernelG.nD Cert.KernelG.τ).loc Cert.KernelG.main_arg6) = m ((c.tc : Thread Cert.KernelG.nD Cert.KernelG.τ).loc Cert.KernelG.main_arg6)
      ∧ r.2.mem ((c.tc : Thread Cert.KernelG.nD Cert.KernelG.τ).loc Cert.KernelG.main_arg7) = m ((c.tc : Thread Cert.KernelG.nD Cert.KernelG.τ).loc Cert.KernelG.main_arg7)
      ∧ r.2.mem ((c.tc : Thread Cert.KernelG.nD Cert.KernelG.τ).loc Cert.KernelG.main_arg8) = m ((c.tc : Thread Cert.KernelG.nD Cert.KernelG.τ).loc Cert.KernelG.main_arg8))
      ∧ r.2.sem = fun _ => 0)

def quiescent_KernelGIdeal [hKernelGIdeal : Cert.KernelGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg), Pre_KernelGIdeal m →
    θ_run (Cert.KernelGIdeal.defs (F := Ideal)) (onTc (τ := Cert.KernelGIdeal.τ) (Cert.KernelGIdeal.main (F := Ideal))) ⟨m, fun _ => 0, g⟩ (fun r => (∀ c : Dev Cert.KernelGIdeal.nD,
      r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
      ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
      ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
      ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
      ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
      ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
      ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6)
      ∧ r.2.mem ((c.tc : Thread Cert.KernelGIdeal.nD Cert.KernelGIdeal.τ).loc Cert.KernelGIdeal.main_arg7) = m ((c.tc : Thread Cert.KernelGIdeal.nD Cert.KernelGIdeal.τ).loc Cert.KernelGIdeal.main_arg7)
      ∧ r.2.mem ((c.tc : Thread Cert.KernelGIdeal.nD Cert.KernelGIdeal.τ).loc Cert.KernelGIdeal.main_arg8) = m ((c.tc : Thread Cert.KernelGIdeal.nD Cert.KernelGIdeal.τ).loc Cert.KernelGIdeal.main_arg8))
      ∧ r.2.sem = fun _ => 0)

def quiescent_ReferenceGIdeal [hReferenceGIdeal : Cert.ReferenceGIdeal.Facts] : Prop :=
  ∀ (m : (ℓ : Loc Cert.ReferenceGIdeal.nD Cert.ReferenceGIdeal.τ Cert.ReferenceGIdeal.sig) → Buf (Elt Ideal) ℓ) (g : Dev Cert.ReferenceGIdeal.nD → PrngReg), Pre_ReferenceGIdeal m →
    θ_run (Cert.ReferenceGIdeal.defs (F := Ideal)) (onTc (τ := Cert.ReferenceGIdeal.τ) (Cert.ReferenceGIdeal.main (F := Ideal))) ⟨m, fun _ => 0, g⟩ (fun r => (∀ c : Dev Cert.ReferenceGIdeal.nD,
      r.2.mem ((c.tc : Thread Cert.ReferenceGIdeal.nD Cert.ReferenceGIdeal.τ).loc Cert.ReferenceGIdeal.main_arg0) = m ((c.tc : Thread Cert.ReferenceGIdeal.nD Cert.ReferenceGIdeal.τ).loc Cert.ReferenceGIdeal.main_arg0)
      ∧ r.2.mem ((c.tc : Thread Cert.ReferenceGIdeal.nD Cert.ReferenceGIdeal.τ).loc Cert.ReferenceGIdeal.main_arg1) = m ((c.tc : Thread Cert.ReferenceGIdeal.nD Cert.ReferenceGIdeal.τ).loc Cert.ReferenceGIdeal.main_arg1)
      ∧ r.2.mem ((c.tc : Thread Cert.ReferenceGIdeal.nD Cert.ReferenceGIdeal.τ).loc Cert.ReferenceGIdeal.main_arg2) = m ((c.tc : Thread Cert.ReferenceGIdeal.nD Cert.ReferenceGIdeal.τ).loc Cert.ReferenceGIdeal.main_arg2)
      ∧ r.2.mem ((c.tc : Thread Cert.ReferenceGIdeal.nD Cert.ReferenceGIdeal.τ).loc Cert.ReferenceGIdeal.main_arg3) = m ((c.tc : Thread Cert.ReferenceGIdeal.nD Cert.ReferenceGIdeal.τ).loc Cert.ReferenceGIdeal.main_arg3)
      ∧ r.2.mem ((c.tc : Thread Cert.ReferenceGIdeal.nD Cert.ReferenceGIdeal.τ).loc Cert.ReferenceGIdeal.main_arg4) = m ((c.tc : Thread Cert.ReferenceGIdeal.nD Cert.ReferenceGIdeal.τ).loc Cert.ReferenceGIdeal.main_arg4)
      ∧ r.2.mem ((c.tc : Thread Cert.ReferenceGIdeal.nD Cert.ReferenceGIdeal.τ).loc Cert.ReferenceGIdeal.main_arg5) = m ((c.tc : Thread Cert.ReferenceGIdeal.nD Cert.ReferenceGIdeal.τ).loc Cert.ReferenceGIdeal.main_arg5)
      ∧ r.2.mem ((c.tc : Thread Cert.ReferenceGIdeal.nD Cert.ReferenceGIdeal.τ).loc Cert.ReferenceGIdeal.main_arg6) = m ((c.tc : Thread Cert.ReferenceGIdeal.nD Cert.ReferenceGIdeal.τ).loc Cert.ReferenceGIdeal.main_arg6)
      ∧ r.2.mem ((c.tc : Thread Cert.ReferenceGIdeal.nD Cert.ReferenceGIdeal.τ).loc Cert.ReferenceGIdeal.main_arg7) = m ((c.tc : Thread Cert.ReferenceGIdeal.nD Cert.ReferenceGIdeal.τ).loc Cert.ReferenceGIdeal.main_arg7)
      ∧ r.2.mem ((c.tc : Thread Cert.ReferenceGIdeal.nD Cert.ReferenceGIdeal.τ).loc Cert.ReferenceGIdeal.main_arg8) = m ((c.tc : Thread Cert.ReferenceGIdeal.nD Cert.ReferenceGIdeal.τ).loc Cert.ReferenceGIdeal.main_arg8))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6)
      ∧ r.2.mem ((c.tc : Thread Cert.KernelS.nD Cert.KernelS.τ).loc Cert.KernelS.main_arg7) = m ((c.tc : Thread Cert.KernelS.nD Cert.KernelS.τ).loc Cert.KernelS.main_arg7)
      ∧ r.2.mem ((c.tc : Thread Cert.KernelS.nD Cert.KernelS.τ).loc Cert.KernelS.main_arg8) = m ((c.tc : Thread Cert.KernelS.nD Cert.KernelS.τ).loc Cert.KernelS.main_arg8))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
      ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
      ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6)
      ∧ r.2.mem ((c.tc : Thread Cert.ReferenceSIdeal.nD Cert.ReferenceSIdeal.τ).loc Cert.ReferenceSIdeal.main_arg7) = m ((c.tc : Thread Cert.ReferenceSIdeal.nD Cert.ReferenceSIdeal.τ).loc Cert.ReferenceSIdeal.main_arg7)
      ∧ r.2.mem ((c.tc : Thread Cert.ReferenceSIdeal.nD Cert.ReferenceSIdeal.τ).loc Cert.ReferenceSIdeal.main_arg8) = m ((c.tc : Thread Cert.ReferenceSIdeal.nD Cert.ReferenceSIdeal.τ).loc Cert.ReferenceSIdeal.main_arg8))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0)
      ∧ r.2.mem ((c.tc : Thread Cert.KernelX.nD Cert.KernelX.τ).loc Cert.KernelX.main_arg1) = m ((c.tc : Thread Cert.KernelX.nD Cert.KernelX.τ).loc Cert.KernelX.main_arg1)
      ∧ r.2.mem ((c.tc : Thread Cert.KernelX.nD Cert.KernelX.τ).loc Cert.KernelX.main_arg2) = m ((c.tc : Thread Cert.KernelX.nD Cert.KernelX.τ).loc Cert.KernelX.main_arg2)
      ∧ r.2.mem ((c.tc : Thread Cert.KernelX.nD Cert.KernelX.τ).loc Cert.KernelX.main_arg3) = m ((c.tc : Thread Cert.KernelX.nD Cert.KernelX.τ).loc Cert.KernelX.main_arg3)
      ∧ r.2.mem ((c.tc : Thread Cert.KernelX.nD Cert.KernelX.τ).loc Cert.KernelX.main_arg4) = m ((c.tc : Thread Cert.KernelX.nD Cert.KernelX.τ).loc Cert.KernelX.main_arg4)
      ∧ r.2.mem ((c.tc : Thread Cert.KernelX.nD Cert.KernelX.τ).loc Cert.KernelX.main_arg5) = m ((c.tc : Thread Cert.KernelX.nD Cert.KernelX.τ).loc Cert.KernelX.main_arg5)
      ∧ r.2.mem ((c.tc : Thread Cert.KernelX.nD Cert.KernelX.τ).loc Cert.KernelX.main_arg6) = m ((c.tc : Thread Cert.KernelX.nD Cert.KernelX.τ).loc Cert.KernelX.main_arg6)
      ∧ r.2.mem ((c.tc : Thread Cert.KernelX.nD Cert.KernelX.τ).loc Cert.KernelX.main_arg7) = m ((c.tc : Thread Cert.KernelX.nD Cert.KernelX.τ).loc Cert.KernelX.main_arg7)
      ∧ r.2.mem ((c.tc : Thread Cert.KernelX.nD Cert.KernelX.τ).loc Cert.KernelX.main_arg8) = m ((c.tc : Thread Cert.KernelX.nD Cert.KernelX.τ).loc Cert.KernelX.main_arg8))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
      ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
      ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
      ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
      ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
      ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
      ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
      ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
      ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0)
      ∧ r.2.mem ((c.tc : Thread Cert.ReferenceXIdeal.nD Cert.ReferenceXIdeal.τ).loc Cert.ReferenceXIdeal.main_arg1) = m ((c.tc : Thread Cert.ReferenceXIdeal.nD Cert.ReferenceXIdeal.τ).loc Cert.ReferenceXIdeal.main_arg1)
      ∧ r.2.mem ((c.tc : Thread Cert.ReferenceXIdeal.nD Cert.ReferenceXIdeal.τ).loc Cert.ReferenceXIdeal.main_arg2) = m ((c.tc : Thread Cert.ReferenceXIdeal.nD Cert.ReferenceXIdeal.τ).loc Cert.ReferenceXIdeal.main_arg2)
      ∧ r.2.mem ((c.tc : Thread Cert.ReferenceXIdeal.nD Cert.ReferenceXIdeal.τ).loc Cert.ReferenceXIdeal.main_arg3) = m ((c.tc : Thread Cert.ReferenceXIdeal.nD Cert.ReferenceXIdeal.τ).loc Cert.ReferenceXIdeal.main_arg3)
      ∧ r.2.mem ((c.tc : Thread Cert.ReferenceXIdeal.nD Cert.ReferenceXIdeal.τ).loc Cert.ReferenceXIdeal.main_arg4) = m ((c.tc : Thread Cert.ReferenceXIdeal.nD Cert.ReferenceXIdeal.τ).loc Cert.ReferenceXIdeal.main_arg4)
      ∧ r.2.mem ((c.tc : Thread Cert.ReferenceXIdeal.nD Cert.ReferenceXIdeal.τ).loc Cert.ReferenceXIdeal.main_arg5) = m ((c.tc : Thread Cert.ReferenceXIdeal.nD Cert.ReferenceXIdeal.τ).loc Cert.ReferenceXIdeal.main_arg5)
      ∧ r.2.mem ((c.tc : Thread Cert.ReferenceXIdeal.nD Cert.ReferenceXIdeal.τ).loc Cert.ReferenceXIdeal.main_arg6) = m ((c.tc : Thread Cert.ReferenceXIdeal.nD Cert.ReferenceXIdeal.τ).loc Cert.ReferenceXIdeal.main_arg6)
      ∧ r.2.mem ((c.tc : Thread Cert.ReferenceXIdeal.nD Cert.ReferenceXIdeal.τ).loc Cert.ReferenceXIdeal.main_arg7) = m ((c.tc : Thread Cert.ReferenceXIdeal.nD Cert.ReferenceXIdeal.τ).loc Cert.ReferenceXIdeal.main_arg7)
      ∧ r.2.mem ((c.tc : Thread Cert.ReferenceXIdeal.nD Cert.ReferenceXIdeal.τ).loc Cert.ReferenceXIdeal.main_arg8) = m ((c.tc : Thread Cert.ReferenceXIdeal.nD Cert.ReferenceXIdeal.τ).loc Cert.ReferenceXIdeal.main_arg8))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4))
      ∧ r.2.sem = fun _ => 0)

def quiescent_KernelL [hKernelL : Cert.KernelL.Facts] : Prop :=
  ∀ (m : (ℓ : Loc Cert.KernelL.nD Cert.KernelL.τ Cert.KernelL.sig) → Buf (Elt Bits) ℓ) (g : Dev Cert.KernelL.nD → PrngReg), Pre_KernelL m →
    θ_run (Cert.KernelL.defs (F := Bits)) (onTc (τ := Cert.KernelL.τ) (Cert.KernelL.main (F := Bits))) ⟨m, fun _ => 0, g⟩ (fun r => (∀ c : Dev Cert.KernelL.nD,
      r.2.mem ((c.tc : Thread Cert.KernelL.nD Cert.KernelL.τ).loc Cert.KernelL.main_arg0) = m ((c.tc : Thread Cert.KernelL.nD Cert.KernelL.τ).loc Cert.KernelL.main_arg0)
      ∧ r.2.mem ((c.tc : Thread Cert.KernelL.nD Cert.KernelL.τ).loc Cert.KernelL.main_arg1) = m ((c.tc : Thread Cert.KernelL.nD Cert.KernelL.τ).loc Cert.KernelL.main_arg1)
      ∧ r.2.mem ((c.tc : Thread Cert.KernelL.nD Cert.KernelL.τ).loc Cert.KernelL.main_arg2) = m ((c.tc : Thread Cert.KernelL.nD Cert.KernelL.τ).loc Cert.KernelL.main_arg2)
      ∧ r.2.mem ((c.tc : Thread Cert.KernelL.nD Cert.KernelL.τ).loc Cert.KernelL.main_arg3) = m ((c.tc : Thread Cert.KernelL.nD Cert.KernelL.τ).loc Cert.KernelL.main_arg3)
      ∧ r.2.mem ((c.tc : Thread Cert.KernelL.nD Cert.KernelL.τ).loc Cert.KernelL.main_arg4) = m ((c.tc : Thread Cert.KernelL.nD Cert.KernelL.τ).loc Cert.KernelL.main_arg4)
      ∧ r.2.mem ((c.tc : Thread Cert.KernelL.nD Cert.KernelL.τ).loc Cert.KernelL.main_arg5) = m ((c.tc : Thread Cert.KernelL.nD Cert.KernelL.τ).loc Cert.KernelL.main_arg5)
      ∧ r.2.mem ((c.tc : Thread Cert.KernelL.nD Cert.KernelL.τ).loc Cert.KernelL.main_arg6) = m ((c.tc : Thread Cert.KernelL.nD Cert.KernelL.τ).loc Cert.KernelL.main_arg6))
      ∧ r.2.sem = fun _ => 0)

def quiescent_KernelLIdeal [hKernelLIdeal : Cert.KernelLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg), Pre_KernelLIdeal m →
    θ_run (Cert.KernelLIdeal.defs (F := Ideal)) (onTc (τ := Cert.KernelLIdeal.τ) (Cert.KernelLIdeal.main (F := Ideal))) ⟨m, fun _ => 0, g⟩ (fun r => (∀ c : Dev Cert.KernelLIdeal.nD,
      r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
      ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
      ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
      ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
      ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
      ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5)
      ∧ r.2.mem ((c.tc : Thread Cert.KernelLIdeal.nD Cert.KernelLIdeal.τ).loc Cert.KernelLIdeal.main_arg6) = m ((c.tc : Thread Cert.KernelLIdeal.nD Cert.KernelLIdeal.τ).loc Cert.KernelLIdeal.main_arg6))
      ∧ r.2.sem = fun _ => 0)

def quiescent_ReferenceLIdeal [hReferenceLIdeal : Cert.ReferenceLIdeal.Facts] : Prop :=
  ∀ (m : (ℓ : Loc Cert.ReferenceLIdeal.nD Cert.ReferenceLIdeal.τ Cert.ReferenceLIdeal.sig) → Buf (Elt Ideal) ℓ) (g : Dev Cert.ReferenceLIdeal.nD → PrngReg), Pre_ReferenceLIdeal m →
    θ_run (Cert.ReferenceLIdeal.defs (F := Ideal)) (onTc (τ := Cert.ReferenceLIdeal.τ) (Cert.ReferenceLIdeal.main (F := Ideal))) ⟨m, fun _ => 0, g⟩ (fun r => (∀ c : Dev Cert.ReferenceLIdeal.nD,
      r.2.mem ((c.tc : Thread Cert.ReferenceLIdeal.nD Cert.ReferenceLIdeal.τ).loc Cert.ReferenceLIdeal.main_arg0) = m ((c.tc : Thread Cert.ReferenceLIdeal.nD Cert.ReferenceLIdeal.τ).loc Cert.ReferenceLIdeal.main_arg0)
      ∧ r.2.mem ((c.tc : Thread Cert.ReferenceLIdeal.nD Cert.ReferenceLIdeal.τ).loc Cert.ReferenceLIdeal.main_arg1) = m ((c.tc : Thread Cert.ReferenceLIdeal.nD Cert.ReferenceLIdeal.τ).loc Cert.ReferenceLIdeal.main_arg1)
      ∧ r.2.mem ((c.tc : Thread Cert.ReferenceLIdeal.nD Cert.ReferenceLIdeal.τ).loc Cert.ReferenceLIdeal.main_arg2) = m ((c.tc : Thread Cert.ReferenceLIdeal.nD Cert.ReferenceLIdeal.τ).loc Cert.ReferenceLIdeal.main_arg2)
      ∧ r.2.mem ((c.tc : Thread Cert.ReferenceLIdeal.nD Cert.ReferenceLIdeal.τ).loc Cert.ReferenceLIdeal.main_arg3) = m ((c.tc : Thread Cert.ReferenceLIdeal.nD Cert.ReferenceLIdeal.τ).loc Cert.ReferenceLIdeal.main_arg3)
      ∧ r.2.mem ((c.tc : Thread Cert.ReferenceLIdeal.nD Cert.ReferenceLIdeal.τ).loc Cert.ReferenceLIdeal.main_arg4) = m ((c.tc : Thread Cert.ReferenceLIdeal.nD Cert.ReferenceLIdeal.τ).loc Cert.ReferenceLIdeal.main_arg4)
      ∧ r.2.mem ((c.tc : Thread Cert.ReferenceLIdeal.nD Cert.ReferenceLIdeal.τ).loc Cert.ReferenceLIdeal.main_arg5) = m ((c.tc : Thread Cert.ReferenceLIdeal.nD Cert.ReferenceLIdeal.τ).loc Cert.ReferenceLIdeal.main_arg5)
      ∧ r.2.mem ((c.tc : Thread Cert.ReferenceLIdeal.nD Cert.ReferenceLIdeal.τ).loc Cert.ReferenceLIdeal.main_arg6) = m ((c.tc : Thread Cert.ReferenceLIdeal.nD Cert.ReferenceLIdeal.τ).loc Cert.ReferenceLIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelW_KernelWIdeal : Prop :=
  True

def algebraic_KernelWIdeal_ReferenceWIdeal [hKernelWIdeal : Cert.KernelWIdeal.Facts] [hReferenceWIdeal : Cert.ReferenceWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.ReferenceWIdeal.nD Cert.ReferenceWIdeal.τ Cert.ReferenceWIdeal.sig) → Buf (Elt Ideal) ℓ) (g' : Dev Cert.ReferenceWIdeal.nD → PrngReg), Pre_KernelWIdeal m →
    (∀ c : Dev Cert.KernelWIdeal.nD,
      m' ((c.tc : Thread Cert.ReferenceWIdeal.nD Cert.ReferenceWIdeal.τ).loc Cert.ReferenceWIdeal.main_arg0) = m ((c.tc : Thread Cert.KernelWIdeal.nD Cert.KernelWIdeal.τ).loc Cert.KernelWIdeal.main_arg0)
      ∧ m' ((c.tc : Thread Cert.ReferenceWIdeal.nD Cert.ReferenceWIdeal.τ).loc Cert.ReferenceWIdeal.main_arg1) = m ((c.tc : Thread Cert.KernelWIdeal.nD Cert.KernelWIdeal.τ).loc Cert.KernelWIdeal.main_arg1)
      ∧ m' ((c.tc : Thread Cert.ReferenceWIdeal.nD Cert.ReferenceWIdeal.τ).loc Cert.ReferenceWIdeal.main_arg2) = m ((c.tc : Thread Cert.KernelWIdeal.nD Cert.KernelWIdeal.τ).loc Cert.KernelWIdeal.main_arg2)
      ∧ m' ((c.tc : Thread Cert.ReferenceWIdeal.nD Cert.ReferenceWIdeal.τ).loc Cert.ReferenceWIdeal.main_arg3) = m ((c.tc : Thread Cert.KernelWIdeal.nD Cert.KernelWIdeal.τ).loc Cert.KernelWIdeal.main_arg3)
      ∧ m' ((c.tc : Thread Cert.ReferenceWIdeal.nD Cert.ReferenceWIdeal.τ).loc Cert.ReferenceWIdeal.main_arg4) = m ((c.tc : Thread Cert.KernelWIdeal.nD Cert.KernelWIdeal.τ).loc Cert.KernelWIdeal.main_arg4)
      ∧ m' ((c.tc : Thread Cert.ReferenceWIdeal.nD Cert.ReferenceWIdeal.τ).loc Cert.ReferenceWIdeal.main_arg5) = m ((c.tc : Thread Cert.KernelWIdeal.nD Cert.KernelWIdeal.τ).loc Cert.KernelWIdeal.main_arg5)
      ∧ m' ((c.tc : Thread Cert.ReferenceWIdeal.nD Cert.ReferenceWIdeal.τ).loc Cert.ReferenceWIdeal.main_arg6) = m ((c.tc : Thread Cert.KernelWIdeal.nD Cert.KernelWIdeal.τ).loc Cert.KernelWIdeal.main_arg6)
      ∧ m' ((c.tc : Thread Cert.ReferenceWIdeal.nD Cert.ReferenceWIdeal.τ).loc Cert.ReferenceWIdeal.main_arg7) = m ((c.tc : Thread Cert.KernelWIdeal.nD Cert.KernelWIdeal.τ).loc Cert.KernelWIdeal.main_arg7)
      ∧ m' ((c.tc : Thread Cert.ReferenceWIdeal.nD Cert.ReferenceWIdeal.τ).loc Cert.ReferenceWIdeal.main_arg8) = m ((c.tc : Thread Cert.KernelWIdeal.nD Cert.KernelWIdeal.τ).loc Cert.KernelWIdeal.main_arg8)) →
    ∃ (v0 : (c : Dev Cert.KernelWIdeal.nD) → Buf (Elt Ideal) ((c.tc : Thread Cert.KernelWIdeal.nD Cert.KernelWIdeal.τ).loc Cert.KernelWIdeal.main_v14)) (v1 : (c : Dev Cert.KernelWIdeal.nD) → Buf (Elt Ideal) ((c.tc : Thread Cert.KernelWIdeal.nD Cert.KernelWIdeal.τ).loc Cert.KernelWIdeal.main_v15)) (v2 : (c : Dev Cert.KernelWIdeal.nD) → Buf (Elt Ideal) ((c.tc : Thread Cert.KernelWIdeal.nD Cert.KernelWIdeal.τ).loc Cert.KernelWIdeal.main_v16)) (v3 : (c : Dev Cert.KernelWIdeal.nD) → Buf (Elt Ideal) ((c.tc : Thread Cert.KernelWIdeal.nD Cert.KernelWIdeal.τ).loc Cert.KernelWIdeal.main_v17)) (v4 : (c : Dev Cert.KernelWIdeal.nD) → Buf (Elt Ideal) ((c.tc : Thread Cert.KernelWIdeal.nD Cert.KernelWIdeal.τ).loc Cert.KernelWIdeal.main_v18)) (v5 : (c : Dev Cert.KernelWIdeal.nD) → Buf (Elt Ideal) ((c.tc : Thread Cert.KernelWIdeal.nD Cert.KernelWIdeal.τ).loc Cert.KernelWIdeal.main_v19)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v14) = v0 c
          ∧ r.2.mem ((c.tc : Thread Cert.KernelWIdeal.nD Cert.KernelWIdeal.τ).loc Cert.KernelWIdeal.main_v15) = v1 c
          ∧ r.2.mem ((c.tc : Thread Cert.KernelWIdeal.nD Cert.KernelWIdeal.τ).loc Cert.KernelWIdeal.main_v16) = v2 c
          ∧ r.2.mem ((c.tc : Thread Cert.KernelWIdeal.nD Cert.KernelWIdeal.τ).loc Cert.KernelWIdeal.main_v17) = v3 c
          ∧ r.2.mem ((c.tc : Thread Cert.KernelWIdeal.nD Cert.KernelWIdeal.τ).loc Cert.KernelWIdeal.main_v18) = v4 c
          ∧ r.2.mem ((c.tc : Thread Cert.KernelWIdeal.nD Cert.KernelWIdeal.τ).loc Cert.KernelWIdeal.main_v19) = v5 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1)
          ∧ r.2.mem ((c.tc : Thread Cert.KernelWIdeal.nD Cert.KernelWIdeal.τ).loc Cert.KernelWIdeal.main_arg2) = m ((c.tc : Thread Cert.KernelWIdeal.nD Cert.KernelWIdeal.τ).loc Cert.KernelWIdeal.main_arg2)
          ∧ r.2.mem ((c.tc : Thread Cert.KernelWIdeal.nD Cert.KernelWIdeal.τ).loc Cert.KernelWIdeal.main_arg3) = m ((c.tc : Thread Cert.KernelWIdeal.nD Cert.KernelWIdeal.τ).loc Cert.KernelWIdeal.main_arg3)
          ∧ r.2.mem ((c.tc : Thread Cert.KernelWIdeal.nD Cert.KernelWIdeal.τ).loc Cert.KernelWIdeal.main_arg4) = m ((c.tc : Thread Cert.KernelWIdeal.nD Cert.KernelWIdeal.τ).loc Cert.KernelWIdeal.main_arg4)
          ∧ r.2.mem ((c.tc : Thread Cert.KernelWIdeal.nD Cert.KernelWIdeal.τ).loc Cert.KernelWIdeal.main_arg5) = m ((c.tc : Thread Cert.KernelWIdeal.nD Cert.KernelWIdeal.τ).loc Cert.KernelWIdeal.main_arg5)
          ∧ r.2.mem ((c.tc : Thread Cert.KernelWIdeal.nD Cert.KernelWIdeal.τ).loc Cert.KernelWIdeal.main_arg6) = m ((c.tc : Thread Cert.KernelWIdeal.nD Cert.KernelWIdeal.τ).loc Cert.KernelWIdeal.main_arg6)
          ∧ r.2.mem ((c.tc : Thread Cert.KernelWIdeal.nD Cert.KernelWIdeal.τ).loc Cert.KernelWIdeal.main_arg7) = m ((c.tc : Thread Cert.KernelWIdeal.nD Cert.KernelWIdeal.τ).loc Cert.KernelWIdeal.main_arg7)
          ∧ r.2.mem ((c.tc : Thread Cert.KernelWIdeal.nD Cert.KernelWIdeal.τ).loc Cert.KernelWIdeal.main_arg8) = m ((c.tc : Thread Cert.KernelWIdeal.nD Cert.KernelWIdeal.τ).loc Cert.KernelWIdeal.main_arg8))
      ∧ θ_run (Cert.ReferenceWIdeal.defs (F := Ideal)) (onTc (τ := Cert.ReferenceWIdeal.τ) (Cert.ReferenceWIdeal.main (F := Ideal))) ⟨m', fun _ => 0, g'⟩ (fun r => ∀ c : Dev Cert.ReferenceWIdeal.nD,
          r.2.mem ((c.tc : Thread Cert.ReferenceWIdeal.nD Cert.ReferenceWIdeal.τ).loc Cert.ReferenceWIdeal.main_v26) = v0 c
          ∧ r.2.mem ((c.tc : Thread Cert.ReferenceWIdeal.nD Cert.ReferenceWIdeal.τ).loc Cert.ReferenceWIdeal.main_v27) = v1 c
          ∧ r.2.mem ((c.tc : Thread Cert.ReferenceWIdeal.nD Cert.ReferenceWIdeal.τ).loc Cert.ReferenceWIdeal.main_v28) = v2 c
          ∧ r.2.mem ((c.tc : Thread Cert.ReferenceWIdeal.nD Cert.ReferenceWIdeal.τ).loc Cert.ReferenceWIdeal.main_v29) = v3 c
          ∧ r.2.mem ((c.tc : Thread Cert.ReferenceWIdeal.nD Cert.ReferenceWIdeal.τ).loc Cert.ReferenceWIdeal.main_v31) = v4 c
          ∧ r.2.mem ((c.tc : Thread Cert.ReferenceWIdeal.nD Cert.ReferenceWIdeal.τ).loc Cert.ReferenceWIdeal.main_v23) = v5 c
          ∧ r.2.mem ((c.tc : Thread Cert.ReferenceWIdeal.nD Cert.ReferenceWIdeal.τ).loc Cert.ReferenceWIdeal.main_arg0) = m' ((c.tc : Thread Cert.ReferenceWIdeal.nD Cert.ReferenceWIdeal.τ).loc Cert.ReferenceWIdeal.main_arg0)
          ∧ r.2.mem ((c.tc : Thread Cert.ReferenceWIdeal.nD Cert.ReferenceWIdeal.τ).loc Cert.ReferenceWIdeal.main_arg1) = m' ((c.tc : Thread Cert.ReferenceWIdeal.nD Cert.ReferenceWIdeal.τ).loc Cert.ReferenceWIdeal.main_arg1)
          ∧ r.2.mem ((c.tc : Thread Cert.ReferenceWIdeal.nD Cert.ReferenceWIdeal.τ).loc Cert.ReferenceWIdeal.main_arg2) = m' ((c.tc : Thread Cert.ReferenceWIdeal.nD Cert.ReferenceWIdeal.τ).loc Cert.ReferenceWIdeal.main_arg2)
          ∧ r.2.mem ((c.tc : Thread Cert.ReferenceWIdeal.nD Cert.ReferenceWIdeal.τ).loc Cert.ReferenceWIdeal.main_arg3) = m' ((c.tc : Thread Cert.ReferenceWIdeal.nD Cert.ReferenceWIdeal.τ).loc Cert.ReferenceWIdeal.main_arg3)
          ∧ r.2.mem ((c.tc : Thread Cert.ReferenceWIdeal.nD Cert.ReferenceWIdeal.τ).loc Cert.ReferenceWIdeal.main_arg4) = m' ((c.tc : Thread Cert.ReferenceWIdeal.nD Cert.ReferenceWIdeal.τ).loc Cert.ReferenceWIdeal.main_arg4)
          ∧ r.2.mem ((c.tc : Thread Cert.ReferenceWIdeal.nD Cert.ReferenceWIdeal.τ).loc Cert.ReferenceWIdeal.main_arg5) = m' ((c.tc : Thread Cert.ReferenceWIdeal.nD Cert.ReferenceWIdeal.τ).loc Cert.ReferenceWIdeal.main_arg5)
          ∧ r.2.mem ((c.tc : Thread Cert.ReferenceWIdeal.nD Cert.ReferenceWIdeal.τ).loc Cert.ReferenceWIdeal.main_arg6) = m' ((c.tc : Thread Cert.ReferenceWIdeal.nD Cert.ReferenceWIdeal.τ).loc Cert.ReferenceWIdeal.main_arg6)
          ∧ r.2.mem ((c.tc : Thread Cert.ReferenceWIdeal.nD Cert.ReferenceWIdeal.τ).loc Cert.ReferenceWIdeal.main_arg7) = m' ((c.tc : Thread Cert.ReferenceWIdeal.nD Cert.ReferenceWIdeal.τ).loc Cert.ReferenceWIdeal.main_arg7)
          ∧ r.2.mem ((c.tc : Thread Cert.ReferenceWIdeal.nD Cert.ReferenceWIdeal.τ).loc Cert.ReferenceWIdeal.main_arg8) = m' ((c.tc : Thread Cert.ReferenceWIdeal.nD Cert.ReferenceWIdeal.τ).loc Cert.ReferenceWIdeal.main_arg8))

def preserves_KernelG_KernelGIdeal : Prop :=
  True

def algebraic_KernelGIdeal_ReferenceGIdeal [hKernelGIdeal : Cert.KernelGIdeal.Facts] [hReferenceGIdeal : Cert.ReferenceGIdeal.Facts] : Prop :=
  ∀ (m : (ℓ : Loc Cert.KernelGIdeal.nD Cert.KernelGIdeal.τ Cert.KernelGIdeal.sig) → Buf (Elt Ideal) ℓ) (g : Dev Cert.KernelGIdeal.nD → PrngReg)
    (m' : (ℓ : Loc Cert.ReferenceGIdeal.nD Cert.ReferenceGIdeal.τ Cert.ReferenceGIdeal.sig) → Buf (Elt Ideal) ℓ) (g' : Dev Cert.ReferenceGIdeal.nD → PrngReg), Pre_KernelGIdeal m →
    (∀ c : Dev Cert.KernelGIdeal.nD,
      m' ((c.tc : Thread Cert.ReferenceGIdeal.nD Cert.ReferenceGIdeal.τ).loc Cert.ReferenceGIdeal.main_arg0) = m ((c.tc : Thread Cert.KernelGIdeal.nD Cert.KernelGIdeal.τ).loc Cert.KernelGIdeal.main_arg0)
      ∧ m' ((c.tc : Thread Cert.ReferenceGIdeal.nD Cert.ReferenceGIdeal.τ).loc Cert.ReferenceGIdeal.main_arg1) = m ((c.tc : Thread Cert.KernelGIdeal.nD Cert.KernelGIdeal.τ).loc Cert.KernelGIdeal.main_arg1)
      ∧ m' ((c.tc : Thread Cert.ReferenceGIdeal.nD Cert.ReferenceGIdeal.τ).loc Cert.ReferenceGIdeal.main_arg2) = m ((c.tc : Thread Cert.KernelGIdeal.nD Cert.KernelGIdeal.τ).loc Cert.KernelGIdeal.main_arg2)
      ∧ m' ((c.tc : Thread Cert.ReferenceGIdeal.nD Cert.ReferenceGIdeal.τ).loc Cert.ReferenceGIdeal.main_arg3) = m ((c.tc : Thread Cert.KernelGIdeal.nD Cert.KernelGIdeal.τ).loc Cert.KernelGIdeal.main_arg3)
      ∧ m' ((c.tc : Thread Cert.ReferenceGIdeal.nD Cert.ReferenceGIdeal.τ).loc Cert.ReferenceGIdeal.main_arg4) = m ((c.tc : Thread Cert.KernelGIdeal.nD Cert.KernelGIdeal.τ).loc Cert.KernelGIdeal.main_arg4)
      ∧ m' ((c.tc : Thread Cert.ReferenceGIdeal.nD Cert.ReferenceGIdeal.τ).loc Cert.ReferenceGIdeal.main_arg5) = m ((c.tc : Thread Cert.KernelGIdeal.nD Cert.KernelGIdeal.τ).loc Cert.KernelGIdeal.main_arg5)
      ∧ m' ((c.tc : Thread Cert.ReferenceGIdeal.nD Cert.ReferenceGIdeal.τ).loc Cert.ReferenceGIdeal.main_arg6) = m ((c.tc : Thread Cert.KernelGIdeal.nD Cert.KernelGIdeal.τ).loc Cert.KernelGIdeal.main_arg6)
      ∧ m' ((c.tc : Thread Cert.ReferenceGIdeal.nD Cert.ReferenceGIdeal.τ).loc Cert.ReferenceGIdeal.main_arg7) = m ((c.tc : Thread Cert.KernelGIdeal.nD Cert.KernelGIdeal.τ).loc Cert.KernelGIdeal.main_arg7)
      ∧ m' ((c.tc : Thread Cert.ReferenceGIdeal.nD Cert.ReferenceGIdeal.τ).loc Cert.ReferenceGIdeal.main_arg8) = m ((c.tc : Thread Cert.KernelGIdeal.nD Cert.KernelGIdeal.τ).loc Cert.KernelGIdeal.main_arg8)) →
    ∃ (v0 : (c : Dev Cert.KernelGIdeal.nD) → Buf (Elt Ideal) ((c.tc : Thread Cert.KernelGIdeal.nD Cert.KernelGIdeal.τ).loc Cert.KernelGIdeal.main_v14)) (v1 : (c : Dev Cert.KernelGIdeal.nD) → Buf (Elt Ideal) ((c.tc : Thread Cert.KernelGIdeal.nD Cert.KernelGIdeal.τ).loc Cert.KernelGIdeal.main_v15)) (v2 : (c : Dev Cert.KernelGIdeal.nD) → Buf (Elt Ideal) ((c.tc : Thread Cert.KernelGIdeal.nD Cert.KernelGIdeal.τ).loc Cert.KernelGIdeal.main_v16)) (v3 : (c : Dev Cert.KernelGIdeal.nD) → Buf (Elt Ideal) ((c.tc : Thread Cert.KernelGIdeal.nD Cert.KernelGIdeal.τ).loc Cert.KernelGIdeal.main_v17)) (v4 : (c : Dev Cert.KernelGIdeal.nD) → Buf (Elt Ideal) ((c.tc : Thread Cert.KernelGIdeal.nD Cert.KernelGIdeal.τ).loc Cert.KernelGIdeal.main_v18)) (v5 : (c : Dev Cert.KernelGIdeal.nD) → Buf (Elt Ideal) ((c.tc : Thread Cert.KernelGIdeal.nD Cert.KernelGIdeal.τ).loc Cert.KernelGIdeal.main_v19)),
      θ_run (Cert.KernelGIdeal.defs (F := Ideal)) (onTc (τ := Cert.KernelGIdeal.τ) (Cert.KernelGIdeal.main (F := Ideal))) ⟨m, fun _ => 0, g⟩ (fun r => ∀ c : Dev Cert.KernelGIdeal.nD,
          r.2.mem ((c.tc : Thread Cert.KernelGIdeal.nD Cert.KernelGIdeal.τ).loc Cert.KernelGIdeal.main_v14) = v0 c
          ∧ r.2.mem ((c.tc : Thread Cert.KernelGIdeal.nD Cert.KernelGIdeal.τ).loc Cert.KernelGIdeal.main_v15) = v1 c
          ∧ r.2.mem ((c.tc : Thread Cert.KernelGIdeal.nD Cert.KernelGIdeal.τ).loc Cert.KernelGIdeal.main_v16) = v2 c
          ∧ r.2.mem ((c.tc : Thread Cert.KernelGIdeal.nD Cert.KernelGIdeal.τ).loc Cert.KernelGIdeal.main_v17) = v3 c
          ∧ r.2.mem ((c.tc : Thread Cert.KernelGIdeal.nD Cert.KernelGIdeal.τ).loc Cert.KernelGIdeal.main_v18) = v4 c
          ∧ r.2.mem ((c.tc : Thread Cert.KernelGIdeal.nD Cert.KernelGIdeal.τ).loc Cert.KernelGIdeal.main_v19) = v5 c
          ∧ r.2.mem ((c.tc : Thread Cert.KernelGIdeal.nD Cert.KernelGIdeal.τ).loc Cert.KernelGIdeal.main_arg0) = m ((c.tc : Thread Cert.KernelGIdeal.nD Cert.KernelGIdeal.τ).loc Cert.KernelGIdeal.main_arg0)
          ∧ r.2.mem ((c.tc : Thread Cert.KernelGIdeal.nD Cert.KernelGIdeal.τ).loc Cert.KernelGIdeal.main_arg1) = m ((c.tc : Thread Cert.KernelGIdeal.nD Cert.KernelGIdeal.τ).loc Cert.KernelGIdeal.main_arg1)
          ∧ r.2.mem ((c.tc : Thread Cert.KernelGIdeal.nD Cert.KernelGIdeal.τ).loc Cert.KernelGIdeal.main_arg2) = m ((c.tc : Thread Cert.KernelGIdeal.nD Cert.KernelGIdeal.τ).loc Cert.KernelGIdeal.main_arg2)
          ∧ r.2.mem ((c.tc : Thread Cert.KernelGIdeal.nD Cert.KernelGIdeal.τ).loc Cert.KernelGIdeal.main_arg3) = m ((c.tc : Thread Cert.KernelGIdeal.nD Cert.KernelGIdeal.τ).loc Cert.KernelGIdeal.main_arg3)
          ∧ r.2.mem ((c.tc : Thread Cert.KernelGIdeal.nD Cert.KernelGIdeal.τ).loc Cert.KernelGIdeal.main_arg4) = m ((c.tc : Thread Cert.KernelGIdeal.nD Cert.KernelGIdeal.τ).loc Cert.KernelGIdeal.main_arg4)
          ∧ r.2.mem ((c.tc : Thread Cert.KernelGIdeal.nD Cert.KernelGIdeal.τ).loc Cert.KernelGIdeal.main_arg5) = m ((c.tc : Thread Cert.KernelGIdeal.nD Cert.KernelGIdeal.τ).loc Cert.KernelGIdeal.main_arg5)
          ∧ r.2.mem ((c.tc : Thread Cert.KernelGIdeal.nD Cert.KernelGIdeal.τ).loc Cert.KernelGIdeal.main_arg6) = m ((c.tc : Thread Cert.KernelGIdeal.nD Cert.KernelGIdeal.τ).loc Cert.KernelGIdeal.main_arg6)
          ∧ r.2.mem ((c.tc : Thread Cert.KernelGIdeal.nD Cert.KernelGIdeal.τ).loc Cert.KernelGIdeal.main_arg7) = m ((c.tc : Thread Cert.KernelGIdeal.nD Cert.KernelGIdeal.τ).loc Cert.KernelGIdeal.main_arg7)
          ∧ r.2.mem ((c.tc : Thread Cert.KernelGIdeal.nD Cert.KernelGIdeal.τ).loc Cert.KernelGIdeal.main_arg8) = m ((c.tc : Thread Cert.KernelGIdeal.nD Cert.KernelGIdeal.τ).loc Cert.KernelGIdeal.main_arg8))
      ∧ θ_run (Cert.ReferenceGIdeal.defs (F := Ideal)) (onTc (τ := Cert.ReferenceGIdeal.τ) (Cert.ReferenceGIdeal.main (F := Ideal))) ⟨m', fun _ => 0, g'⟩ (fun r => ∀ c : Dev Cert.ReferenceGIdeal.nD,
          r.2.mem ((c.tc : Thread Cert.ReferenceGIdeal.nD Cert.ReferenceGIdeal.τ).loc Cert.ReferenceGIdeal.main_v26) = v0 c
          ∧ r.2.mem ((c.tc : Thread Cert.ReferenceGIdeal.nD Cert.ReferenceGIdeal.τ).loc Cert.ReferenceGIdeal.main_v27) = v1 c
          ∧ r.2.mem ((c.tc : Thread Cert.ReferenceGIdeal.nD Cert.ReferenceGIdeal.τ).loc Cert.ReferenceGIdeal.main_v28) = v2 c
          ∧ r.2.mem ((c.tc : Thread Cert.ReferenceGIdeal.nD Cert.ReferenceGIdeal.τ).loc Cert.ReferenceGIdeal.main_v29) = v3 c
          ∧ r.2.mem ((c.tc : Thread Cert.ReferenceGIdeal.nD Cert.ReferenceGIdeal.τ).loc Cert.ReferenceGIdeal.main_v31) = v4 c
          ∧ r.2.mem ((c.tc : Thread Cert.ReferenceGIdeal.nD Cert.ReferenceGIdeal.τ).loc Cert.ReferenceGIdeal.main_v23) = v5 c
          ∧ r.2.mem ((c.tc : Thread Cert.ReferenceGIdeal.nD Cert.ReferenceGIdeal.τ).loc Cert.ReferenceGIdeal.main_arg0) = m' ((c.tc : Thread Cert.ReferenceGIdeal.nD Cert.ReferenceGIdeal.τ).loc Cert.ReferenceGIdeal.main_arg0)
          ∧ r.2.mem ((c.tc : Thread Cert.ReferenceGIdeal.nD Cert.ReferenceGIdeal.τ).loc Cert.ReferenceGIdeal.main_arg1) = m' ((c.tc : Thread Cert.ReferenceGIdeal.nD Cert.ReferenceGIdeal.τ).loc Cert.ReferenceGIdeal.main_arg1)
          ∧ r.2.mem ((c.tc : Thread Cert.ReferenceGIdeal.nD Cert.ReferenceGIdeal.τ).loc Cert.ReferenceGIdeal.main_arg2) = m' ((c.tc : Thread Cert.ReferenceGIdeal.nD Cert.ReferenceGIdeal.τ).loc Cert.ReferenceGIdeal.main_arg2)
          ∧ r.2.mem ((c.tc : Thread Cert.ReferenceGIdeal.nD Cert.ReferenceGIdeal.τ).loc Cert.ReferenceGIdeal.main_arg3) = m' ((c.tc : Thread Cert.ReferenceGIdeal.nD Cert.ReferenceGIdeal.τ).loc Cert.ReferenceGIdeal.main_arg3)
          ∧ r.2.mem ((c.tc : Thread Cert.ReferenceGIdeal.nD Cert.ReferenceGIdeal.τ).loc Cert.ReferenceGIdeal.main_arg4) = m' ((c.tc : Thread Cert.ReferenceGIdeal.nD Cert.ReferenceGIdeal.τ).loc Cert.ReferenceGIdeal.main_arg4)
          ∧ r.2.mem ((c.tc : Thread Cert.ReferenceGIdeal.nD Cert.ReferenceGIdeal.τ).loc Cert.ReferenceGIdeal.main_arg5) = m' ((c.tc : Thread Cert.ReferenceGIdeal.nD Cert.ReferenceGIdeal.τ).loc Cert.ReferenceGIdeal.main_arg5)
          ∧ r.2.mem ((c.tc : Thread Cert.ReferenceGIdeal.nD Cert.ReferenceGIdeal.τ).loc Cert.ReferenceGIdeal.main_arg6) = m' ((c.tc : Thread Cert.ReferenceGIdeal.nD Cert.ReferenceGIdeal.τ).loc Cert.ReferenceGIdeal.main_arg6)
          ∧ r.2.mem ((c.tc : Thread Cert.ReferenceGIdeal.nD Cert.ReferenceGIdeal.τ).loc Cert.ReferenceGIdeal.main_arg7) = m' ((c.tc : Thread Cert.ReferenceGIdeal.nD Cert.ReferenceGIdeal.τ).loc Cert.ReferenceGIdeal.main_arg7)
          ∧ r.2.mem ((c.tc : Thread Cert.ReferenceGIdeal.nD Cert.ReferenceGIdeal.τ).loc Cert.ReferenceGIdeal.main_arg8) = m' ((c.tc : Thread Cert.ReferenceGIdeal.nD Cert.ReferenceGIdeal.τ).loc Cert.ReferenceGIdeal.main_arg8))

def preserves_KernelS_KernelSIdeal : Prop :=
  True

def algebraic_KernelSIdeal_ReferenceSIdeal [hKernelSIdeal : Cert.KernelSIdeal.Facts] [hReferenceSIdeal : Cert.ReferenceSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)
      ∧ m' ((c.tc : Thread Cert.ReferenceSIdeal.nD Cert.ReferenceSIdeal.τ).loc Cert.ReferenceSIdeal.main_arg7) = m ((c.tc : Thread Cert.KernelSIdeal.nD Cert.KernelSIdeal.τ).loc Cert.KernelSIdeal.main_arg7)
      ∧ m' ((c.tc : Thread Cert.ReferenceSIdeal.nD Cert.ReferenceSIdeal.τ).loc Cert.ReferenceSIdeal.main_arg8) = m ((c.tc : Thread Cert.KernelSIdeal.nD Cert.KernelSIdeal.τ).loc Cert.KernelSIdeal.main_arg8)) →
    ∃ (v0 : (c : Dev Cert.KernelSIdeal.nD) → Buf (Elt Ideal) ((c.tc : Thread Cert.KernelSIdeal.nD Cert.KernelSIdeal.τ).loc Cert.KernelSIdeal.main_v7_0)) (v1 : (c : Dev Cert.KernelSIdeal.nD) → Buf (Elt Ideal) ((c.tc : Thread Cert.KernelSIdeal.nD Cert.KernelSIdeal.τ).loc Cert.KernelSIdeal.main_v7_1)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v7_0) = v0 c
          ∧ r.2.mem ((c.tc : Thread Cert.KernelSIdeal.nD Cert.KernelSIdeal.τ).loc Cert.KernelSIdeal.main_v7_1) = v1 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6)
          ∧ r.2.mem ((c.tc : Thread Cert.KernelSIdeal.nD Cert.KernelSIdeal.τ).loc Cert.KernelSIdeal.main_arg7) = m ((c.tc : Thread Cert.KernelSIdeal.nD Cert.KernelSIdeal.τ).loc Cert.KernelSIdeal.main_arg7)
          ∧ r.2.mem ((c.tc : Thread Cert.KernelSIdeal.nD Cert.KernelSIdeal.τ).loc Cert.KernelSIdeal.main_arg8) = m ((c.tc : Thread Cert.KernelSIdeal.nD Cert.KernelSIdeal.τ).loc Cert.KernelSIdeal.main_arg8))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v42) = v0 c
          ∧ r.2.mem ((c.tc : Thread Cert.ReferenceSIdeal.nD Cert.ReferenceSIdeal.τ).loc Cert.ReferenceSIdeal.main_v25) = v1 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6)
          ∧ r.2.mem ((c.tc : Thread Cert.ReferenceSIdeal.nD Cert.ReferenceSIdeal.τ).loc Cert.ReferenceSIdeal.main_arg7) = m' ((c.tc : Thread Cert.ReferenceSIdeal.nD Cert.ReferenceSIdeal.τ).loc Cert.ReferenceSIdeal.main_arg7)
          ∧ r.2.mem ((c.tc : Thread Cert.ReferenceSIdeal.nD Cert.ReferenceSIdeal.τ).loc Cert.ReferenceSIdeal.main_arg8) = m' ((c.tc : Thread Cert.ReferenceSIdeal.nD Cert.ReferenceSIdeal.τ).loc Cert.ReferenceSIdeal.main_arg8))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)
      ∧ m' ((c.tc : Thread Cert.ReferenceXIdeal.nD Cert.ReferenceXIdeal.τ).loc Cert.ReferenceXIdeal.main_arg1) = m ((c.tc : Thread Cert.KernelXIdeal.nD Cert.KernelXIdeal.τ).loc Cert.KernelXIdeal.main_arg1)
      ∧ m' ((c.tc : Thread Cert.ReferenceXIdeal.nD Cert.ReferenceXIdeal.τ).loc Cert.ReferenceXIdeal.main_arg2) = m ((c.tc : Thread Cert.KernelXIdeal.nD Cert.KernelXIdeal.τ).loc Cert.KernelXIdeal.main_arg2)
      ∧ m' ((c.tc : Thread Cert.ReferenceXIdeal.nD Cert.ReferenceXIdeal.τ).loc Cert.ReferenceXIdeal.main_arg3) = m ((c.tc : Thread Cert.KernelXIdeal.nD Cert.KernelXIdeal.τ).loc Cert.KernelXIdeal.main_arg3)
      ∧ m' ((c.tc : Thread Cert.ReferenceXIdeal.nD Cert.ReferenceXIdeal.τ).loc Cert.ReferenceXIdeal.main_arg4) = m ((c.tc : Thread Cert.KernelXIdeal.nD Cert.KernelXIdeal.τ).loc Cert.KernelXIdeal.main_arg4)
      ∧ m' ((c.tc : Thread Cert.ReferenceXIdeal.nD Cert.ReferenceXIdeal.τ).loc Cert.ReferenceXIdeal.main_arg5) = m ((c.tc : Thread Cert.KernelXIdeal.nD Cert.KernelXIdeal.τ).loc Cert.KernelXIdeal.main_arg5)
      ∧ m' ((c.tc : Thread Cert.ReferenceXIdeal.nD Cert.ReferenceXIdeal.τ).loc Cert.ReferenceXIdeal.main_arg6) = m ((c.tc : Thread Cert.KernelXIdeal.nD Cert.KernelXIdeal.τ).loc Cert.KernelXIdeal.main_arg6)
      ∧ m' ((c.tc : Thread Cert.ReferenceXIdeal.nD Cert.ReferenceXIdeal.τ).loc Cert.ReferenceXIdeal.main_arg7) = m ((c.tc : Thread Cert.KernelXIdeal.nD Cert.KernelXIdeal.τ).loc Cert.KernelXIdeal.main_arg7)
      ∧ m' ((c.tc : Thread Cert.ReferenceXIdeal.nD Cert.ReferenceXIdeal.τ).loc Cert.ReferenceXIdeal.main_arg8) = m ((c.tc : Thread Cert.KernelXIdeal.nD Cert.KernelXIdeal.τ).loc Cert.KernelXIdeal.main_arg8)) →
    ∃ (v0 : (c : Dev Cert.KernelXIdeal.nD) → Buf (Elt Ideal) ((c.tc : Thread Cert.KernelXIdeal.nD Cert.KernelXIdeal.τ).loc Cert.KernelXIdeal.main_v7_0)) (v1 : (c : Dev Cert.KernelXIdeal.nD) → Buf (Elt Ideal) ((c.tc : Thread Cert.KernelXIdeal.nD Cert.KernelXIdeal.τ).loc Cert.KernelXIdeal.main_v7_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v7_0) = v0 c
          ∧ r.2.mem ((c.tc : Thread Cert.KernelXIdeal.nD Cert.KernelXIdeal.τ).loc Cert.KernelXIdeal.main_v7_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0)
          ∧ r.2.mem ((c.tc : Thread Cert.KernelXIdeal.nD Cert.KernelXIdeal.τ).loc Cert.KernelXIdeal.main_arg1) = m ((c.tc : Thread Cert.KernelXIdeal.nD Cert.KernelXIdeal.τ).loc Cert.KernelXIdeal.main_arg1)
          ∧ r.2.mem ((c.tc : Thread Cert.KernelXIdeal.nD Cert.KernelXIdeal.τ).loc Cert.KernelXIdeal.main_arg2) = m ((c.tc : Thread Cert.KernelXIdeal.nD Cert.KernelXIdeal.τ).loc Cert.KernelXIdeal.main_arg2)
          ∧ r.2.mem ((c.tc : Thread Cert.KernelXIdeal.nD Cert.KernelXIdeal.τ).loc Cert.KernelXIdeal.main_arg3) = m ((c.tc : Thread Cert.KernelXIdeal.nD Cert.KernelXIdeal.τ).loc Cert.KernelXIdeal.main_arg3)
          ∧ r.2.mem ((c.tc : Thread Cert.KernelXIdeal.nD Cert.KernelXIdeal.τ).loc Cert.KernelXIdeal.main_arg4) = m ((c.tc : Thread Cert.KernelXIdeal.nD Cert.KernelXIdeal.τ).loc Cert.KernelXIdeal.main_arg4)
          ∧ r.2.mem ((c.tc : Thread Cert.KernelXIdeal.nD Cert.KernelXIdeal.τ).loc Cert.KernelXIdeal.main_arg5) = m ((c.tc : Thread Cert.KernelXIdeal.nD Cert.KernelXIdeal.τ).loc Cert.KernelXIdeal.main_arg5)
          ∧ r.2.mem ((c.tc : Thread Cert.KernelXIdeal.nD Cert.KernelXIdeal.τ).loc Cert.KernelXIdeal.main_arg6) = m ((c.tc : Thread Cert.KernelXIdeal.nD Cert.KernelXIdeal.τ).loc Cert.KernelXIdeal.main_arg6)
          ∧ r.2.mem ((c.tc : Thread Cert.KernelXIdeal.nD Cert.KernelXIdeal.τ).loc Cert.KernelXIdeal.main_arg7) = m ((c.tc : Thread Cert.KernelXIdeal.nD Cert.KernelXIdeal.τ).loc Cert.KernelXIdeal.main_arg7)
          ∧ r.2.mem ((c.tc : Thread Cert.KernelXIdeal.nD Cert.KernelXIdeal.τ).loc Cert.KernelXIdeal.main_arg8) = m ((c.tc : Thread Cert.KernelXIdeal.nD Cert.KernelXIdeal.τ).loc Cert.KernelXIdeal.main_arg8))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v42) = v0 c
          ∧ r.2.mem ((c.tc : Thread Cert.ReferenceXIdeal.nD Cert.ReferenceXIdeal.τ).loc Cert.ReferenceXIdeal.main_v25) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0)
          ∧ r.2.mem ((c.tc : Thread Cert.ReferenceXIdeal.nD Cert.ReferenceXIdeal.τ).loc Cert.ReferenceXIdeal.main_arg1) = m' ((c.tc : Thread Cert.ReferenceXIdeal.nD Cert.ReferenceXIdeal.τ).loc Cert.ReferenceXIdeal.main_arg1)
          ∧ r.2.mem ((c.tc : Thread Cert.ReferenceXIdeal.nD Cert.ReferenceXIdeal.τ).loc Cert.ReferenceXIdeal.main_arg2) = m' ((c.tc : Thread Cert.ReferenceXIdeal.nD Cert.ReferenceXIdeal.τ).loc Cert.ReferenceXIdeal.main_arg2)
          ∧ r.2.mem ((c.tc : Thread Cert.ReferenceXIdeal.nD Cert.ReferenceXIdeal.τ).loc Cert.ReferenceXIdeal.main_arg3) = m' ((c.tc : Thread Cert.ReferenceXIdeal.nD Cert.ReferenceXIdeal.τ).loc Cert.ReferenceXIdeal.main_arg3)
          ∧ r.2.mem ((c.tc : Thread Cert.ReferenceXIdeal.nD Cert.ReferenceXIdeal.τ).loc Cert.ReferenceXIdeal.main_arg4) = m' ((c.tc : Thread Cert.ReferenceXIdeal.nD Cert.ReferenceXIdeal.τ).loc Cert.ReferenceXIdeal.main_arg4)
          ∧ r.2.mem ((c.tc : Thread Cert.ReferenceXIdeal.nD Cert.ReferenceXIdeal.τ).loc Cert.ReferenceXIdeal.main_arg5) = m' ((c.tc : Thread Cert.ReferenceXIdeal.nD Cert.ReferenceXIdeal.τ).loc Cert.ReferenceXIdeal.main_arg5)
          ∧ r.2.mem ((c.tc : Thread Cert.ReferenceXIdeal.nD Cert.ReferenceXIdeal.τ).loc Cert.ReferenceXIdeal.main_arg6) = m' ((c.tc : Thread Cert.ReferenceXIdeal.nD Cert.ReferenceXIdeal.τ).loc Cert.ReferenceXIdeal.main_arg6)
          ∧ r.2.mem ((c.tc : Thread Cert.ReferenceXIdeal.nD Cert.ReferenceXIdeal.τ).loc Cert.ReferenceXIdeal.main_arg7) = m' ((c.tc : Thread Cert.ReferenceXIdeal.nD Cert.ReferenceXIdeal.τ).loc Cert.ReferenceXIdeal.main_arg7)
          ∧ r.2.mem ((c.tc : Thread Cert.ReferenceXIdeal.nD Cert.ReferenceXIdeal.τ).loc Cert.ReferenceXIdeal.main_arg8) = m' ((c.tc : Thread Cert.ReferenceXIdeal.nD Cert.ReferenceXIdeal.τ).loc Cert.ReferenceXIdeal.main_arg8))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)) →
    ∃ (v0 : (c : Dev Cert.KernelOIdeal.nD) → Buf (Elt Ideal) ((c.tc : Thread Cert.KernelOIdeal.nD Cert.KernelOIdeal.τ).loc Cert.KernelOIdeal.main_v0)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v0) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v20) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4))

def preserves_KernelL_KernelLIdeal : Prop :=
  True

def algebraic_KernelLIdeal_ReferenceLIdeal [hKernelLIdeal : Cert.KernelLIdeal.Facts] [hReferenceLIdeal : Cert.ReferenceLIdeal.Facts] : Prop :=
  ∀ (m : (ℓ : Loc Cert.KernelLIdeal.nD Cert.KernelLIdeal.τ Cert.KernelLIdeal.sig) → Buf (Elt Ideal) ℓ) (g : Dev Cert.KernelLIdeal.nD → PrngReg)
    (m' : (ℓ : Loc Cert.ReferenceLIdeal.nD Cert.ReferenceLIdeal.τ Cert.ReferenceLIdeal.sig) → Buf (Elt Ideal) ℓ) (g' : Dev Cert.ReferenceLIdeal.nD → PrngReg), Pre_KernelLIdeal m →
    (∀ c : Dev Cert.KernelLIdeal.nD,
      m' ((c.tc : Thread Cert.ReferenceLIdeal.nD Cert.ReferenceLIdeal.τ).loc Cert.ReferenceLIdeal.main_arg0) = m ((c.tc : Thread Cert.KernelLIdeal.nD Cert.KernelLIdeal.τ).loc Cert.KernelLIdeal.main_arg0)
      ∧ m' ((c.tc : Thread Cert.ReferenceLIdeal.nD Cert.ReferenceLIdeal.τ).loc Cert.ReferenceLIdeal.main_arg1) = m ((c.tc : Thread Cert.KernelLIdeal.nD Cert.KernelLIdeal.τ).loc Cert.KernelLIdeal.main_arg1)
      ∧ m' ((c.tc : Thread Cert.ReferenceLIdeal.nD Cert.ReferenceLIdeal.τ).loc Cert.ReferenceLIdeal.main_arg2) = m ((c.tc : Thread Cert.KernelLIdeal.nD Cert.KernelLIdeal.τ).loc Cert.KernelLIdeal.main_arg2)
      ∧ m' ((c.tc : Thread Cert.ReferenceLIdeal.nD Cert.ReferenceLIdeal.τ).loc Cert.ReferenceLIdeal.main_arg3) = m ((c.tc : Thread Cert.KernelLIdeal.nD Cert.KernelLIdeal.τ).loc Cert.KernelLIdeal.main_arg3)
      ∧ m' ((c.tc : Thread Cert.ReferenceLIdeal.nD Cert.ReferenceLIdeal.τ).loc Cert.ReferenceLIdeal.main_arg4) = m ((c.tc : Thread Cert.KernelLIdeal.nD Cert.KernelLIdeal.τ).loc Cert.KernelLIdeal.main_arg4)
      ∧ m' ((c.tc : Thread Cert.ReferenceLIdeal.nD Cert.ReferenceLIdeal.τ).loc Cert.ReferenceLIdeal.main_arg5) = m ((c.tc : Thread Cert.KernelLIdeal.nD Cert.KernelLIdeal.τ).loc Cert.KernelLIdeal.main_arg5)
      ∧ m' ((c.tc : Thread Cert.ReferenceLIdeal.nD Cert.ReferenceLIdeal.τ).loc Cert.ReferenceLIdeal.main_arg6) = m ((c.tc : Thread Cert.KernelLIdeal.nD Cert.KernelLIdeal.τ).loc Cert.KernelLIdeal.main_arg6)) →
    ∃ (v0 : (c : Dev Cert.KernelLIdeal.nD) → Buf (Elt Ideal) ((c.tc : Thread Cert.KernelLIdeal.nD Cert.KernelLIdeal.τ).loc Cert.KernelLIdeal.main_v1_0)) (v1 : (c : Dev Cert.KernelLIdeal.nD) → Buf (Elt Ideal) ((c.tc : Thread Cert.KernelLIdeal.nD Cert.KernelLIdeal.τ).loc Cert.KernelLIdeal.main_v1_1)) (v2 : (c : Dev Cert.KernelLIdeal.nD) → Buf (Elt Ideal) ((c.tc : Thread Cert.KernelLIdeal.nD Cert.KernelLIdeal.τ).loc Cert.KernelLIdeal.main_v1_2)),
      θ_run (Cert.KernelLIdeal.defs (F := Ideal)) (onTc (τ := Cert.KernelLIdeal.τ) (Cert.KernelLIdeal.main (F := Ideal))) ⟨m, fun _ => 0, g⟩ (fun r => ∀ c : Dev Cert.KernelLIdeal.nD,
          r.2.mem ((c.tc : Thread Cert.KernelLIdeal.nD Cert.KernelLIdeal.τ).loc Cert.KernelLIdeal.main_v1_0) = v0 c
          ∧ r.2.mem ((c.tc : Thread Cert.KernelLIdeal.nD Cert.KernelLIdeal.τ).loc Cert.KernelLIdeal.main_v1_1) = v1 c
          ∧ r.2.mem ((c.tc : Thread Cert.KernelLIdeal.nD Cert.KernelLIdeal.τ).loc Cert.KernelLIdeal.main_v1_2) = v2 c
          ∧ r.2.mem ((c.tc : Thread Cert.KernelLIdeal.nD Cert.KernelLIdeal.τ).loc Cert.KernelLIdeal.main_arg0) = m ((c.tc : Thread Cert.KernelLIdeal.nD Cert.KernelLIdeal.τ).loc Cert.KernelLIdeal.main_arg0)
          ∧ r.2.mem ((c.tc : Thread Cert.KernelLIdeal.nD Cert.KernelLIdeal.τ).loc Cert.KernelLIdeal.main_arg1) = m ((c.tc : Thread Cert.KernelLIdeal.nD Cert.KernelLIdeal.τ).loc Cert.KernelLIdeal.main_arg1)
          ∧ r.2.mem ((c.tc : Thread Cert.KernelLIdeal.nD Cert.KernelLIdeal.τ).loc Cert.KernelLIdeal.main_arg2) = m ((c.tc : Thread Cert.KernelLIdeal.nD Cert.KernelLIdeal.τ).loc Cert.KernelLIdeal.main_arg2)
          ∧ r.2.mem ((c.tc : Thread Cert.KernelLIdeal.nD Cert.KernelLIdeal.τ).loc Cert.KernelLIdeal.main_arg3) = m ((c.tc : Thread Cert.KernelLIdeal.nD Cert.KernelLIdeal.τ).loc Cert.KernelLIdeal.main_arg3)
          ∧ r.2.mem ((c.tc : Thread Cert.KernelLIdeal.nD Cert.KernelLIdeal.τ).loc Cert.KernelLIdeal.main_arg4) = m ((c.tc : Thread Cert.KernelLIdeal.nD Cert.KernelLIdeal.τ).loc Cert.KernelLIdeal.main_arg4)
          ∧ r.2.mem ((c.tc : Thread Cert.KernelLIdeal.nD Cert.KernelLIdeal.τ).loc Cert.KernelLIdeal.main_arg5) = m ((c.tc : Thread Cert.KernelLIdeal.nD Cert.KernelLIdeal.τ).loc Cert.KernelLIdeal.main_arg5)
          ∧ r.2.mem ((c.tc : Thread Cert.KernelLIdeal.nD Cert.KernelLIdeal.τ).loc Cert.KernelLIdeal.main_arg6) = m ((c.tc : Thread Cert.KernelLIdeal.nD Cert.KernelLIdeal.τ).loc Cert.KernelLIdeal.main_arg6))
      ∧ θ_run (Cert.ReferenceLIdeal.defs (F := Ideal)) (onTc (τ := Cert.ReferenceLIdeal.τ) (Cert.ReferenceLIdeal.main (F := Ideal))) ⟨m', fun _ => 0, g'⟩ (fun r => ∀ c : Dev Cert.ReferenceLIdeal.nD,
          r.2.mem ((c.tc : Thread Cert.ReferenceLIdeal.nD Cert.ReferenceLIdeal.τ).loc Cert.ReferenceLIdeal.main_v71) = v0 c
          ∧ r.2.mem ((c.tc : Thread Cert.ReferenceLIdeal.nD Cert.ReferenceLIdeal.τ).loc Cert.ReferenceLIdeal.main_v72) = v1 c
          ∧ r.2.mem ((c.tc : Thread Cert.ReferenceLIdeal.nD Cert.ReferenceLIdeal.τ).loc Cert.ReferenceLIdeal.main_v73) = v2 c
          ∧ r.2.mem ((c.tc : Thread Cert.ReferenceLIdeal.nD Cert.ReferenceLIdeal.τ).loc Cert.ReferenceLIdeal.main_arg0) = m' ((c.tc : Thread Cert.ReferenceLIdeal.nD Cert.ReferenceLIdeal.τ).loc Cert.ReferenceLIdeal.main_arg0)
          ∧ r.2.mem ((c.tc : Thread Cert.ReferenceLIdeal.nD Cert.ReferenceLIdeal.τ).loc Cert.ReferenceLIdeal.main_arg1) = m' ((c.tc : Thread Cert.ReferenceLIdeal.nD Cert.ReferenceLIdeal.τ).loc Cert.ReferenceLIdeal.main_arg1)
          ∧ r.2.mem ((c.tc : Thread Cert.ReferenceLIdeal.nD Cert.ReferenceLIdeal.τ).loc Cert.ReferenceLIdeal.main_arg2) = m' ((c.tc : Thread Cert.ReferenceLIdeal.nD Cert.ReferenceLIdeal.τ).loc Cert.ReferenceLIdeal.main_arg2)
          ∧ r.2.mem ((c.tc : Thread Cert.ReferenceLIdeal.nD Cert.ReferenceLIdeal.τ).loc Cert.ReferenceLIdeal.main_arg3) = m' ((c.tc : Thread Cert.ReferenceLIdeal.nD Cert.ReferenceLIdeal.τ).loc Cert.ReferenceLIdeal.main_arg3)
          ∧ r.2.mem ((c.tc : Thread Cert.ReferenceLIdeal.nD Cert.ReferenceLIdeal.τ).loc Cert.ReferenceLIdeal.main_arg4) = m' ((c.tc : Thread Cert.ReferenceLIdeal.nD Cert.ReferenceLIdeal.τ).loc Cert.ReferenceLIdeal.main_arg4)
          ∧ r.2.mem ((c.tc : Thread Cert.ReferenceLIdeal.nD Cert.ReferenceLIdeal.τ).loc Cert.ReferenceLIdeal.main_arg5) = m' ((c.tc : Thread Cert.ReferenceLIdeal.nD Cert.ReferenceLIdeal.τ).loc Cert.ReferenceLIdeal.main_arg5)
          ∧ r.2.mem ((c.tc : Thread Cert.ReferenceLIdeal.nD Cert.ReferenceLIdeal.τ).loc Cert.ReferenceLIdeal.main_arg6) = m' ((c.tc : Thread Cert.ReferenceLIdeal.nD Cert.ReferenceLIdeal.τ).loc Cert.ReferenceLIdeal.main_arg6))

def Claim : Prop :=
  ∃ (hKernel : Cert.Kernel.Facts) (hKernelIdeal : Cert.KernelIdeal.Facts) (hReferenceIdeal : Cert.ReferenceIdeal.Facts) (hKernelW : Cert.KernelW.Facts) (hKernelWIdeal : Cert.KernelWIdeal.Facts) (hReferenceWIdeal : Cert.ReferenceWIdeal.Facts) (hKernelG : Cert.KernelG.Facts) (hKernelGIdeal : Cert.KernelGIdeal.Facts) (hReferenceGIdeal : Cert.ReferenceGIdeal.Facts) (hKernelS : Cert.KernelS.Facts) (hKernelSIdeal : Cert.KernelSIdeal.Facts) (hReferenceSIdeal : Cert.ReferenceSIdeal.Facts) (hKernelX : Cert.KernelX.Facts) (hKernelXIdeal : Cert.KernelXIdeal.Facts) (hReferenceXIdeal : Cert.ReferenceXIdeal.Facts) (hKernelO : Cert.KernelO.Facts) (hKernelOIdeal : Cert.KernelOIdeal.Facts) (hReferenceOIdeal : Cert.ReferenceOIdeal.Facts) (hKernelL : Cert.KernelL.Facts) (hKernelLIdeal : Cert.KernelLIdeal.Facts) (hReferenceLIdeal : Cert.ReferenceLIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelW (hKernelW := hKernelW)
    ∧ quiescent_KernelWIdeal (hKernelWIdeal := hKernelWIdeal)
    ∧ quiescent_ReferenceWIdeal (hReferenceWIdeal := hReferenceWIdeal)
    ∧ quiescent_KernelG (hKernelG := hKernelG)
    ∧ quiescent_KernelGIdeal (hKernelGIdeal := hKernelGIdeal)
    ∧ quiescent_ReferenceGIdeal (hReferenceGIdeal := hReferenceGIdeal)
    ∧ quiescent_KernelS (hKernelS := hKernelS)
    ∧ quiescent_KernelSIdeal (hKernelSIdeal := hKernelSIdeal)
    ∧ quiescent_ReferenceSIdeal (hReferenceSIdeal := hReferenceSIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelL (hKernelL := hKernelL)
    ∧ quiescent_KernelLIdeal (hKernelLIdeal := hKernelLIdeal)
    ∧ quiescent_ReferenceLIdeal (hReferenceLIdeal := hReferenceLIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelW_KernelWIdeal
    ∧ algebraic_KernelWIdeal_ReferenceWIdeal (hKernelWIdeal := hKernelWIdeal) (hReferenceWIdeal := hReferenceWIdeal)
    ∧ preserves_KernelG_KernelGIdeal
    ∧ algebraic_KernelGIdeal_ReferenceGIdeal (hKernelGIdeal := hKernelGIdeal) (hReferenceGIdeal := hReferenceGIdeal)
    ∧ preserves_KernelS_KernelSIdeal
    ∧ algebraic_KernelSIdeal_ReferenceSIdeal (hKernelSIdeal := hKernelSIdeal) (hReferenceSIdeal := hReferenceSIdeal)
    ∧ preserves_KernelX_KernelXIdeal
    ∧ algebraic_KernelXIdeal_ReferenceXIdeal (hKernelXIdeal := hKernelXIdeal) (hReferenceXIdeal := hReferenceXIdeal)
    ∧ preserves_KernelO_KernelOIdeal
    ∧ algebraic_KernelOIdeal_ReferenceOIdeal (hKernelOIdeal := hKernelOIdeal) (hReferenceOIdeal := hReferenceOIdeal)
    ∧ preserves_KernelL_KernelLIdeal
    ∧ algebraic_KernelLIdeal_ReferenceLIdeal (hKernelLIdeal := hKernelLIdeal) (hReferenceLIdeal := hReferenceLIdeal)
-- ==== Pre_finite.lean ====
abbrev S16384x2048 : Shape := ⟨2, ![16384, 2048]⟩
abbrev S16x256x64x64 : Shape := ⟨4, ![16, 256, 64, 64]⟩
abbrev S16x256x128x128 : Shape := ⟨4, ![16, 256, 128, 128]⟩
abbrev S16x256x64 : Shape := ⟨3, ![16, 256, 64]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x256x64x64 : S_.BroadcastsInDim S16x256x64x64 (![] : Fin 0 → Fin S16x256x64x64.rank)
  reducesTo_S16x256x64x64_S_d0_1_2_3 : S16x256x64x64.ReducesTo [0, 1, 2, 3] S_
  bcast_S_S16x256x64 : S_.BroadcastsInDim S16x256x64 (![] : Fin 0 → Fin S16x256x64.rank)
  reducesTo_S16x256x64_S_d0_1_2 : S16x256x64.ReducesTo [0, 1, 2] S_

variable [Facts]

def fn_part1 {F : FTy → Type} [FloatOps F] (main_arg6 : FVec F S16x256x64 .f32) (main_arg7 : FVec F S16384x2048 .f32) (main_v16 : IVec S_ 1) (main_v17 : FVec F S16x256x64x64 .f32) : IVec S_ 1 :=
  let main_v18 : FVec F S16x256x64x64 .f32 := Host.absf main_v17
  let main_cst_4 : FVec F S_ .f32 := constant S_ .f32 0x7F800000#32
  let main_v19 : FVec F S16x256x64x64 .f32 := broadcastInDim S16x256x64x64 ![] bcast_S_S16x256x64x64 main_cst_4
  let main_v20 : IVec S16x256x64x64 1 := cmpf .olt main_v18 main_v19
  let main_c_5 : IVec S_ 1 := constantI S_ 1 1#1
  let main_v21 : IVec S_ 1 := (fun x v => Host.reduce IntOp.andi x v reducesTo_S16x256x64x64_S_d0_1_2_3 h_S_) main_v20 main_c_5
  let main_v22 : IVec S_ 1 := andi main_v16 main_v21
  let main_v23 : FVec F S16x256x64 .f32 := Host.absf main_arg6
  let main_cst_6 : FVec F S_ .f32 := constant S_ .f32 0x7F800000#32
  let main_v24 : FVec F S16x256x64 .f32 := broadcastInDim S16x256x64 ![] bcast_S_S16x256x64 main_cst_6
  let main_v25 : IVec S16x256x64 1 := cmpf .olt main_v23 main_v24
  let main_c_7 : IVec S_ 1 := constantI S_ 1 1#1
  let main_v26 : IVec S_ 1 := (fun x v => Host.reduce IntOp.andi x v reducesTo_S16x256x64_S_d0_1_2 h_S_) main_v25 main_c_7
  let main_v27 : IVec S_ 1 := andi main_v22 main_v26
  let main_v28 : FVec F S16384x2048 .f32 := Host.absf main_arg7
  let main_cst_8 : FVec F S_ .f32 := constant S_ .f32 0x7F800000#32
  let main_v29 : FVec F S16384x2048 .f32 := broadcastInDim S16384x2048 ![] bcast_S_S16384x2048 main_cst_8
  let main_v30 : IVec S16384x2048 1 := cmpf .olt main_v28 main_v29
  let main_c_9 : IVec S_ 1 := constantI S_ 1 1#1
  let main_v31 : IVec S_ 1 := (fun x v => Host.reduce IntOp.andi x v reducesTo_S16384x2048_S_d0_1 h_S_) main_v30 main_c_9
  let main_v32 : IVec S_ 1 := andi main_v27 main_v31
  main_v32

def fn {F : FTy → Type} [FloatOps F] (main_arg0 : FVec F S16384x2048 .bf16) (main_arg1 : FVec F S16384x2048 .bf16) (main_arg2 : FVec F S16384x2048 .f32) (main_arg3 : FVec F S16384x2048 .bf16) (main_arg4 : FVec F S16x256x64x64 .bf16) (main_arg5 : FVec F S16x256x128x128 .bf16) (main_arg6 : FVec F S16x256x64 .f32) (main_arg7 : FVec F S16384x2048 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v4 main_v9
  let main_v11 : FVec F S16384x2048 .f32 := (extf .f32 · bitsLt_bf16_f32) main_arg3
  let main_v12 : FVec F S16384x2048 .f32 := Host.absf main_v11
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v10 main_v15
  let main_v17 : FVec F S16x256x64x64 .f32 := (extf .f32 · bitsLt_bf16_f32) main_arg4
  fn_part1 (F := F) main_arg6 main_arg7 main_v16 main_v17
-- ==== Kernel.lean ====
abbrev S16384x2048 : Shape := ⟨2, ![16384, 2048]⟩
abbrev S16x256x64x64 : Shape := ⟨4, ![16, 256, 64, 64]⟩
abbrev S16x256x128x128 : Shape := ⟨4, ![16, 256, 128, 128]⟩
abbrev S16x256x64 : Shape := ⟨3, ![16, 256, 64]⟩
abbrev S256x64x16x128 : Shape := ⟨4, ![256, 64, 16, 128]⟩
abbrev S16x256x64x128 : Shape := ⟨4, ![16, 256, 64, 128]⟩
abbrev S512x2048 : Shape := ⟨2, ![512, 2048]⟩
abbrev S16x8x64x64 : Shape := ⟨4, ![16, 8, 64, 64]⟩
abbrev S16x8x128x128 : Shape := ⟨4, ![16, 8, 128, 128]⟩
abbrev S16x8x64 : Shape := ⟨3, ![16, 8, 64]⟩
abbrev S16x128x128 : Shape := ⟨3, ![16, 128, 128]⟩
abbrev S1x1x1 : Shape := ⟨3, ![1, 1, 1]⟩
abbrev S1x1 : Shape := ⟨2, ![1, 1]⟩
abbrev S1x128x128 : Shape := ⟨3, ![1, 128, 128]⟩
abbrev S128x128 : Shape := ⟨2, ![128, 128]⟩
abbrev S64x128 : Shape := ⟨2, ![64, 128]⟩
abbrev S1x1x64x64 : Shape := ⟨4, ![1, 1, 64, 64]⟩
abbrev S64x64 : Shape := ⟨2, ![64, 64]⟩
abbrev S1x1x128x128 : Shape := ⟨4, ![1, 1, 128, 128]⟩
abbrev S128 : Shape := ⟨1, ![128]⟩
abbrev S1x128 : Shape := ⟨2, ![1, 128]⟩
abbrev S1 : Shape := ⟨1, ![1]⟩
abbrev S1x64 : Shape := ⟨2, ![1, 64]⟩
abbrev S1x1x64 : Shape := ⟨3, ![1, 1, 64]⟩

abbrev nBuf : Space → Nat
  | .hbm => 22
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .f32⟩
  | .hbm, ⟨3, _⟩ => ⟨S16384x2048, .bf16⟩
  | .hbm, ⟨4, _⟩ => ⟨S16x256x64x64, .bf16⟩
  | .hbm, ⟨5, _⟩ => ⟨S16x256x128x128, .bf16⟩
  | .hbm, ⟨6, _⟩ => ⟨S16x256x64, .f32⟩
  | .hbm, ⟨7, _⟩ => ⟨S16384x2048, .f32⟩
  | .hbm, ⟨8, _⟩ => ⟨S256x64x16x128, .f32⟩
  | .hbm, ⟨9, _⟩ => ⟨S16x256x64x128, .f32⟩
  | .hbm, ⟨10, _⟩ => ⟨S16384x2048, .f32⟩
  | .hbm, ⟨11, _⟩ => ⟨S256x64x16x128, .f32⟩
  | .hbm, ⟨12, _⟩ => ⟨S16x256x64x128, .f32⟩
  | .hbm, ⟨13, _⟩ => ⟨S16x256x128x128, .f32⟩
  | .hbm, ⟨14, _⟩ => ⟨S16x256x64x128, .f32⟩
  | .hbm, ⟨15, _⟩ => ⟨S16x256x64x128, .f32⟩
  | .hbm, ⟨16, _⟩ => ⟨S256x64x16x128, .f32⟩
  | .hbm, ⟨17, _⟩ => ⟨S16384x2048, .f32⟩
  | .hbm, ⟨18, _⟩ => ⟨S16384x2048, .bf16⟩
  | .hbm, ⟨19, _⟩ => ⟨S16384x2048, .f32⟩
  | .hbm, ⟨20, _⟩ => ⟨S16384x2048, .f32⟩
  | .hbm, ⟨21, _⟩ => ⟨S16x256x64, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S16x8x64x64, .bf16⟩
  | .local _ .vmem, ⟨7, _⟩ => ⟨S16x8x64x64, .bf16⟩
  | .local _ .vmem, ⟨8, _⟩ => ⟨S512x2048, .bf16⟩
  | .local _ .vmem, ⟨9, _⟩ => ⟨S512x2048, .bf16⟩
  | .local _ .vmem, ⟨10, _⟩ => ⟨S16x8x128x128, .bf16⟩
  | .local _ .vmem, ⟨11, _⟩ => ⟨S16x8x128x128, .bf16⟩
  | .local _ .vmem, ⟨12, _⟩ => ⟨S16x8x64, .f32⟩
  | .local _ .vmem, ⟨13, _⟩ => ⟨S16x8x64, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S16x8x64, .f32⟩
  | .local _ .vmem, ⟨21, _⟩ => ⟨S16x8x64, .f32⟩
  | .local _ .vmem, ⟨22, _⟩ => ⟨S16x128x128, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 32], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_mult1 (k0_t1 : Fin k0_t1_loop.trips) : BitVec 32 :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  v5
def k0_off1 (k0_t1 : Fin k0_t1_loop.trips) : Fin 3 → Nat :=
  let c0 : Index := 0#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v7 : Index := Scalar.indexCast v4
  let c63 : Index := 63#32
  ![0, v7.toNat, 63]
def k0_off2 (k0_t1 : Fin k0_t1_loop.trips) : Fin 3 → Nat :=
  let c1 : Index := 1#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v11 : Index := Scalar.indexCast v4
  let c63_3 : Index := 63#32
  ![1, v11.toNat, 63]
def k0_off3 (k0_t1 : Fin k0_t1_loop.trips) : Fin 3 → Nat :=
  let c2 : Index := 2#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v15 : Index := Scalar.indexCast v4
  let c63_4 : Index := 63#32
  ![2, v15.toNat, 63]
def k0_off4 (k0_t1 : Fin k0_t1_loop.trips) : Fin 3 → Nat :=
  let c3 : Index := 3#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v19 : Index := Scalar.indexCast v4
  let c63_5 : Index := 63#32
  ![3, v19.toNat, 63]
def k0_off5 (k0_t1 : Fin k0_t1_loop.trips) : Fin 3 → Nat :=
  let c4 : Index := 4#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v23 : Index := Scalar.indexCast v4
  let c63_6 : Index := 63#32
  ![4, v23.toNat, 63]
def k0_off6 (k0_t1 : Fin k0_t1_loop.trips) : Fin 3 → Nat :=
  let c5 : Index := 5#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v27 : Index := Scalar.indexCast v4
  let c63_7 : Index := 63#32
  ![5, v27.toNat, 63]
def k0_off7 (k0_t1 : Fin k0_t1_loop.trips) : Fin 3 → Nat :=
  let c6 : Index := 6#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v31 : Index := Scalar.indexCast v4
  let c63_8 : Index := 63#32
  ![6, v31.toNat, 63]
def k0_off8 (k0_t1 : Fin k0_t1_loop.trips) : Fin 3 → Nat :=
  let c7 : Index := 7#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v35 : Index := Scalar.indexCast v4
  let c63_9 : Index := 63#32
  ![7, v35.toNat, 63]
def k0_off9 (k0_t1 : Fin k0_t1_loop.trips) : Fin 3 → Nat :=
  let c8 : Index := 8#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v39 : Index := Scalar.indexCast v4
  let c63_10 : Index := 63#32
  ![8, v39.toNat, 63]
def k0_off10 (k0_t1 : Fin k0_t1_loop.trips) : Fin 3 → Nat :=
  let c9 : Index := 9#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v43 : Index := Scalar.indexCast v4
  let c63_11 : Index := 63#32
  ![9, v43.toNat, 63]
def k0_off11 (k0_t1 : Fin k0_t1_loop.trips) : Fin 3 → Nat :=
  let c10 : Index := 10#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v47 : Index := Scalar.indexCast v4
  let c63_12 : Index := 63#32
  ![10, v47.toNat, 63]
def k0_off12 (k0_t1 : Fin k0_t1_loop.trips) : Fin 3 → Nat :=
  let c11 : Index := 11#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v51 : Index := Scalar.indexCast v4
  let c63_13 : Index := 63#32
  ![11, v51.toNat, 63]
def k0_off13 (k0_t1 : Fin k0_t1_loop.trips) : Fin 3 → Nat :=
  let c12 : Index := 12#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v55 : Index := Scalar.indexCast v4
  let c63_14 : Index := 63#32
  ![12, v55.toNat, 63]
def k0_off14 (k0_t1 : Fin k0_t1_loop.trips) : Fin 3 → Nat :=
  let c13 : Index := 13#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v59 : Index := Scalar.indexCast v4
  let c63_15 : Index := 63#32
  ![13, v59.toNat, 63]
def k0_off15 (k0_t1 : Fin k0_t1_loop.trips) : Fin 3 → Nat :=
  let c14 : Index := 14#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v63 : Index := Scalar.indexCast v4
  let c63_16 : Index := 63#32
  ![14, v63.toNat, 63]
def k0_off16 (k0_t1 : Fin k0_t1_loop.trips) : Fin 3 → Nat :=
  let c15 : Index := 15#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v67 : Index := Scalar.indexCast v4
  let c63_17 : Index := 63#32
  ![15, v67.toNat, 63]
def k0_off17 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v103 : Index := Scalar.indexCast v6
  let c0_66 : Index := 0#32
  ![v103.toNat, 0]
def k0_off18 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v105 : Index := Scalar.indexCast v6
  let c128 : Index := 128#32
  ![v105.toNat, 128]
def k0_off19 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v107 : Index := Scalar.indexCast v6
  let c256 : Index := 256#32
  ![v107.toNat, 256]
def k0_off20 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v109 : Index := Scalar.indexCast v6
  let c384 : Index := 384#32
  ![v109.toNat, 384]
def k0_off21 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v111 : Index := Scalar.indexCast v6
  let c512 : Index := 512#32
  ![v111.toNat, 512]
def k0_off22 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v113 : Index := Scalar.indexCast v6
  let c640 : Index := 640#32
  ![v113.toNat, 640]
def k0_off23 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v115 : Index := Scalar.indexCast v6
  let c768 : Index := 768#32
  ![v115.toNat, 768]
def k0_off24 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v117 : Index := Scalar.indexCast v6
  let c896 : Index := 896#32
  ![v117.toNat, 896]
def k0_off25 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v119 : Index := Scalar.indexCast v6
  let c1024 : Index := 1024#32
  ![v119.toNat, 1024]
def k0_off26 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v121 : Index := Scalar.indexCast v6
  let c1152 : Index := 1152#32
  ![v121.toNat, 1152]
def k0_off27 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v123 : Index := Scalar.indexCast v6
  let c1280 : Index := 1280#32
  ![v123.toNat, 1280]
def k0_off28 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v125 : Index := Scalar.indexCast v6
  let c1408 : Index := 1408#32
  ![v125.toNat, 1408]
def k0_off29 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v127 : Index := Scalar.indexCast v6
  let c1536 : Index := 1536#32
  ![v127.toNat, 1536]
def k0_off30 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v129 : Index := Scalar.indexCast v6
  let c1664 : Index := 1664#32
  ![v129.toNat, 1664]
def k0_off31 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v131 : Index := Scalar.indexCast v6
  let c1792 : Index := 1792#32
  ![v131.toNat, 1792]
def k0_off32 (k0_t1 : Fin k0_t1_loop.trips) : Fin 2 → Nat :=
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let c64_i32 : BitVec 32 := 64#32
  let v5 : BitVec 32 := Scalar.muli v4 c64_i32
  let v6 : BitVec 32 := v5
  let v133 : Index := Scalar.indexCast v6
  let c1920 : Index := 1920#32
  ![v133.toNat, 1920]
def k0_off33 (k0_t1 : Fin k0_t1_loop.trips) : Fin 4 → Nat :=
  let c0_98 : Index := 0#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v199 : Index := Scalar.indexCast v4
  let c0_99 : Index := 0#32
  let c0_100 : Index := 0#32
  ![0, v199.toNat, 0, 0]
def k0_off34 (k0_t1 : Fin k0_t1_loop.trips) : Fin 4 → Nat :=
  let c1_102 : Index := 1#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v204 : Index := Scalar.indexCast v4
  let c0_103 : Index := 0#32
  let c0_104 : Index := 0#32
  ![1, v204.toNat, 0, 0]
def k0_off35 (k0_t1 : Fin k0_t1_loop.trips) : Fin 4 → Nat :=
  let c2_106 : Index := 2#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v209 : Index := Scalar.indexCast v4
  let c0_107 : Index := 0#32
  let c0_108 : Index := 0#32
  ![2, v209.toNat, 0, 0]
def k0_off36 (k0_t1 : Fin k0_t1_loop.trips) : Fin 4 → Nat :=
  let c3_110 : Index := 3#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v214 : Index := Scalar.indexCast v4
  let c0_111 : Index := 0#32
  let c0_112 : Index := 0#32
  ![3, v214.toNat, 0, 0]
def k0_off37 (k0_t1 : Fin k0_t1_loop.trips) : Fin 4 → Nat :=
  let c4_114 : Index := 4#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v219 : Index := Scalar.indexCast v4
  let c0_115 : Index := 0#32
  let c0_116 : Index := 0#32
  ![4, v219.toNat, 0, 0]
def k0_off38 (k0_t1 : Fin k0_t1_loop.trips) : Fin 4 → Nat :=
  let c5_118 : Index := 5#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v224 : Index := Scalar.indexCast v4
  let c0_119 : Index := 0#32
  let c0_120 : Index := 0#32
  ![5, v224.toNat, 0, 0]
def k0_off39 (k0_t1 : Fin k0_t1_loop.trips) : Fin 4 → Nat :=
  let c6_122 : Index := 6#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v229 : Index := Scalar.indexCast v4
  let c0_123 : Index := 0#32
  let c0_124 : Index := 0#32
  ![6, v229.toNat, 0, 0]
def k0_off40 (k0_t1 : Fin k0_t1_loop.trips) : Fin 4 → Nat :=
  let c7_126 : Index := 7#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v234 : Index := Scalar.indexCast v4
  let c0_127 : Index := 0#32
  let c0_128 : Index := 0#32
  ![7, v234.toNat, 0, 0]
def k0_off41 (k0_t1 : Fin k0_t1_loop.trips) : Fin 4 → Nat :=
  let c8_130 : Index := 8#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v239 : Index := Scalar.indexCast v4
  let c0_131 : Index := 0#32
  let c0_132 : Index := 0#32
  ![8, v239.toNat, 0, 0]
def k0_off42 (k0_t1 : Fin k0_t1_loop.trips) : Fin 4 → Nat :=
  let c9_134 : Index := 9#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v244 : Index := Scalar.indexCast v4
  let c0_135 : Index := 0#32
  let c0_136 : Index := 0#32
  ![9, v244.toNat, 0, 0]
def k0_off43 (k0_t1 : Fin k0_t1_loop.trips) : Fin 4 → Nat :=
  let c10_138 : Index := 10#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v249 : Index := Scalar.indexCast v4
  let c0_139 : Index := 0#32
  let c0_140 : Index := 0#32
  ![10, v249.toNat, 0, 0]
def k0_off44 (k0_t1 : Fin k0_t1_loop.trips) : Fin 4 → Nat :=
  let c11_142 : Index := 11#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v254 : Index := Scalar.indexCast v4
  let c0_143 : Index := 0#32
  let c0_144 : Index := 0#32
  ![11, v254.toNat, 0, 0]
def k0_off45 (k0_t1 : Fin k0_t1_loop.trips) : Fin 4 → Nat :=
  let c12_146 : Index := 12#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v259 : Index := Scalar.indexCast v4
  let c0_147 : Index := 0#32
  let c0_148 : Index := 0#32
  ![12, v259.toNat, 0, 0]
def k0_off46 (k0_t1 : Fin k0_t1_loop.trips) : Fin 4 → Nat :=
  let c13_150 : Index := 13#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v264 : Index := Scalar.indexCast v4
  let c0_151 : Index := 0#32
  let c0_152 : Index := 0#32
  ![13, v264.toNat, 0, 0]
def k0_off47 (k0_t1 : Fin k0_t1_loop.trips) : Fin 4 → Nat :=
  let c14_154 : Index := 14#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v269 : Index := Scalar.indexCast v4
  let c0_155 : Index := 0#32
  let c0_156 : Index := 0#32
  ![14, v269.toNat, 0, 0]
def k0_off48 (k0_t1 : Fin k0_t1_loop.trips) : Fin 4 → Nat :=
  let c15_158 : Index := 15#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v274 : Index := Scalar.indexCast v4
  let c0_159 : Index := 0#32
  let c0_160 : Index := 0#32
  ![15, v274.toNat, 0, 0]
def k0_off49 (k0_t1 : Fin k0_t1_loop.trips) : Fin 4 → Nat :=
  let c0_258 : Index := 0#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v503 : Index := Scalar.indexCast v4
  let c0_259 : Index := 0#32
  let c0_260 : Index := 0#32
  ![0, v503.toNat, 0, 0]
def k0_off50 (k0_t1 : Fin k0_t1_loop.trips) : Fin 3 → Nat :=
  let c0_263 : Index := 0#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v514 : Index := Scalar.indexCast v4
  let c0_264 : Index := 0#32
  ![0, v514.toNat, 0]
def k0_off51 (k0_t1 : Fin k0_t1_loop.trips) : Fin 4 → Nat :=
  let c1_270 : Index := 1#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v529 : Index := Scalar.indexCast v4
  let c0_271 : Index := 0#32
  let c0_272 : Index := 0#32
  ![1, v529.toNat, 0, 0]
def k0_off52 (k0_t1 : Fin k0_t1_loop.trips) : Fin 3 → Nat :=
  let c1_275 : Index := 1#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v540 : Index := Scalar.indexCast v4
  let c0_276 : Index := 0#32
  ![1, v540.toNat, 0]
def k0_off53 (k0_t1 : Fin k0_t1_loop.trips) : Fin 4 → Nat :=
  let c2_282 : Index := 2#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v555 : Index := Scalar.indexCast v4
  let c0_283 : Index := 0#32
  let c0_284 : Index := 0#32
  ![2, v555.toNat, 0, 0]
def k0_off54 (k0_t1 : Fin k0_t1_loop.trips) : Fin 3 → Nat :=
  let c2_287 : Index := 2#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v566 : Index := Scalar.indexCast v4
  let c0_288 : Index := 0#32
  ![2, v566.toNat, 0]
def k0_off55 (k0_t1 : Fin k0_t1_loop.trips) : Fin 4 → Nat :=
  let c3_294 : Index := 3#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v581 : Index := Scalar.indexCast v4
  let c0_295 : Index := 0#32
  let c0_296 : Index := 0#32
  ![3, v581.toNat, 0, 0]
def k0_off56 (k0_t1 : Fin k0_t1_loop.trips) : Fin 3 → Nat :=
  let c3_299 : Index := 3#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v592 : Index := Scalar.indexCast v4
  let c0_300 : Index := 0#32
  ![3, v592.toNat, 0]
def k0_off57 (k0_t1 : Fin k0_t1_loop.trips) : Fin 4 → Nat :=
  let c4_306 : Index := 4#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v607 : Index := Scalar.indexCast v4
  let c0_307 : Index := 0#32
  let c0_308 : Index := 0#32
  ![4, v607.toNat, 0, 0]
def k0_off58 (k0_t1 : Fin k0_t1_loop.trips) : Fin 3 → Nat :=
  let c4_311 : Index := 4#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v618 : Index := Scalar.indexCast v4
  let c0_312 : Index := 0#32
  ![4, v618.toNat, 0]
def k0_off59 (k0_t1 : Fin k0_t1_loop.trips) : Fin 4 → Nat :=
  let c5_318 : Index := 5#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v633 : Index := Scalar.indexCast v4
  let c0_319 : Index := 0#32
  let c0_320 : Index := 0#32
  ![5, v633.toNat, 0, 0]
def k0_off60 (k0_t1 : Fin k0_t1_loop.trips) : Fin 3 → Nat :=
  let c5_323 : Index := 5#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v644 : Index := Scalar.indexCast v4
  let c0_324 : Index := 0#32
  ![5, v644.toNat, 0]
def k0_off61 (k0_t1 : Fin k0_t1_loop.trips) : Fin 4 → Nat :=
  let c6_330 : Index := 6#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v659 : Index := Scalar.indexCast v4
  let c0_331 : Index := 0#32
  let c0_332 : Index := 0#32
  ![6, v659.toNat, 0, 0]
def k0_off62 (k0_t1 : Fin k0_t1_loop.trips) : Fin 3 → Nat :=
  let c6_335 : Index := 6#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v670 : Index := Scalar.indexCast v4
  let c0_336 : Index := 0#32
  ![6, v670.toNat, 0]
def k0_off63 (k0_t1 : Fin k0_t1_loop.trips) : Fin 4 → Nat :=
  let c7_342 : Index := 7#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v685 : Index := Scalar.indexCast v4
  let c0_343 : Index := 0#32
  let c0_344 : Index := 0#32
  ![7, v685.toNat, 0, 0]
def k0_off64 (k0_t1 : Fin k0_t1_loop.trips) : Fin 3 → Nat :=
  let c7_347 : Index := 7#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v696 : Index := Scalar.indexCast v4
  let c0_348 : Index := 0#32
  ![7, v696.toNat, 0]
def k0_off65 (k0_t1 : Fin k0_t1_loop.trips) : Fin 4 → Nat :=
  let c8_354 : Index := 8#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v711 : Index := Scalar.indexCast v4
  let c0_355 : Index := 0#32
  let c0_356 : Index := 0#32
  ![8, v711.toNat, 0, 0]
def k0_off66 (k0_t1 : Fin k0_t1_loop.trips) : Fin 3 → Nat :=
  let c8_359 : Index := 8#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v722 : Index := Scalar.indexCast v4
  let c0_360 : Index := 0#32
  ![8, v722.toNat, 0]
def k0_off67 (k0_t1 : Fin k0_t1_loop.trips) : Fin 4 → Nat :=
  let c9_366 : Index := 9#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v737 : Index := Scalar.indexCast v4
  let c0_367 : Index := 0#32
  let c0_368 : Index := 0#32
  ![9, v737.toNat, 0, 0]
def k0_off68 (k0_t1 : Fin k0_t1_loop.trips) : Fin 3 → Nat :=
  let c9_371 : Index := 9#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v748 : Index := Scalar.indexCast v4
  let c0_372 : Index := 0#32
  ![9, v748.toNat, 0]
def k0_off69 (k0_t1 : Fin k0_t1_loop.trips) : Fin 4 → Nat :=
  let c10_378 : Index := 10#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v763 : Index := Scalar.indexCast v4
  let c0_379 : Index := 0#32
  let c0_380 : Index := 0#32
  ![10, v763.toNat, 0, 0]
def k0_off70 (k0_t1 : Fin k0_t1_loop.trips) : Fin 3 → Nat :=
  let c10_383 : Index := 10#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v774 : Index := Scalar.indexCast v4
  let c0_384 : Index := 0#32
  ![10, v774.toNat, 0]
def k0_off71 (k0_t1 : Fin k0_t1_loop.trips) : Fin 4 → Nat :=
  let c11_390 : Index := 11#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v789 : Index := Scalar.indexCast v4
  let c0_391 : Index := 0#32
  let c0_392 : Index := 0#32
  ![11, v789.toNat, 0, 0]
def k0_off72 (k0_t1 : Fin k0_t1_loop.trips) : Fin 3 → Nat :=
  let c11_395 : Index := 11#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v800 : Index := Scalar.indexCast v4
  let c0_396 : Index := 0#32
  ![11, v800.toNat, 0]
def k0_off73 (k0_t1 : Fin k0_t1_loop.trips) : Fin 4 → Nat :=
  let c12_402 : Index := 12#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v815 : Index := Scalar.indexCast v4
  let c0_403 : Index := 0#32
  let c0_404 : Index := 0#32
  ![12, v815.toNat, 0, 0]
def k0_off74 (k0_t1 : Fin k0_t1_loop.trips) : Fin 3 → Nat :=
  let c12_407 : Index := 12#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v826 : Index := Scalar.indexCast v4
  let c0_408 : Index := 0#32
  ![12, v826.toNat, 0]
def k0_off75 (k0_t1 : Fin k0_t1_loop.trips) : Fin 4 → Nat :=
  let c13_414 : Index := 13#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v841 : Index := Scalar.indexCast v4
  let c0_415 : Index := 0#32
  let c0_416 : Index := 0#32
  ![13, v841.toNat, 0, 0]
def k0_off76 (k0_t1 : Fin k0_t1_loop.trips) : Fin 3 → Nat :=
  let c13_419 : Index := 13#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v852 : Index := Scalar.indexCast v4
  let c0_420 : Index := 0#32
  ![13, v852.toNat, 0]
def k0_off77 (k0_t1 : Fin k0_t1_loop.trips) : Fin 4 → Nat :=
  let c14_426 : Index := 14#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v867 : Index := Scalar.indexCast v4
  let c0_427 : Index := 0#32
  let c0_428 : Index := 0#32
  ![14, v867.toNat, 0, 0]
def k0_off78 (k0_t1 : Fin k0_t1_loop.trips) : Fin 3 → Nat :=
  let c14_431 : Index := 14#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v878 : Index := Scalar.indexCast v4
  let c0_432 : Index := 0#32
  ![14, v878.toNat, 0]
def k0_off79 (k0_t1 : Fin k0_t1_loop.trips) : Fin 4 → Nat :=
  let c15_438 : Index := 15#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v893 : Index := Scalar.indexCast v4
  let c0_439 : Index := 0#32
  let c0_440 : Index := 0#32
  ![15, v893.toNat, 0, 0]
def k0_off80 (k0_t1 : Fin k0_t1_loop.trips) : Fin 3 → Nat :=
  let c15_443 : Index := 15#32
  let c7_i32 : BitVec 32 := 7#32
  let c0_i32_1 : BitVec 32 := 0#32
  let c1_i32 : BitVec 32 := 1#32
  let arg14 : BitVec 32 := Scf.iv c0_i32_1 c1_i32 k0_t1
  let v4 : BitVec 32 := Scalar.subi c7_i32 arg14
  let v904 : Index := Scalar.indexCast v4
  let c0_444 : Index := 0#32
  ![15, v904.toNat, 0]
def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_3 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_5 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x8x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x8x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x8x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16384x2048 : Shape := ⟨2, ![16384, 2048]⟩
abbrev S16x256x64x64 : Shape := ⟨4, ![16, 256, 64, 64]⟩
abbrev S16x256x128x128 : Shape := ⟨4, ![16, 256, 128, 128]⟩
abbrev S16x256x64 : Shape := ⟨3, ![16, 256, 64]⟩
abbrev S16x256x1 : Shape := ⟨3, ![16, 256, 1]⟩
abbrev S16x256 : Shape := ⟨2, ![16, 256]⟩
abbrev S256x64x16x128 : Shape := ⟨4, ![256, 64, 16, 128]⟩
abbrev S16x256x64x128 : Shape := ⟨4, ![16, 256, 64, 128]⟩
abbrev S_ : Shape := ⟨0, ![]⟩
abbrev S16x128x128 : Shape := ⟨3, ![16, 128, 128]⟩
abbrev S256x16x128x128 : Shape := ⟨4, ![256, 16, 128, 128]⟩
abbrev S256x16x64x128 : Shape := ⟨4, ![256, 16, 64, 128]⟩
abbrev S256x16x64x64 : Shape := ⟨4, ![256, 16, 64, 64]⟩
abbrev S256x16 : Shape := ⟨2, ![256, 16]⟩
abbrev S1x16x128x128 : Shape := ⟨4, ![1, 16, 128, 128]⟩
abbrev S1x16x64x128 : Shape := ⟨4, ![1, 16, 64, 128]⟩
abbrev S16x64x128 : Shape := ⟨3, ![16, 64, 128]⟩
abbrev S1x16x64x64 : Shape := ⟨4, ![1, 16, 64, 64]⟩
abbrev S16x64x64 : Shape := ⟨3, ![16, 64, 64]⟩
abbrev S1x16 : Shape := ⟨2, ![1, 16]⟩
abbrev S16 : Shape := ⟨1, ![16]⟩
abbrev S16x1x1 : Shape := ⟨3, ![16, 1, 1]⟩
abbrev S16x128x64 : Shape := ⟨3, ![16, 128, 64]⟩

abbrev nBuf : Space → Nat
  | .hbm => 156
  | .vmem => 0
  | .smem => 0
  | _ => 0

abbrev hbmTy0_0 (i : Nat) : BufTy := match i % 128 with
  | 0 => ⟨S16384x2048, .bf16⟩
  | 1 => ⟨S16384x2048, .bf16⟩
  | 2 => ⟨S16384x2048, .f32⟩
  | 3 => ⟨S16384x2048, .bf16⟩
  | 4 => ⟨S16x256x64x64, .bf16⟩
  | 5 => ⟨S16x256x128x128, .bf16⟩
  | 6 => ⟨S16x256x64, .f32⟩
  | 7 => ⟨S16384x2048, .f32⟩
  | 8 => ⟨S16x256x1, .f32⟩
  | 9 => ⟨S16x256, .f32⟩
  | 10 => ⟨S16x256, .f32⟩
  | 11 => ⟨S16x256x128x128, .f32⟩
  | 12 => ⟨S16384x2048, .f32⟩
  | 13 => ⟨S256x64x16x128, .f32⟩
  | 14 => ⟨S16x256x64x128, .f32⟩
  | 15 => ⟨S16384x2048, .f32⟩
  | 16 => ⟨S256x64x16x128, .f32⟩
  | 17 => ⟨S16x256x64x128, .f32⟩
  | 18 => ⟨S256x64x16x128, .f32⟩
  | 19 => ⟨S16x256x64x128, .f32⟩
  | 20 => ⟨S16384x2048, .f32⟩
  | 21 => ⟨S256x64x16x128, .f32⟩
  | 22 => ⟨S16x256x64x128, .f32⟩
  | 23 => ⟨S16x256x64x64, .f32⟩
  | 24 => ⟨S256x64x16x128, .f32⟩
  | 25 => ⟨S16x256x64x128, .f32⟩
  | 26 => ⟨S_, .f32⟩
  | 27 => ⟨S16x128x128, .f32⟩
  | 28 => ⟨S256x16x128x128, .f32⟩
  | 29 => ⟨S256x16x64x128, .f32⟩
  | 30 => ⟨S256x16x64x128, .f32⟩
  | 31 => ⟨S256x16x64x128, .f32⟩
  | 32 => ⟨S256x16x64x128, .f32⟩
  | 33 => ⟨S256x16x64x64, .f32⟩
  | 34 => ⟨S256x16, .f32⟩
  | 35 => ⟨S256x16x64x128, .f32⟩
  | 36 => ⟨S_, .f32⟩
  | 37 => ⟨S256x16x64x128, .f32⟩
  | 38 => ⟨S_, .f32⟩
  | 39 => ⟨S256x16x64x128, .f32⟩
  | 40 => ⟨S_, .f32⟩
  | 41 => ⟨S256x16, .f32⟩
  | 42 => ⟨S_, .i32⟩
  | 43 => ⟨S256x16x128x128, .f32⟩
  | 44 => ⟨S256x16x64x128, .f32⟩
  | 45 => ⟨S256x16x64x128, .f32⟩
  | 46 => ⟨S256x16x64x128, .f32⟩
  | 47 => ⟨S256x16x64x128, .f32⟩
  | 48 => ⟨S256x16x64x64, .f32⟩
  | 49 => ⟨S256x16, .f32⟩
  | 50 => ⟨S256x16x64x128, .f32⟩
  | 51 => ⟨S_, .i32⟩
  | 52 => ⟨S16x128x128, .f32⟩
  | 53 => ⟨S256x16x64x128, .f32⟩
  | 54 => ⟨S256x16x64x128, .f32⟩
  | 55 => ⟨S256x16, .f32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S1x16x128x128, .f32⟩
  | 66 => ⟨S16x128x128, .f32⟩
  | 67 => ⟨S_, .i32⟩
  | 68 => ⟨S_, .i32⟩
  | 69 => ⟨S_, .i32⟩
  | 70 => ⟨S1x16x64x128, .f32⟩
  | 71 => ⟨S16x64x128, .f32⟩
  | 72 => ⟨S_, .i32⟩
  | 73 => ⟨S_, .i32⟩
  | 74 => ⟨S_, .i32⟩
  | 75 => ⟨S1x16x64x128, .f32⟩
  | 76 => ⟨S16x64x128, .f32⟩
  | 77 => ⟨S_, .i32⟩
  | 78 => ⟨S_, .i32⟩
  | 79 => ⟨S_, .i32⟩
  | 80 => ⟨S1x16x64x128, .f32⟩
  | 81 => ⟨S16x64x128, .f32⟩
  | 82 => ⟨S_, .i32⟩
  | 83 => ⟨S_, .i32⟩
  | 84 => ⟨S_, .i32⟩
  | 85 => ⟨S1x16x64x128, .f32⟩
  | 86 => ⟨S16x64x128, .f32⟩
  | 87 => ⟨S_, .i32⟩
  | 88 => ⟨S_, .i32⟩
  | 89 => ⟨S_, .i32⟩
  | 90 => ⟨S1x16x64x64, .f32⟩
  | 91 => ⟨S16x64x64, .f32⟩
  | 92 => ⟨S_, .i32⟩
  | 93 => ⟨S1x16, .f32⟩
  | 94 => ⟨S16, .f32⟩
  | 95 => ⟨S_, .i32⟩
  | 96 => ⟨S_, .i32⟩
  | 97 => ⟨S_, .i32⟩
  | 98 => ⟨S1x16x64x128, .f32⟩
  | 99 => ⟨S16x64x128, .f32⟩
  | 100 => ⟨S16x64x128, .f32⟩
  | 101 => ⟨S16x64x128, .f32⟩
  | 102 => ⟨S16x64x128, .f32⟩
  | 103 => ⟨S16x64x128, .f32⟩
  | 104 => ⟨S16x64x128, .f32⟩
  | 105 => ⟨S16x1x1, .f32⟩
  | 106 => ⟨S16x128x128, .f32⟩
  | 107 => ⟨S16x128x128, .f32⟩
  | 108 => ⟨S16x128x128, .f32⟩
  | 109 => ⟨S16x128x128, .f32⟩
  | 110 => ⟨S16x128x64, .f32⟩
  | 111 => ⟨S16x64x128, .f32⟩
  | 112 => ⟨S16x128x64, .f32⟩
  | 113 => ⟨S16x64x128, .f32⟩
  | 114 => ⟨S16x128x128, .f32⟩
  | 115 => ⟨S_, .f32⟩
  | 116 => ⟨S16, .f32⟩
  | 117 => ⟨S16x1x1, .f32⟩
  | 118 => ⟨S16x128x128, .f32⟩
  | 119 => ⟨S16x128x128, .f32⟩
  | 120 => ⟨S_, .f32⟩
  | 121 => ⟨S16, .f32⟩
  | 122 => ⟨S16x128x64, .f32⟩
  | 123 => ⟨S16x64x128, .f32⟩
  | 124 => ⟨S16x64x128, .f32⟩
  | 125 => ⟨S16x128x128, .f32⟩
  | 126 => ⟨S16x128x128, .f32⟩
  | 127 => ⟨S16x128x128, .f32⟩
  | _ => ⟨S16384x2048, .bf16⟩

abbrev hbmTy0_1 (i : Nat) : BufTy := match i % 128 with
  | 0 => ⟨S16x64x128, .f32⟩
  | 1 => ⟨S16x128x128, .f32⟩
  | 2 => ⟨S16x128x128, .f32⟩
  | 3 => ⟨S16x128x128, .f32⟩
  | 4 => ⟨S1x16x64x128, .f32⟩
  | 5 => ⟨S_, .i32⟩
  | 6 => ⟨S_, .i32⟩
  | 7 => ⟨S_, .i32⟩
  | 8 => ⟨S256x16x64x128, .f32⟩
  | 9 => ⟨S1x16x64x128, .f32⟩
  | 10 => ⟨S_, .i32⟩
  | 11 => ⟨S_, .i32⟩
  | 12 => ⟨S_, .i32⟩
  | 13 => ⟨S256x16x64x128, .f32⟩
  | 14 => ⟨S1x16, .f32⟩
  | 15 => ⟨S_, .i32⟩
  | 16 => ⟨S256x16, .f32⟩
  | 17 => ⟨S_, .i32⟩
  | 18 => ⟨S_, .i32⟩
  | 19 => ⟨S16x256x64x128, .f32⟩
  | 20 => ⟨S256x64x16x128, .f32⟩
  | 21 => ⟨S16384x2048, .f32⟩
  | 22 => ⟨S16x256x64x128, .f32⟩
  | 23 => ⟨S256x64x16x128, .f32⟩
  | 24 => ⟨S16384x2048, .f32⟩
  | 25 => ⟨S16x256, .f32⟩
  | 26 => ⟨S16x256x1, .f32⟩
  | 27 => ⟨S16x256x64, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_c : Ref sig .tc := ⟨.hbm, 42, rfl⟩
abbrev main_v30_0 : Ref sig .tc := ⟨.hbm, 43, rfl⟩
abbrev main_v30_1 : Ref sig .tc := ⟨.hbm, 44, rfl⟩
abbrev main_v30_2 : Ref sig .tc := ⟨.hbm, 45, rfl⟩
abbrev main_v30_3 : Ref sig .tc := ⟨.hbm, 46, rfl⟩
abbrev main_v30_4 : Ref sig .tc := ⟨.hbm, 47, rfl⟩
abbrev main_v30_5 : Ref sig .tc := ⟨.hbm, 48, rfl⟩
abbrev main_v30_6 : Ref sig .tc := ⟨.hbm, 49, rfl⟩
abbrev main_v30_7 : Ref sig .tc := ⟨.hbm, 50, rfl⟩
abbrev main_v30_8 : Ref sig .tc := ⟨.hbm, 51, rfl⟩
abbrev main_v30_9 : Ref sig .tc := ⟨.hbm, 52, rfl⟩
abbrev main_v30_10 : Ref sig .tc := ⟨.hbm, 53, rfl⟩
abbrev main_v30_11 : Ref sig .tc := ⟨.hbm, 54, rfl⟩
abbrev main_v30_12 : Ref sig .tc := ⟨.hbm, 55, rfl⟩
abbrev main_while0c_c_15 : Ref sig .tc := ⟨.hbm, 56, rfl⟩
abbrev main_while0c_v40 : Ref sig .tc := ⟨.hbm, 57, rfl⟩
abbrev main_while0b_c_15 : Ref sig .tc := ⟨.hbm, 58, rfl⟩
abbrev main_while0b_v40 : Ref sig .tc := ⟨.hbm, 59, rfl⟩
abbrev main_while0b_c_16 : Ref sig .tc := ⟨.hbm, 60, rfl⟩
abbrev main_while0b_v41 : Ref sig .tc := ⟨.hbm, 61, rfl⟩
abbrev main_while0b_call0_c : Ref sig .tc := ⟨.hbm, 62, rfl⟩
abbrev main_while0b_call0_c_0 : Ref sig .tc := ⟨.hbm, 63, rfl⟩
abbrev main_while0b_call0_c_1 : Ref sig .tc := ⟨.hbm, 64, rfl⟩
abbrev main_while0b_call0_v0 : Ref sig .tc := ⟨.hbm, 65, rfl⟩
abbrev main_while0b_v42 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_v0 : Ref sig .tc := ⟨.hbm, 70, rfl⟩
abbrev main_while0b_v43 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_v0 : Ref sig .tc := ⟨.hbm, 75, rfl⟩
abbrev main_while0b_v44 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_v0 : Ref sig .tc := ⟨.hbm, 80, rfl⟩
abbrev main_while0b_v45 : Ref sig .tc := ⟨.hbm, 81, rfl⟩
abbrev main_while0b_call4_c : Ref sig .tc := ⟨.hbm, 82, rfl⟩
abbrev main_while0b_call4_c_0 : Ref sig .tc := ⟨.hbm, 83, rfl⟩
abbrev main_while0b_call4_c_1 : Ref sig .tc := ⟨.hbm, 84, rfl⟩
abbrev main_while0b_call4_v0 : Ref sig .tc := ⟨.hbm, 85, rfl⟩
abbrev main_while0b_v46 : Ref sig .tc := ⟨.hbm, 86, rfl⟩
abbrev main_while0b_call5_c : Ref sig .tc := ⟨.hbm, 87, rfl⟩
abbrev main_while0b_call5_c_0 : Ref sig .tc := ⟨.hbm, 88, rfl⟩
abbrev main_while0b_call5_c_1 : Ref sig .tc := ⟨.hbm, 89, rfl⟩
abbrev main_while0b_call5_v0 : Ref sig .tc := ⟨.hbm, 90, rfl⟩
abbrev main_while0b_v47 : Ref sig .tc := ⟨.hbm, 91, rfl⟩
abbrev main_while0b_call6_c : Ref sig .tc := ⟨.hbm, 92, rfl⟩
abbrev main_while0b_call6_v0 : Ref sig .tc := ⟨.hbm, 93, rfl⟩
abbrev main_while0b_v48 : Ref sig .tc := ⟨.hbm, 94, rfl⟩
abbrev main_while0b_call7_c : Ref sig .tc := ⟨.hbm, 95, rfl⟩
abbrev main_while0b_call7_c_0 : Ref sig .tc := ⟨.hbm, 96, rfl⟩
abbrev main_while0b_call7_c_1 : Ref sig .tc := ⟨.hbm, 97, rfl⟩
abbrev main_while0b_call7_v0 : Ref sig .tc := ⟨.hbm, 98, rfl⟩
abbrev main_while0b_v49 : Ref sig .tc := ⟨.hbm, 99, rfl⟩
abbrev main_while0b_v50 : Ref sig .tc := ⟨.hbm, 100, rfl⟩
abbrev main_while0b_v51 : Ref sig .tc := ⟨.hbm, 101, rfl⟩
abbrev main_while0b_v52 : Ref sig .tc := ⟨.hbm, 102, rfl⟩
abbrev main_while0b_v53 : Ref sig .tc := ⟨.hbm, 103, rfl⟩
abbrev main_while0b_v54 : Ref sig .tc := ⟨.hbm, 104, rfl⟩
abbrev main_while0b_v55 : Ref sig .tc := ⟨.hbm, 105, rfl⟩
abbrev main_while0b_v56 : Ref sig .tc := ⟨.hbm, 106, rfl⟩
abbrev main_while0b_v57 : Ref sig .tc := ⟨.hbm, 107, rfl⟩
abbrev main_while0b_v58 : Ref sig .tc := ⟨.hbm, 108, rfl⟩
abbrev main_while0b_v59 : Ref sig .tc := ⟨.hbm, 109, rfl⟩
abbrev main_while0b_v60 : Ref sig .tc := ⟨.hbm, 110, rfl⟩
abbrev main_while0b_v61 : Ref sig .tc := ⟨.hbm, 111, rfl⟩
abbrev main_while0b_v62 : Ref sig .tc := ⟨.hbm, 112, rfl⟩
abbrev main_while0b_v63 : Ref sig .tc := ⟨.hbm, 113, rfl⟩
abbrev main_while0b_v64 : Ref sig .tc := ⟨.hbm, 114, rfl⟩
abbrev main_while0b_cst_17 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_cst_18 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_v72 : Ref sig .tc := ⟨.hbm, 124, rfl⟩
abbrev main_while0b_v73 : Ref sig .tc := ⟨.hbm, 125, rfl⟩
abbrev main_while0b_v74 : Ref sig .tc := ⟨.hbm, 126, rfl⟩
abbrev main_while0b_v75 : Ref sig .tc := ⟨.hbm, 127, rfl⟩
abbrev main_while0b_v76 : Ref sig .tc := ⟨.hbm, 128, rfl⟩
abbrev main_while0b_v77 : Ref sig .tc := ⟨.hbm, 129, rfl⟩
abbrev main_while0b_v78 : Ref sig .tc := ⟨.hbm, 130, rfl⟩
abbrev main_while0b_v79 : Ref sig .tc := ⟨.hbm, 131, rfl⟩
abbrev main_while0b_call8_v0 : Ref sig .tc := ⟨.hbm, 132, rfl⟩
abbrev main_while0b_call8_c : Ref sig .tc := ⟨.hbm, 133, rfl⟩
abbrev main_while0b_call8_c_0 : Ref sig .tc := ⟨.hbm, 134, rfl⟩
abbrev main_while0b_call8_c_1 : Ref sig .tc := ⟨.hbm, 135, rfl⟩
abbrev main_while0b_v80 : Ref sig .tc := ⟨.hbm, 136, rfl⟩
abbrev main_while0b_call9_v0 : Ref sig .tc := ⟨.hbm, 137, rfl⟩
abbrev main_while0b_call9_c : Ref sig .tc := ⟨.hbm, 138, rfl⟩
abbrev main_while0b_call9_c_0 : Ref sig .tc := ⟨.hbm, 139, rfl⟩
abbrev main_while0b_call9_c_1 : Ref sig .tc := ⟨.hbm, 140, rfl⟩
abbrev main_while0b_v81 : Ref sig .tc := ⟨.hbm, 141, rfl⟩
abbrev main_while0b_call10_v0 : Ref sig .tc := ⟨.hbm, 142, rfl⟩
abbrev main_while0b_call10_c : Ref sig .tc := ⟨.hbm, 143, rfl⟩
abbrev main_while0b_v82 : Ref sig .tc := ⟨.hbm, 144, rfl⟩
abbrev main_while0b_c_19 : Ref sig .tc := ⟨.hbm, 145, rfl⟩
abbrev main_while0b_v83 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_v37 : Ref sig .tc := ⟨.hbm, 153, rfl⟩
abbrev main_v38 : Ref sig .tc := ⟨.hbm, 154, rfl⟩
abbrev main_v39 : Ref sig .tc := ⟨.hbm, 155, rfl⟩

abbrev nD : Nat := 1
abbrev τ : Topo := Topo.v7x

variable {F : FTy → Type} [FloatOps F]

abbrev main_while0_count : Scf.Loop 32 := ⟨0#32, 256#32, 1#32⟩
-- ==== KernelW.lean ====
abbrev S16384x1024 : Shape := ⟨2, ![16384, 1024]⟩
abbrev S1x1024 : Shape := ⟨2, ![1, 1024]⟩
abbrev S16384x2048 : Shape := ⟨2, ![16384, 2048]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S2048x128 : Shape := ⟨2, ![2048, 128]⟩
abbrev S2048x2048 : Shape := ⟨2, ![2048, 2048]⟩

abbrev nBuf : Space → Nat
  | .hbm => 34
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x2048, .bf16⟩
  | .hbm, ⟨3, _⟩ => ⟨S16384x2048, .bf16⟩
  | .hbm, ⟨4, _⟩ => ⟨S16384x1024, .bf16⟩
  | .hbm, ⟨5, _⟩ => ⟨S16384x1024, .bf16⟩
  | .hbm, ⟨6, _⟩ => ⟨S16384x32, .f32⟩
  | .hbm, ⟨7, _⟩ => ⟨S16384x2048, .bf16⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S1024x2048, .f32⟩
  | .hbm, ⟨29, _⟩ => ⟨S1024x2048, .f32⟩
  | .hbm, ⟨30, _⟩ => ⟨S1024x1024, .f32⟩
  | .hbm, ⟨31, _⟩ => ⟨S1024x1024, .f32⟩
  | .hbm, ⟨32, _⟩ => ⟨S1024x128, .f32⟩
  | .hbm, ⟨33, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .f32⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S2048x1024, .bf16⟩
  | .local _ .vmem, ⟨21, _⟩ => ⟨S1024x1024, .f32⟩
  | .local _ .vmem, ⟨22, _⟩ => ⟨S2048x1024, .bf16⟩
  | .local _ .vmem, ⟨23, _⟩ => ⟨S2048x1024, .bf16⟩
  | .local _ .vmem, ⟨24, _⟩ => ⟨S2048x128, .f32⟩
  | .local _ .vmem, ⟨25, _⟩ => ⟨S2048x128, .f32⟩
  | .local _ .vmem, ⟨26, _⟩ => ⟨S1024x128, .f32⟩
  | .local _ .vmem, ⟨27, _⟩ => ⟨S2048x2048, .bf16⟩
  | .local _ .vmem, ⟨28, _⟩ => ⟨S2048x2048, .bf16⟩
  | .local _ .vmem, ⟨29, _⟩ => ⟨S2048x1024, .f32⟩
  | .local _ .vmem, ⟨30, _⟩ => ⟨S2048x1024, .f32⟩
  | .local _ .vmem, ⟨31, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S2048x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]
-- ==== ReferenceWIdeal.lean ====
abbrev S16384x1024 : Shape := ⟨2, ![16384, 1024]⟩
abbrev S1x1024 : Shape := ⟨2, ![1, 1024]⟩
abbrev S16384x2048 : Shape := ⟨2, ![16384, 2048]⟩
abbrev S16384x32 : Shape := ⟨2, ![16384, 32]⟩
abbrev S16384x6176 : Shape := ⟨2, ![16384, 6176]⟩
abbrev S_ : Shape := ⟨0, ![]⟩
abbrev S16384 : Shape := ⟨1, ![16384]⟩
abbrev S16384x1 : Shape := ⟨2, ![16384, 1]⟩
abbrev S1024x6176 : Shape := ⟨2, ![1024, 6176]⟩
abbrev S2048x1024 : Shape := ⟨2, ![2048, 1024]⟩
abbrev S1024x2048 : Shape := ⟨2, ![1024, 2048]⟩
abbrev S6176x1024 : Shape := ⟨2, ![6176, 1024]⟩
abbrev S1024x1024 : Shape := ⟨2, ![1024, 1024]⟩
abbrev S1024x32 : Shape := ⟨2, ![1024, 32]⟩
abbrev S1024x128 : Shape := ⟨2, ![1024, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x2048, .bf16⟩
  | .hbm, ⟨3, _⟩ => ⟨S16384x2048, .bf16⟩
  | .hbm, ⟨4, _⟩ => ⟨S16384x1024, .bf16⟩
  | .hbm, ⟨5, _⟩ => ⟨S16384x1024, .bf16⟩
  | .hbm, ⟨6, _⟩ => ⟨S16384x32, .f32⟩
  | .hbm, ⟨7, _⟩ => ⟨S16384x2048, .bf16⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S16384x6176, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024x6176, .f32⟩
  | .hbm, ⟨31, _⟩ => ⟨S_, .f32⟩
  | .hbm, ⟨32, _⟩ => ⟨S2048x1024, .f32⟩
  | .hbm, ⟨33, _⟩ => ⟨S16384x6176, .f32⟩
  | .hbm, ⟨34, _⟩ => ⟨S16384x2048, .f32⟩
  | .hbm, ⟨35, _⟩ => ⟨S16384x1024, .f32⟩
  | .hbm, ⟨36, _⟩ => ⟨S1024x2048, .f32⟩
  | .hbm, ⟨37, _⟩ => ⟨S2048x1024, .f32⟩
  | .hbm, ⟨38, _⟩ => ⟨S6176x1024, .f32⟩
  | .hbm, ⟨39, _⟩ => ⟨S1024x6176, .f32⟩
  | .hbm, ⟨40, _⟩ => ⟨S1024x2048, .f32⟩
  | .hbm, ⟨41, _⟩ => ⟨S1024x2048, .f32⟩
  | .hbm, ⟨42, _⟩ => ⟨S1024x1024, .f32⟩
  | .hbm, ⟨43, _⟩ => ⟨S1024x1024, .f32⟩
  | .hbm, ⟨44, _⟩ => ⟨S1024x32, .f32⟩
  | .hbm, ⟨45, _⟩ => ⟨S_, .i32⟩
  | .hbm, ⟨46, _⟩ => ⟨S_, .f32⟩
  | .hbm, ⟨47, _⟩ => ⟨S1024x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== KernelG.lean ====
abbrev S16384x1024 : Shape := ⟨2, ![16384, 1024]⟩
abbrev S1x1024 : Shape := ⟨2, ![1, 1024]⟩
abbrev S16384x2048 : Shape := ⟨2, ![16384, 2048]⟩
abbrev S16384x32 : Shape := ⟨2, ![16384, 32]⟩
abbrev S_ : Shape := ⟨0, ![]⟩
abbrev S16384 : Shape := ⟨1, ![16384]⟩
abbrev S16384x1 : Shape := ⟨2, ![16384, 1]⟩
abbrev S16384x128 : Shape := ⟨2, ![16384, 128]⟩
abbrev S1024x1024 : Shape := ⟨2, ![1024, 1024]⟩
abbrev S2048x1024 : Shape := ⟨2, ![2048, 1024]⟩
abbrev S1024x2048 : Shape := ⟨2, ![1024, 2048]⟩
abbrev S1024x128 : Shape := ⟨2, ![1024, 128]⟩
abbrev S2048x128 : Shape := ⟨2, ![2048, 128]⟩
abbrev S2048x2048 : Shape := ⟨2, ![2048, 2048]⟩

abbrev nBuf : Space → Nat
  | .hbm => 34
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S16384x1024, .bf16⟩
  | .hbm, ⟨4, _⟩ => ⟨S16384x2048, .bf16⟩
  | .hbm, ⟨5, _⟩ => ⟨S16384x2048, .bf16⟩
  | .hbm, ⟨6, _⟩ => ⟨S16384x32, .f32⟩
  | .hbm, ⟨7, _⟩ => ⟨S16384x2048, .bf16⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .bf16⟩
  | .hbm, ⟨25, _⟩ => ⟨S_, .i32⟩
  | .hbm, ⟨26, _⟩ => ⟨S_, .f32⟩
  | .hbm, ⟨27, _⟩ => ⟨S16384x128, .f32⟩
  | .hbm, ⟨28, _⟩ => ⟨S1024x1024, .f32⟩
  | .hbm, ⟨29, _⟩ => ⟨S1024x1024, .f32⟩
  | .hbm, ⟨30, _⟩ => ⟨S1024x2048, .f32⟩
  | .hbm, ⟨31, _⟩ => ⟨S1024x2048, .f32⟩
  | .hbm, ⟨32, _⟩ => ⟨S1024x128, .f32⟩
  | .hbm, ⟨33, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S1024x1024, .f32⟩
  | .local _ .vmem, ⟨10, _⟩ => ⟨S2048x1024, .bf16⟩
  | .local _ .vmem, ⟨11, _⟩ => ⟨S2048x1024, .bf16⟩
  | .local _ .vmem, ⟨12, _⟩ => ⟨S2048x1024, .bf16⟩
  | .local _ .vmem, ⟨13, _⟩ => ⟨S2048x1024, .bf16⟩
  | .local _ .vmem, ⟨14, _⟩ => ⟨S1024x1024, .f32⟩
  | .local _ .vmem, ⟨15, _⟩ => ⟨S1024x1024, .f32⟩
  | .local _ .vmem, ⟨16, _⟩ => ⟨S2048x1024, .bf16⟩
  | .local _ .vmem, ⟨17, _⟩ => ⟨S2048x1024, .bf16⟩
  | .local _ .vmem, ⟨18, _⟩ => ⟨S2048x1024, .bf16⟩
  | .local _ .vmem, ⟨19, _⟩ => ⟨S2048x1024, .bf16⟩
  | .local _ .vmem, ⟨20, _⟩ => ⟨S1024x1024, .f32⟩
  | .local _ .vmem, ⟨21, _⟩ => ⟨S1024x1024, .f32⟩
  | .local _ .vmem, ⟨22, _⟩ => ⟨S2048x1024, .bf16⟩
  | .local _ .vmem, ⟨23, _⟩ => ⟨S2048x1024, .bf16⟩
  | .local _ .vmem, ⟨24, _⟩ => ⟨S2048x128, .f32⟩
  | .local _ .vmem, ⟨25, _⟩ => ⟨S2048x128, .f32⟩
  | .local _ .vmem, ⟨26, _⟩ => ⟨S1024x128, .f32⟩
  | .local _ .vmem, ⟨27, _⟩ => ⟨S2048x2048, .bf16⟩
  | .local _ .vmem, ⟨28, _⟩ => ⟨S2048x2048, .bf16⟩
  | .local _ .vmem, ⟨29, _⟩ => ⟨S2048x1024, .f32⟩
  | .local _ .vmem, ⟨30, _⟩ => ⟨S2048x1024, .f32⟩
  | .local _ .vmem, ⟨31, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev grid1 : Pipeline.Grid := ⟨2, ![1, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![2, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1024x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S2048x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S2048x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 1 → Memref sig .tc .vmem S2048x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, false]
-- ==== ReferenceGIdeal.lean ====
abbrev S16384x1024 : Shape := ⟨2, ![16384, 1024]⟩
abbrev S1x1024 : Shape := ⟨2, ![1, 1024]⟩
abbrev S16384x2048 : Shape := ⟨2, ![16384, 2048]⟩
abbrev S16384x32 : Shape := ⟨2, ![16384, 32]⟩
abbrev S16384x6176 : Shape := ⟨2, ![16384, 6176]⟩
abbrev S_ : Shape := ⟨0, ![]⟩
abbrev S16384 : Shape := ⟨1, ![16384]⟩
abbrev S16384x1 : Shape := ⟨2, ![16384, 1]⟩
abbrev S1024x6176 : Shape := ⟨2, ![1024, 6176]⟩
abbrev S2048x1024 : Shape := ⟨2, ![2048, 1024]⟩
abbrev S1024x2048 : Shape := ⟨2, ![1024, 2048]⟩
abbrev S6176x1024 : Shape := ⟨2, ![6176, 1024]⟩
abbrev S1024x1024 : Shape := ⟨2, ![1024, 1024]⟩
abbrev S1024x32 : Shape := ⟨2, ![1024, 32]⟩
abbrev S1024x128 : Shape := ⟨2, ![1024, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S16384x1024, .bf16⟩
  | .hbm, ⟨3, _⟩ => ⟨S16384x1024, .bf16⟩
  | .hbm, ⟨4, _⟩ => ⟨S16384x2048, .bf16⟩
  | .hbm, ⟨5, _⟩ => ⟨S16384x2048, .bf16⟩
  | .hbm, ⟨6, _⟩ => ⟨S16384x32, .f32⟩
  | .hbm, ⟨7, _⟩ => ⟨S16384x2048, .bf16⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x6176, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S1024x6176, .f32⟩
  | .hbm, ⟨31, _⟩ => ⟨S_, .f32⟩
  | .hbm, ⟨32, _⟩ => ⟨S2048x1024, .f32⟩
  | .hbm, ⟨33, _⟩ => ⟨S16384x6176, .f32⟩
  | .hbm, ⟨34, _⟩ => ⟨S16384x2048, .f32⟩
  | .hbm, ⟨35, _⟩ => ⟨S16384x1024, .f32⟩
  | .hbm, ⟨36, _⟩ => ⟨S1024x2048, .f32⟩
  | .hbm, ⟨37, _⟩ => ⟨S2048x1024, .f32⟩
  | .hbm, ⟨38, _⟩ => ⟨S6176x1024, .f32⟩
  | .hbm, ⟨39, _⟩ => ⟨S1024x6176, .f32⟩
  | .hbm, ⟨40, _⟩ => ⟨S1024x1024, .f32⟩
  | .hbm, ⟨41, _⟩ => ⟨S1024x1024, .f32⟩
  | .hbm, ⟨42, _⟩ => ⟨S1024x2048, .f32⟩
  | .hbm, ⟨43, _⟩ => ⟨S1024x2048, .f32⟩
  | .hbm, ⟨44, _⟩ => ⟨S1024x32, .f32⟩
  | .hbm, ⟨45, _⟩ => ⟨S_, .i32⟩
  | .hbm, ⟨46, _⟩ => ⟨S_, .f32⟩
  | .hbm, ⟨47, _⟩ => ⟨S1024x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_call0_v0 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== KernelS.lean ====
abbrev S16384x1024 : Shape := ⟨2, ![16384, 1024]⟩
abbrev S1x1024 : Shape := ⟨2, ![1, 1024]⟩
abbrev S1024x6176 : Shape := ⟨2, ![1024, 6176]⟩
abbrev S16384x2048 : Shape := ⟨2, ![16384, 2048]⟩
abbrev S16384x32 : Shape := ⟨2, ![16384, 32]⟩
abbrev S1024x2048 : Shape := ⟨2, ![1024, 2048]⟩
abbrev S1024x1024 : Shape := ⟨2, ![1024, 1024]⟩
abbrev S1024x32 : Shape := ⟨2, ![1024, 32]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 22
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6176, .bf16⟩
  | .hbm, ⟨3, _⟩ => ⟨S16384x2048, .bf16⟩
  | .hbm, ⟨4, _⟩ => ⟨S16384x2048, .bf16⟩
  | .hbm, ⟨5, _⟩ => ⟨S16384x1024, .bf16⟩
  | .hbm, ⟨6, _⟩ => ⟨S16384x1024, .bf16⟩
  | .hbm, ⟨7, _⟩ => ⟨S16384x32, .f32⟩
  | .hbm, ⟨8, _⟩ => ⟨S16384x1024, .f32⟩
  | .hbm, ⟨9, _⟩ => ⟨S1024x2048, .bf16⟩
  | .hbm, ⟨10, _⟩ => ⟨S1024x2048, .bf16⟩
  | .hbm, ⟨11, _⟩ => ⟨S1024x1024, .bf16⟩
  | .hbm, ⟨12, _⟩ => ⟨S1024x1024, .bf16⟩
  | .hbm, ⟨13, _⟩ => ⟨S1024x32, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S16384x128, .f32⟩
  | .hbm, ⟨20, _⟩ => ⟨S16384x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | .local _ .vmem, ⟨15, _⟩ => ⟨S1024x2048, .bf16⟩
  | .local _ .vmem, ⟨16, _⟩ => ⟨S1024x2048, .bf16⟩
  | .local _ .vmem, ⟨17, _⟩ => ⟨S1024x1024, .bf16⟩
  | .local _ .vmem, ⟨18, _⟩ => ⟨S1024x1024, .bf16⟩
  | .local _ .vmem, ⟨19, _⟩ => ⟨S1024x128, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceSIdeal.lean ====
abbrev S16384x1024 : Shape := ⟨2, ![16384, 1024]⟩
abbrev S1x1024 : Shape := ⟨2, ![1, 1024]⟩
abbrev S1024x6176 : Shape := ⟨2, ![1024, 6176]⟩
abbrev S16384x2048 : Shape := ⟨2, ![16384, 2048]⟩
abbrev S16384x32 : Shape := ⟨2, ![16384, 32]⟩
abbrev S16384x6176 : Shape := ⟨2, ![16384, 6176]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6176, .bf16⟩
  | .hbm, ⟨3, _⟩ => ⟨S16384x2048, .bf16⟩
  | .hbm, ⟨4, _⟩ => ⟨S16384x2048, .bf16⟩
  | .hbm, ⟨5, _⟩ => ⟨S16384x1024, .bf16⟩
  | .hbm, ⟨6, _⟩ => ⟨S16384x1024, .bf16⟩
  | .hbm, ⟨7, _⟩ => ⟨S16384x32, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S16384x6176, .f32⟩
  | .hbm, ⟨14, _⟩ => ⟨S1024x6176, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x6176, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== KernelX.lean ====
abbrev S16384x1024 : Shape := ⟨2, ![16384, 1024]⟩
abbrev S1x1024 : Shape := ⟨2, ![1, 1024]⟩
abbrev S1024x6176 : Shape := ⟨2, ![1024, 6176]⟩
abbrev S16384x2048 : Shape := ⟨2, ![16384, 2048]⟩
abbrev S16384x32 : Shape := ⟨2, ![16384, 32]⟩
abbrev S1024x1024 : Shape := ⟨2, ![1024, 1024]⟩
abbrev S1024x2048 : Shape := ⟨2, ![1024, 2048]⟩
abbrev S1024x32 : Shape := ⟨2, ![1024, 32]⟩
abbrev S_ : Shape := ⟨0, ![]⟩
abbrev S1024x128 : Shape := ⟨2, ![1024, 128]⟩
abbrev S16384x128 : Shape := ⟨2, ![16384, 128]⟩
abbrev S512x1024 : Shape := ⟨2, ![512, 1024]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S1024 : Shape := ⟨1, ![1024]⟩

abbrev nBuf : Space → Nat
  | .hbm => 22
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6176, .bf16⟩
  | .hbm, ⟨3, _⟩ => ⟨S16384x1024, .bf16⟩
  | .hbm, ⟨4, _⟩ => ⟨S16384x1024, .bf16⟩
  | .hbm, ⟨5, _⟩ => ⟨S16384x2048, .bf16⟩
  | .hbm, ⟨6, _⟩ => ⟨S16384x2048, .bf16⟩
  | .hbm, ⟨7, _⟩ => ⟨S16384x32, .f32⟩
  | .hbm, ⟨8, _⟩ => ⟨S16384x1024, .f32⟩
  | .hbm, ⟨9, _⟩ => ⟨S1024x1024, .bf16⟩
  | .hbm, ⟨10, _⟩ => ⟨S1024x1024, .bf16⟩
  | .hbm, ⟨11, _⟩ => ⟨S1024x2048, .bf16⟩
  | .hbm, ⟨12, _⟩ => ⟨S1024x2048, .bf16⟩
  | .hbm, ⟨13, _⟩ => ⟨S1024x32, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S16384x128, .f32⟩
  | .hbm, ⟨20, _⟩ => ⟨S16384x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x128, .f32⟩
  | .local _ .vmem, ⟨14, _⟩ => ⟨S512x128, .f32⟩
  | .local _ .vmem, ⟨15, _⟩ => ⟨S1024x1024, .bf16⟩
  | .local _ .vmem, ⟨16, _⟩ => ⟨S1024x1024, .bf16⟩
  | .local _ .vmem, ⟨17, _⟩ => ⟨S1024x2048, .bf16⟩
  | .local _ .vmem, ⟨18, _⟩ => ⟨S1024x2048, .bf16⟩
  | .local _ .vmem, ⟨19, _⟩ => ⟨S1024x128, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_v0 : Ref sig .tc := ⟨.hbm, 15, rfl⟩
abbrev main_v5 : Ref sig .tc := ⟨.hbm, 16, rfl⟩
abbrev main_c_0 : Ref sig .tc := ⟨.hbm, 17, rfl⟩
abbrev main_call1_v0 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceXIdeal.lean ====
abbrev S16384x1024 : Shape := ⟨2, ![16384, 1024]⟩
abbrev S1x1024 : Shape := ⟨2, ![1, 1024]⟩
abbrev S1024x6176 : Shape := ⟨2, ![1024, 6176]⟩
abbrev S16384x2048 : Shape := ⟨2, ![16384, 2048]⟩
abbrev S16384x32 : Shape := ⟨2, ![16384, 32]⟩
abbrev S16384x6176 : Shape := ⟨2, ![16384, 6176]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6176, .bf16⟩
  | .hbm, ⟨3, _⟩ => ⟨S16384x1024, .bf16⟩
  | .hbm, ⟨4, _⟩ => ⟨S16384x1024, .bf16⟩
  | .hbm, ⟨5, _⟩ => ⟨S16384x2048, .bf16⟩
  | .hbm, ⟨6, _⟩ => ⟨S16384x2048, .bf16⟩
  | .hbm, ⟨7, _⟩ => ⟨S16384x32, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x6176, .f32⟩
  | .hbm, ⟨14, _⟩ => ⟨S1024x6176, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x6176, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S_, .f32⟩
  | .hbm, ⟨54, _⟩ => ⟨S16384, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== KernelO.lean ====
abbrev S16384x2048 : Shape := ⟨2, ![16384, 2048]⟩
abbrev S1x128 : Shape := ⟨2, ![1, 128]⟩
abbrev S2048x1024 : Shape := ⟨2, ![2048, 1024]⟩
abbrev S16384x1024 : Shape := ⟨2, ![16384, 1024]⟩
abbrev S512x2048 : Shape := ⟨2, ![512, 2048]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x128, .f32⟩
  | .hbm, ⟨3, _⟩ => ⟨S2048x1024, .bf16⟩
  | .hbm, ⟨4, _⟩ => ⟨S16384x1024, .f32⟩
  | .hbm, ⟨5, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOIdeal.lean ====
abbrev S16384x2048 : Shape := ⟨2, ![16384, 2048]⟩
abbrev S1x128 : Shape := ⟨2, ![1, 128]⟩
abbrev S2048x1024 : Shape := ⟨2, ![2048, 1024]⟩
abbrev S16384x1024 : Shape := ⟨2, ![16384, 1024]⟩
abbrev S16384x16x128 : Shape := ⟨3, ![16384, 16, 128]⟩
abbrev S_ : Shape := ⟨0, ![]⟩
abbrev S16384x16 : Shape := ⟨2, ![16384, 16]⟩
abbrev S16384x16x1 : Shape := ⟨3, ![16384, 16, 1]⟩
abbrev S1x1x128 : Shape := ⟨3, ![1, 1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x128, .f32⟩
  | .hbm, ⟨3, _⟩ => ⟨S2048x1024, .bf16⟩
  | .hbm, ⟨4, _⟩ => ⟨S16384x1024, .f32⟩
  | .hbm, ⟨5, _⟩ => ⟨S16384x16x128, .f32⟩
  | .hbm, ⟨6, _⟩ => ⟨S16384x16x128, .f32⟩
  | .hbm, ⟨7, _⟩ => ⟨S_, .f32⟩
  | .hbm, ⟨8, _⟩ => ⟨S16384x16, .f32⟩
  | .hbm, ⟨9, _⟩ => ⟨S16384x16x1, .f32⟩
  | .hbm, ⟨10, _⟩ => ⟨S_, .f32⟩
  | .hbm, ⟨11, _⟩ => ⟨S16384x16x1, .f32⟩
  | .hbm, ⟨12, _⟩ => ⟨S16384x16x1, .f32⟩
  | .hbm, ⟨13, _⟩ => ⟨S_, .f32⟩
  | .hbm, ⟨14, _⟩ => ⟨S16384x16x1, .f32⟩
  | .hbm, ⟨15, _⟩ => ⟨S16384x16x1, .f32⟩
  | .hbm, ⟨16, _⟩ => ⟨S16384x16x1, .f32⟩
  | .hbm, ⟨17, _⟩ => ⟨S16384x16x128, .f32⟩
  | .hbm, ⟨18, _⟩ => ⟨S16384x16x128, .f32⟩
  | .hbm, ⟨19, _⟩ => ⟨S1x1x128, .f32⟩
  | .hbm, ⟨20, _⟩ => ⟨S16384x16x128, .f32⟩
  | .hbm, ⟨21, _⟩ => ⟨S16384x16x128, .f32⟩
  | .hbm, ⟨22, _⟩ => ⟨S16384x16x128, .f32⟩
  | .hbm, ⟨23, _⟩ => ⟨S16384x16x128, .f32⟩
  | .hbm, ⟨24, _⟩ => ⟨S16384x16x128, .f32⟩
  | .hbm, ⟨25, _⟩ => ⟨S_, .f32⟩
  | .hbm, ⟨26, _⟩ => ⟨S16384x16x128, .f32⟩
  | .hbm, ⟨27, _⟩ => ⟨S16384x16x128, .f32⟩
  | .hbm, ⟨28, _⟩ => ⟨S_, .f32⟩
  | .hbm, ⟨29, _⟩ => ⟨S16384x16x128, .f32⟩
  | .hbm, ⟨30, _⟩ => ⟨S16384x16x128, .f32⟩
  | .hbm, ⟨31, _⟩ => ⟨S16384x16x128, .f32⟩
  | .hbm, ⟨32, _⟩ => ⟨S16384x16x128, .f32⟩
  | .hbm, ⟨33, _⟩ => ⟨S16384x2048, .f32⟩
  | .hbm, ⟨34, _⟩ => ⟨S2048x1024, .f32⟩
  | .hbm, ⟨35, _⟩ => ⟨S16384x1024, .f32⟩
  | .hbm, ⟨36, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== KernelL.lean ====
abbrev S16384x2048 : Shape := ⟨2, ![16384, 2048]⟩
abbrev S1x2048 : Shape := ⟨2, ![1, 2048]⟩
abbrev S2048x1024 : Shape := ⟨2, ![2048, 1024]⟩
abbrev S16384x1024 : Shape := ⟨2, ![16384, 1024]⟩
abbrev S1024 : Shape := ⟨1, ![1024]⟩
abbrev S1x1024 : Shape := ⟨2, ![1, 1024]⟩
abbrev S1x1 : Shape := ⟨2, ![1, 1]⟩
abbrev S512x2048 : Shape := ⟨2, ![512, 2048]⟩
abbrev S512x1024 : Shape := ⟨2, ![512, 1024]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S512x512 : Shape := ⟨2, ![512, 512]⟩
abbrev S1 : Shape := ⟨1, ![1]⟩

abbrev nBuf : Space → Nat
  | .hbm => 11
  | .vmem => 17
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S2048x1024, .bf16⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S1x1024, .f32⟩
  | .hbm, ⟨10, _⟩ => ⟨S1x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1, .f32⟩
  | .local _ .vmem, ⟨15, _⟩ => ⟨S512x2048, .bf16⟩
  | .local _ .vmem, ⟨16, _⟩ => ⟨S1x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v292 : BitVec 1 := Scalar.cmpi .eq arg0 c31_i32
  let v293 : BitVec 32 := Scalar.extui v292
  let c0_i32_150 : BitVec 32 := 0#32
  let v294 : BitVec 1 := Scalar.cmpi .ne v293 c0_i32_150
  v294

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceLIdeal.lean ====
abbrev S16384x2048 : Shape := ⟨2, ![16384, 2048]⟩
abbrev S1x2048 : Shape := ⟨2, ![1, 2048]⟩
abbrev S2048x1024 : Shape := ⟨2, ![2048, 1024]⟩
abbrev S16384x1024 : Shape := ⟨2, ![16384, 1024]⟩
abbrev S1024 : Shape := ⟨1, ![1024]⟩
abbrev S_ : Shape := ⟨0, ![]⟩
abbrev S16384x8x256 : Shape := ⟨3, ![16384, 8, 256]⟩
abbrev S8x256 : Shape := ⟨2, ![8, 256]⟩
abbrev S16384x8 : Shape := ⟨2, ![16384, 8]⟩
abbrev S16384x8x1 : Shape := ⟨3, ![16384, 8, 1]⟩
abbrev S1x8x256 : Shape := ⟨3, ![1, 8, 256]⟩
abbrev S16384 : Shape := ⟨1, ![16384]⟩
abbrev S16384x1 : Shape := ⟨2, ![16384, 1]⟩
abbrev S1x1024 : Shape := ⟨2, ![1, 1024]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S1x2048, .f32⟩
  | .hbm, ⟨3, _⟩ => ⟨S2048x1024, .bf16⟩
  | .hbm, ⟨4, _⟩ => ⟨S16384x1024, .f32⟩
  | .hbm, ⟨5, _⟩ => ⟨S1024, .f32⟩
  | .hbm, ⟨6, _⟩ => ⟨S16384x1024, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x8x256, .f32⟩
  | .hbm, ⟨18, _⟩ => ⟨S8x256, .f32⟩
  | .hbm, ⟨19, _⟩ => ⟨S16384x8x256, .f32⟩
  | .hbm, ⟨20, _⟩ => ⟨S_, .f32⟩
  | .hbm, ⟨21, _⟩ => ⟨S16384x8, .f32⟩
  | .hbm, ⟨22, _⟩ => ⟨S16384x8x1, .f32⟩
  | .hbm, ⟨23, _⟩ => ⟨S_, .f32⟩
  | .hbm, ⟨24, _⟩ => ⟨S16384x8x1, .f32⟩
  | .hbm, ⟨25, _⟩ => ⟨S16384x8x1, .f32⟩
  | .hbm, ⟨26, _⟩ => ⟨S_, .f32⟩
  | .hbm, ⟨27, _⟩ => ⟨S16384x8x1, .f32⟩
  | .hbm, ⟨28, _⟩ => ⟨S16384x8x1, .f32⟩
  | .hbm, ⟨29, _⟩ => ⟨S16384x8x1, .f32⟩
  | .hbm, ⟨30, _⟩ => ⟨S16384x8x256, .f32⟩
  | .hbm, ⟨31, _⟩ => ⟨S16384x8x256, .f32⟩
  | .hbm, ⟨32, _⟩ => ⟨S1x8x256, .f32⟩
  | .hbm, ⟨33, _⟩ => ⟨S16384x8x256, .f32⟩
  | .hbm, ⟨34, _⟩ => ⟨S16384x8x256, .f32⟩
  | .hbm, ⟨35, _⟩ => ⟨S16384x2048, .f32⟩
  | .hbm, ⟨36, _⟩ => ⟨S2048x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S16384, .f32⟩
  | .hbm, ⟨77, _⟩ => ⟨S_, .f32⟩
  | .hbm, ⟨78, _⟩ => ⟨S16384, .f32⟩
  | .hbm, ⟨79, _⟩ => ⟨S16384, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S1024, .f32⟩
  | .hbm, ⟨90, _⟩ => ⟨S16384x1024, .f32⟩
  | .hbm, ⟨91, _⟩ => ⟨S_, .f32⟩
  | .hbm, ⟨92, _⟩ => ⟨S16384, .f32⟩
  | .hbm, ⟨93, _⟩ => ⟨S16384x1, .f32⟩
  | .hbm, ⟨94, _⟩ => ⟨S16384x1024, .f32⟩
  | .hbm, ⟨95, _⟩ => ⟨S16384x1024, .f32⟩
  | .hbm, ⟨96, _⟩ => ⟨S16384x1, .f32⟩
  | .hbm, ⟨97, _⟩ => ⟨S_, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S1x1024, .f32⟩
  | .hbm, ⟨108, _⟩ => ⟨S1x1, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_cst_11 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_cst_13 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_14 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_17 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩

abbrev nD : Nat := 1
abbrev τ : Topo := Topo.v7x

variable {F : FTy → Type} [FloatOps F]
-- ==== Proof.Same.lean ====
/- The idealized kernel is the kernel's own text: the two body tables are one. -/
module

public import proofs.«01_k».proof.Kernel
public import proofs.«01_k».proof.KernelIdeal
public import proofs.«01_k».proof.Proof.Gen.Kernel
public import proofs.«01_k».proof.Proof.Gen.KernelIdeal

@[expose] public section

set_option maxRecDepth 1000000

noncomputable section

namespace Cert.Same

open Idealize.ShloMosaic Idealize.SL.Sem

variable {F : FTy → Type} [FloatOps F]

/-- The two bodies are one function. -/
theorem body : Cert.Kernel.cc0_gdn_state_bwd (F := F) = Cert.KernelIdeal.cc0_gdn_state_bwd (F := F) := rfl

/-- The kernels' body tables agree. -/
theorem kernels : Cert.Kernel.defs₀ (F := F) = Cert.KernelIdeal.defs₀ (F := F) := by
  unfold Cert.Kernel.defs₀ Cert.KernelIdeal.defs₀
  refine congrArg _ (funext fun l => funext fun a => ?_)
  match l, a with
  | 0, (t, s) => exact by rfl

/-- The whole tables agree. -/
theorem tables : Cert.Kernel.defs (F := F) = Cert.KernelIdeal.defs (F := F) :=
  congrArg (Pipeline.defs Cert.KernelIdeal.pcfgs) kernels

end Cert.Same

end
-- ==== Proof.Block.lean ====
/- What one chunk of the backward recurrence computes, head by head, on the blocks of one grid point. -/
module

public import proofs.«01_k».proof.Proof.Gen.KernelIdeal.Loops
public import Idealize.ShloMosaic.Lib.ValueIdx
public import Idealize.ShloMosaic.Lib.WholeRead
public import Idealize.ShloMosaic.Lib.Pipeline.ReadBack
public import Idealize.ShloMosaic.Lib.Pipeline.ValueKit

@[expose] public section

noncomputable section

namespace Cert.KernelIdeal.Bwd

open Idealize.ShloMosaic Idealize.ShloMosaic.TcCoe Cert.KernelIdeal.Gen

variable {F : FTy → Type} [FloatOps F]

/-! ## The operations of one chunk and head -/

/-- The state of a head as a matrix. -/
def mat (s : Vec F S1x128x128 .f32) : FVec F S128x128 .f32 := shapeCast S128x128 s shapeCasts_S1x128x128_S128x128

/-- The gradient of the new values: the output's gradient through the intra-chunk weights, plus the keys times the
state's gradient. -/
def dvnOp (p : Vec F S1x1x64x64 .bf16) (d : Vec F S64x128 .f32) (k : Vec F S64x128 .bf16) (s : Vec F S1x128x128 .f32) :
    FVec F S64x128 .f32 :=
  addf (matmul dot_S64x64_S64x128_S64x128_0_0_1_1_n_n none (shapeCast S64x64 p shapeCasts_S1x1x64x64_S64x64)
      (truncf .bf16 d bitsLt_bf16_f32) (constant S64x128 .f32 0x00000000#32))
    (matmul dot_S64x128_S128x128_S64x128_1_0_0_1_n_n none k (truncf .bf16 (mat s) bitsLt_bf16_f32)
      (constant S64x128 .f32 0x00000000#32))

/-- The gradient of the decayed keys: the new values times the state's gradient, transposed. -/
def dkdOp (v : Vec F S64x128 .bf16) (s : Vec F S1x128x128 .f32) : FVec F S64x128 .f32 :=
  matmul dot_S64x128_S128x128_S64x128_1_1_0_0_n_n none (shapeCast S64x128 v shapeCasts_S64x128_S64x128)
    (truncf .bf16 (mat s) bitsLt_bf16_f32) (constant S64x128 .f32 0x00000000#32)

/-- The gradient of the chunk's decay: the sum of the state's gradient times the saved state, along a row of 64. -/
def dglOp (s : Vec F S1x128x128 .f32) (a : Vec F S1x1x128x128 .bf16) : FVec F S1x1x64 .f32 :=
  shapeCast S1x1x64 (broadcastTo S1x64 (shapeCast S1x1 (shapeCast S1x1 (multiReduction .add [1] S1
    (shapeCast S1x128 (multiReduction .add [0] S128
      (mulf (mat s) (extf .f32 (shapeCast S128x128 a shapeCasts_S1x1x128x128_S128x128) bitsLt_bf16_f32))
      0x00000000#32 reduces_S128x128_S128 (.inl rfl) rfl) shapeCasts_S128_S1x128)
    0x00000000#32 reduces_S1x128_S1 (.inl rfl) rfl) shapeCasts_S1_S1x1) shapeCasts_S1x1_S1x1)
    broadcasts_S1x1_S1x64) shapeCasts_S1x64_S1x1x64

/-- The state's gradient before the chunk: decayed, plus the queries' part, minus the written keys' part. -/
def dsOp (g : Vec F S1x1x1 .f32) (s : Vec F S1x128x128 .f32) (q : Vec F S64x128 .bf16) (d : Vec F S64x128 .f32)
    (w : Vec F S64x128 .bf16) (n : FVec F S64x128 .f32) : FVec F S1x128x128 .f32 :=
  shapeCast S1x128x128 (subf (addf
      (mulf (mat s) (broadcastTo S128x128 (exp (shapeCast S1x1 g shapeCasts_S1x1x1_S1x1)) broadcasts_S1x1_S128x128))
      (matmul dot_S64x128_S64x128_S128x128_0_0_1_1_n_n none q (truncf .bf16 d bitsLt_bf16_f32)
        (constant S128x128 .f32 0x00000000#32)))
    (matmul dot_S64x128_S64x128_S128x128_0_0_1_1_n_n none w (truncf .bf16 n bitsLt_bf16_f32)
      (constant S128x128 .f32 0x00000000#32))) shapeCasts_S128x128_S1x128x128

/-! ## The blocks one chunk and head reads -/

/-- Rows of chunk `n`, columns of head `h`. -/
def rowsAt {φ : EltTy} (X : Vec F S512x2048 φ) (n : Fin 8) (h : Fin 16) : Vec F S64x128 φ := fun j =>
  X (ix2 ⟨64 * n.val + (j 0).val, by have := ValueIdx.idx2_lt0 j; omega⟩ ⟨128 * h.val + (j 1).val, by have := ValueIdx.idx2_lt1 j; omega⟩)

/-- The intra-chunk weights of chunk `n`, head `h`. -/
def pmAt {φ : EltTy} (X : Vec F S16x8x64x64 φ) (n : Fin 8) (h : Fin 16) : Vec F S1x1x64x64 φ := fun j => X (ix4 h n (j 2) (j 3))

/-- The saved state of chunk `n`, head `h`. -/
def saAt {φ : EltTy} (X : Vec F S16x8x128x128 φ) (n : Fin 8) (h : Fin 16) : Vec F S1x1x128x128 φ := fun j => X (ix4 h n (j 2) (j 3))

/-- The last cumulative log decay of chunk `n`, head `h`. -/
def gcAt {φ : EltTy} (X : Vec F S16x8x64 φ) (n : Fin 8) (h : Fin 16) : Vec F S1x1x1 φ := fun _ => X (ix3 h n 63)

/-- The state of head `h`. -/
def stAt {φ : EltTy} (X : Vec F S16x128x128 φ) (h : Fin 16) : Vec F S1x128x128 φ := fun j => X (ix3 h (j 1) (j 2))

/-! ## The loads are those blocks -/

section Loads

variable {φ : EltTy}

theorem load_rows {m : Memref sig .tc .vmem S512x2048 φ} (hm : m.IsWhole) (X : Vec F S512x2048 φ) {k : ℕ} (hk : k < 8)
    (h : Fin 16) {off : Fin 2 → ℕ} (eo : off = ![448 - 64 * k, 128 * h.val]) (inb) :
    View.readAt (Elt F) m.view (Rect.unit (s := S512x2048) off S64x128.size inb).toLoadRect (hm.unread X)
      = rowsAt X ⟨7 - k, by omega⟩ h := by
  subst eo
  funext j
  rw [hm.readAt_unread]
  refine congrArg X (funext fun a => Fin.ext ?_)
  match a with
  | ⟨0, _⟩ => show 448 - 64 * k + 1 * (j 0).val = 64 * (7 - k) + (j 0).val; omega
  | ⟨1, _⟩ => show 128 * h.val + 1 * (j 1).val = 128 * h.val + (j 1).val; omega

theorem load_pm {m : Memref sig .tc .vmem S16x8x64x64 φ} (hm : m.IsWhole) (X : Vec F S16x8x64x64 φ) {k : ℕ} (hk : k < 8)
    (h : Fin 16) {off : Fin 4 → ℕ} (eo : off = ![h.val, 7 - k, 0, 0]) (inb) :
    View.readAt (Elt F) m.view (Rect.unit (s := S16x8x64x64) off S1x1x64x64.size inb).toLoadRect (hm.unread X)
      = pmAt X ⟨7 - k, by omega⟩ h := by
  subst eo
  funext j
  rw [hm.readAt_unread]
  refine congrArg X (funext fun a => Fin.ext ?_)
  match a with
  | ⟨0, _⟩ => have h0 : (j 0).val < 1 := (j 0).isLt; show h.val + 1 * (j 0).val = h.val; omega
  | ⟨1, _⟩ => have h0 : (j 1).val < 1 := (j 1).isLt; show 7 - k + 1 * (j 1).val = 7 - k; omega
  | ⟨2, _⟩ => show 0 + 1 * (j 2).val = (j 2).val; omega
  | ⟨3, _⟩ => show 0 + 1 * (j 3).val = (j 3).val; omega

theorem load_sa {m : Memref sig .tc .vmem S16x8x128x128 φ} (hm : m.IsWhole) (X : Vec F S16x8x128x128 φ) {k : ℕ} (hk : k < 8)
    (h : Fin 16) {off : Fin 4 → ℕ} (eo : off = ![h.val, 7 - k, 0, 0]) (inb) :
    View.readAt (Elt F) m.view (Rect.unit (s := S16x8x128x128) off S1x1x128x128.size inb).toLoadRect (hm.unread X)
      = saAt X ⟨7 - k, by omega⟩ h := by
  subst eo
  funext j
  rw [hm.readAt_unread]
  refine congrArg X (funext fun a => Fin.ext ?_)
  match a with
  | ⟨0, _⟩ => have h0 : (j 0).val < 1 := (j 0).isLt; show h.val + 1 * (j 0).val = h.val; omega
  | ⟨1, _⟩ => have h0 : (j 1).val < 1 := (j 1).isLt; show 7 - k + 1 * (j 1).val = 7 - k; omega
  | ⟨2, _⟩ => show 0 + 1 * (j 2).val = (j 2).val; omega
  | ⟨3, _⟩ => show 0 + 1 * (j 3).val = (j 3).val; omega

theorem load_gc {m : Memref sig .tc .vmem S16x8x64 φ} (hm : m.IsWhole) (X : Vec F S16x8x64 φ) {k : ℕ} (hk : k < 8)
    (h : Fin 16) {off : Fin 3 → ℕ} (eo : off = ![h.val, 7 - k, 63]) (inb) :
    View.readAt (Elt F) m.view (Rect.unit (s := S16x8x64) off S1x1x1.size inb).toLoadRect (hm.unread X)
      = gcAt X ⟨7 - k, by omega⟩ h := by
  subst eo
  funext j
  rw [hm.readAt_unread]
  refine congrArg X (funext fun a => Fin.ext ?_)
  match a with
  | ⟨0, _⟩ => have h0 : (j 0).val < 1 := (j 0).isLt; show h.val + 1 * (j 0).val = h.val; omega
  | ⟨1, _⟩ => have h0 : (j 1).val < 1 := (j 1).isLt; show 7 - k + 1 * (j 1).val = 7 - k; omega
  | ⟨2, _⟩ => have h0 : (j 2).val < 1 := (j 2).isLt; show 63 + 1 * (j 2).val = 63; omega

theorem load_st {m : Memref sig .tc .vmem S16x128x128 φ} (hm : m.IsWhole) (X : Vec F S16x128x128 φ)
    (h : Fin 16) {off : Fin 3 → ℕ} (eo : off = ![h.val, 0, 0]) (inb) :
    View.readAt (Elt F) m.view (Rect.unit (s := S16x128x128) off S1x128x128.size inb).toLoadRect (hm.unread X)
      = stAt X h := by
  subst eo
  funext j
  rw [hm.readAt_unread]
  refine congrArg X (funext fun a => Fin.ext ?_)
  match a with
  | ⟨0, _⟩ => have h0 : (j 0).val < 1 := (j 0).isLt; show h.val + 1 * (j 0).val = h.val; omega
  | ⟨1, _⟩ => show 0 + 1 * (j 1).val = (j 1).val; omega
  | ⟨2, _⟩ => show 0 + 1 * (j 2).val = (j 2).val; omega

end Loads

/-! ## The blocks of a grid point, and what its eight chunks leave -/

/-- The input blocks of one grid point: queries, keys, written keys, intra-chunk weights, new values, saved states, log
decays and the output's gradient. -/
structure Blk (F : FTy → Type) where
  q : Vec F S512x2048 .bf16
  k : Vec F S512x2048 .bf16
  w : Vec F S512x2048 .bf16
  pm : Vec F S16x8x64x64 .bf16
  vn : Vec F S512x2048 .bf16
  sa : Vec F S16x8x128x128 .bf16
  gc : Vec F S16x8x64 .f32
  d : Vec F S512x2048 .f32

namespace Blk

/-- The gradient of the new values of chunk `n`, head `h`, the state's gradient after the chunk being `S`. -/
def dvn (B : Blk F) (n : Fin 8) (h : Fin 16) (S : Vec F S16x128x128 .f32) : FVec F S64x128 .f32 :=
  dvnOp (pmAt B.pm n h) (rowsAt B.d n h) (rowsAt B.k n h) (stAt S h)

/-- The gradient of the decayed keys of chunk `n`, head `h`. -/
def dkd (B : Blk F) (n : Fin 8) (h : Fin 16) (S : Vec F S16x128x128 .f32) : FVec F S64x128 .f32 :=
  dkdOp (rowsAt B.vn n h) (stAt S h)

/-- The gradient of the decay of chunk `n`, head `h`. -/
def dgl (B : Blk F) (n : Fin 8) (h : Fin 16) (S : Vec F S16x128x128 .f32) : FVec F S1x1x64 .f32 :=
  dglOp (stAt S h) (saAt B.sa n h)

/-- The state's gradient of head `h` before chunk `n`. -/
def ds (B : Blk F) (n : Fin 8) (h : Fin 16) (S : Vec F S16x128x128 .f32) : FVec F S1x128x128 .f32 :=
  dsOp (gcAt B.gc n h) (stAt S h) (rowsAt B.q n h) (rowsAt B.d n h) (rowsAt B.w n h) (B.dvn n h S)

/-- The state's gradient, every head, before chunk `n`. -/
def next (B : Blk F) (n : Fin 8) (S : Vec F S16x128x128 .f32) : Vec F S16x128x128 .f32 := fun j =>
  B.ds n (j 0) S (ix3 0 (j 1) (j 2))

/-- The state's gradient after `k` of the point's chunks, taken from the last chunk down. -/
def st (B : Blk F) (S : Vec F S16x128x128 .f32) : ℕ → Vec F S16x128x128 .f32
  | 0 => S
  | k + 1 => B.next ⟨7 - k, by omega⟩ (B.st S k)

/-- The point's block of the new values' gradient. -/
def outV (B : Blk F) (S : Vec F S16x128x128 .f32) : Vec F S512x2048 .f32 := fun y =>
  B.dvn ⟨(y 0).val / 64, by have := ValueIdx.idx2_lt0 y; omega⟩ ⟨(y 1).val / 128, by have := ValueIdx.idx2_lt1 y; omega⟩
    (B.st S (7 - (y 0).val / 64)) (ix2 ⟨(y 0).val % 64, by omega⟩ ⟨(y 1).val % 128, by omega⟩)

/-- The point's block of the decayed keys' gradient. -/
def outK (B : Blk F) (S : Vec F S16x128x128 .f32) : Vec F S512x2048 .f32 := fun y =>
  B.dkd ⟨(y 0).val / 64, by have := ValueIdx.idx2_lt0 y; omega⟩ ⟨(y 1).val / 128, by have := ValueIdx.idx2_lt1 y; omega⟩
    (B.st S (7 - (y 0).val / 64)) (ix2 ⟨(y 0).val % 64, by omega⟩ ⟨(y 1).val % 128, by omega⟩)

/-- The point's block of the decays' gradient. -/
def outG (B : Blk F) (S : Vec F S16x128x128 .f32) : Vec F S16x8x64 .f32 := fun y =>
  B.dgl (y 1) (y 0) (B.st S (7 - (y 1).val)) (ix3 0 0 (y 2))

end Blk

/-! ## One chunk's stores are blocks of those -/

section Pieces

variable (B : Blk F) (S : Vec F S16x128x128 .f32) {k : ℕ} (hk : k < 8) (h : Fin 16)

theorem piece_rows (f : Fin 8 → Fin 16 → Vec F S16x128x128 .f32 → FVec F S64x128 .f32)
    {off : Fin 2 → ℕ} (eo : off = ![448 - 64 * k, 128 * h.val]) (inb)
    (x : (Rect.unit (s := S512x2048) off S64x128.size inb).shape.Idx) :
    f ⟨7 - k, by omega⟩ h (B.st S k) x
      = (fun y : S512x2048.Idx => f ⟨(y 0).val / 64, by have := ValueIdx.idx2_lt0 y; omega⟩
          ⟨(y 1).val / 128, by have := ValueIdx.idx2_lt1 y; omega⟩
          (B.st S (7 - (y 0).val / 64)) (ix2 ⟨(y 0).val % 64, by omega⟩ ⟨(y 1).val % 128, by omega⟩))
        ((Rect.unit (s := S512x2048) off S64x128.size inb).emb x) := by
  subst eo
  have h0 : (x 0).val < 64 := (x 0).isLt
  have h1 : (x 1).val < 128 := (x 1).isLt
  set y := (Rect.unit (s := S512x2048) ![448 - 64 * k, 128 * h.val] S64x128.size inb).emb x with hy
  have y0 : (y 0).val = 448 - 64 * k + (x 0).val := ValueKit.rect_emb_unit_val _ _ _ x 0
  have y1 : (y 1).val = 128 * h.val + (x 1).val := ValueKit.rect_emb_unit_val _ _ _ x 1
  have a0 : (y 0).val / 64 = 7 - k := by omega
  have a1 : (y 1).val / 128 = h.val := by omega
  have b0 : (y 0).val % 64 = (x 0).val := by omega
  have b1 : (y 1).val % 128 = (x 1).val := by omega
  have e : 7 - (y 0).val / 64 = k := by omega
  dsimp only
  have i0 : (⟨(y 0).val / 64, by have := ValueIdx.idx2_lt0 y; omega⟩ : Fin 8) = ⟨7 - k, by omega⟩ := Fin.ext a0
  have i1 : (⟨(y 1).val / 128, by have := ValueIdx.idx2_lt1 y; omega⟩ : Fin 16) = h := Fin.ext a1
  rw [i0, i1, e]
  refine congrArg (f ⟨7 - k, by omega⟩ h (B.st S k)) (funext fun a => Fin.ext ?_)
  match a with
  | ⟨0, _⟩ => exact b0.symm
  | ⟨1, _⟩ => exact b1.symm

theorem piece_dgl {off : Fin 3 → ℕ} (eo : off = ![h.val, 7 - k, 0]) (inb)
    (x : (Rect.unit (s := S16x8x64) off S1x1x64.size inb).shape.Idx) :
    B.dgl ⟨7 - k, by omega⟩ h (B.st S k) x
      = B.outG S ((Rect.unit (s := S16x8x64) off S1x1x64.size inb).emb x) := by
  subst eo
  have h0 : (x 0).val < 1 := (x 0).isLt
  have h1 : (x 1).val < 1 := (x 1).isLt
  set y := (Rect.unit (s := S16x8x64) ![h.val, 7 - k, 0] S1x1x64.size inb).emb x with hy
  have y0 : (y 0).val = h.val + (x 0).val := ValueKit.rect_emb_unit_val _ _ _ x 0
  have y1 : (y 1).val = 7 - k + (x 1).val := ValueKit.rect_emb_unit_val _ _ _ x 1
  have y2 : (y 2).val = 0 + (x 2).val := ValueKit.rect_emb_unit_val _ _ _ x 2
  have e : 7 - (y 1).val = k := by omega
  have i0 : (y 0 : Fin 16) = h := Fin.ext (by omega)
  have i1 : (y 1 : Fin 8) = ⟨7 - k, by omega⟩ := Fin.ext (by show (y 1).val = 7 - k; omega)
  unfold Blk.outG
  rw [e, i0, i1]
  refine congrArg (B.dgl ⟨7 - k, by omega⟩ h (B.st S k)) (funext fun a => Fin.ext ?_)
  match a with
  | ⟨0, _⟩ => show (x 0).val = 0; omega
  | ⟨1, _⟩ => show (x 1).val = 0; omega
  | ⟨2, _⟩ => show (x 2).val = (y 2).val; omega

theorem piece_ds (n : Fin 8) (T : Vec F S16x128x128 .f32) {off : Fin 3 → ℕ} (eo : off = ![h.val, 0, 0]) (inb)
    (x : (Rect.unit (s := S16x128x128) off S1x128x128.size inb).shape.Idx) :
    B.ds n h T x = B.next n T ((Rect.unit (s := S16x128x128) off S1x128x128.size inb).emb x) := by
  subst eo
  have h0 : (x 0).val < 1 := (x 0).isLt
  set y := (Rect.unit (s := S16x128x128) ![h.val, 0, 0] S1x128x128.size inb).emb x with hy
  have y0 : (y 0).val = h.val + (x 0).val := ValueKit.rect_emb_unit_val _ _ _ x 0
  have y1 : (y 1).val = 0 + (x 1).val := ValueKit.rect_emb_unit_val _ _ _ x 1
  have y2 : (y 2).val = 0 + (x 2).val := ValueKit.rect_emb_unit_val _ _ _ x 2
  have i0 : (y 0 : Fin 16) = h := Fin.ext (by omega)
  unfold Blk.next
  rw [i0]
  refine congrArg (B.ds n h T) (funext fun a => Fin.ext ?_)
  match a with
  | ⟨0, _⟩ => show (x 0).val = 0; omega
  | ⟨1, _⟩ => show (x 1).val = (y 1).val; omega
  | ⟨2, _⟩ => show (x 2).val = (y 2).val; omega

end Pieces

end Cert.KernelIdeal.Bwd

end
-- ==== Proof.Trip.lean ====
/- One trip of the backward recurrence's loop: the pieces it writes are blocks of the point's results. -/
module

public import proofs.«01_k».proof.Proof.Block

@[expose] public section

set_option maxRecDepth 8192

noncomputable section

namespace Cert.KernelIdeal.Bwd

open Idealize.ShloMosaic Idealize.ShloMosaic.TcCoe Cert.KernelIdeal.Gen

variable {F : FTy → Type} [FloatOps F]

theorem trips_lt (k : Fin k0_t1_loop.trips) : k.val < 8 := Nat.lt_of_lt_of_le k.isLt k0_t1_abs.2.1

/-! ## Each head's stores -/

section Heads

variable (B : Blk F) (S : Vec F S16x128x128 .f32) {k : ℕ} (hk : k < 8) (h : Fin 16)
  {arg2 : Memref sig .tc .vmem S512x2048 .bf16} (harg2 : arg2.IsWhole)
  {arg3 : Memref sig .tc .vmem S512x2048 .bf16} (harg3 : arg3.IsWhole)
  {arg4 : Memref sig .tc .vmem S512x2048 .bf16} (harg4 : arg4.IsWhole)
  {arg5 : Memref sig .tc .vmem S16x8x64x64 .bf16} (harg5 : arg5.IsWhole)
  {arg6 : Memref sig .tc .vmem S512x2048 .bf16} (harg6 : arg6.IsWhole)
  {arg7 : Memref sig .tc .vmem S16x8x128x128 .bf16} (harg7 : arg7.IsWhole)
  {arg8 : Memref sig .tc .vmem S16x8x64 .f32} (harg8 : arg8.IsWhole)
  {arg9 : Memref sig .tc .vmem S512x2048 .f32} (harg9 : arg9.IsWhole)
  {arg13 : Memref sig .tc .vmem S16x128x128 .f32} (harg13 : arg13.IsWhole)
  {o17 : Fin 2 → ℕ} (e17 : o17 = ![448 - 64 * k, 128 * h.val]) (i17 : ∀ a, o17 a + S64x128.size a ≤ S512x2048.size a)
  {o33 : Fin 4 → ℕ} (e33 : o33 = ![h.val, 7 - k, 0, 0])
  (i33 : ∀ a, o33 a + S1x1x64x64.size a ≤ S16x8x64x64.size a) (i49 : ∀ a, o33 a + S1x1x128x128.size a ≤ S16x8x128x128.size a)
  {o1 : Fin 3 → ℕ} (e1 : o1 = ![h.val, 7 - k, 63]) (i1 : ∀ a, o1 a + S1x1x1.size a ≤ S16x8x64.size a)
  {oS : Fin 3 → ℕ} (eS : oS = ![h.val, 0, 0]) (iS : ∀ a, oS a + S1x128x128.size a ≤ S16x128x128.size a)

include hk e17 e33 eS

theorem head_dvn (T : Vec F S16x128x128 .f32) :
    dvnOp (View.readAt (Elt F) arg5.view (Rect.unit (s := S16x8x64x64) o33 S1x1x64x64.size i33).toLoadRect (harg5.unread B.pm))
      (View.readAt (Elt F) arg9.view (Rect.unit (s := S512x2048) o17 S64x128.size i17).toLoadRect (harg9.unread B.d))
      (View.readAt (Elt F) arg3.view (Rect.unit (s := S512x2048) o17 S64x128.size i17).toLoadRect (harg3.unread B.k))
      (View.readAt (Elt F) arg13.view (Rect.unit (s := S16x128x128) oS S1x128x128.size iS).toLoadRect (harg13.unread T))
      = B.dvn ⟨7 - k, by omega⟩ h T := by
  rw [load_pm harg5 B.pm hk h e33, load_rows harg9 B.d hk h e17, load_rows harg3 B.k hk h e17, load_st harg13 T h eS]
  rfl

theorem head_outV (x) :
    dvnOp (View.readAt (Elt F) arg5.view (Rect.unit (s := S16x8x64x64) o33 S1x1x64x64.size i33).toLoadRect (harg5.unread B.pm))
      (View.readAt (Elt F) arg9.view (Rect.unit (s := S512x2048) o17 S64x128.size i17).toLoadRect (harg9.unread B.d))
      (View.readAt (Elt F) arg3.view (Rect.unit (s := S512x2048) o17 S64x128.size i17).toLoadRect (harg3.unread B.k))
      (View.readAt (Elt F) arg13.view (Rect.unit (s := S16x128x128) oS S1x128x128.size iS).toLoadRect (harg13.unread (B.st S k))) x
      = B.outV S ((Rect.unit (s := S512x2048) o17 S64x128.size i17).emb x) := by
  rw [head_dvn B hk h harg3 harg5 harg9 harg13 e17 i17 e33 i33 eS iS]
  exact piece_rows B S hk h B.dvn e17 i17 x

omit e33 in
theorem head_outK (x) :
    dkdOp (View.readAt (Elt F) arg6.view (Rect.unit (s := S512x2048) o17 S64x128.size i17).toLoadRect (harg6.unread B.vn))
      (View.readAt (Elt F) arg13.view (Rect.unit (s := S16x128x128) oS S1x128x128.size iS).toLoadRect (harg13.unread (B.st S k))) x
      = B.outK S ((Rect.unit (s := S512x2048) o17 S64x128.size i17).emb x) := by
  rw [load_rows harg6 B.vn hk h e17, load_st harg13 _ h eS]
  exact piece_rows B S hk h B.dkd e17 i17 x

omit e17 in
theorem head_outG {o50 : Fin 3 → ℕ} (e50 : o50 = ![h.val, 7 - k, 0]) (i50 : ∀ a, o50 a + S1x1x64.size a ≤ S16x8x64.size a) (x) :
    dglOp (View.readAt (Elt F) arg13.view (Rect.unit (s := S16x128x128) oS S1x128x128.size iS).toLoadRect (harg13.unread (B.st S k)))
      (View.readAt (Elt F) arg7.view (Rect.unit (s := S16x8x128x128) o33 S1x1x128x128.size i49).toLoadRect (harg7.unread B.sa)) x
      = B.outG S ((Rect.unit (s := S16x8x64) o50 S1x1x64.size i50).emb x) := by
  rw [load_sa harg7 B.sa hk h e33, load_st harg13 _ h eS]
  exact piece_dgl B S hk h e50 i50 x

include e1 in
theorem head_st (x) :
    dsOp (View.readAt (Elt F) arg8.view (Rect.unit (s := S16x8x64) o1 S1x1x1.size i1).toLoadRect (harg8.unread B.gc))
      (View.readAt (Elt F) arg13.view (Rect.unit (s := S16x128x128) oS S1x128x128.size iS).toLoadRect (harg13.unread S))
      (View.readAt (Elt F) arg2.view (Rect.unit (s := S512x2048) o17 S64x128.size i17).toLoadRect (harg2.unread B.q))
      (View.readAt (Elt F) arg9.view (Rect.unit (s := S512x2048) o17 S64x128.size i17).toLoadRect (harg9.unread B.d))
      (View.readAt (Elt F) arg4.view (Rect.unit (s := S512x2048) o17 S64x128.size i17).toLoadRect (harg4.unread B.w))
      (dvnOp (View.readAt (Elt F) arg5.view (Rect.unit (s := S16x8x64x64) o33 S1x1x64x64.size i33).toLoadRect (harg5.unread B.pm))
        (View.readAt (Elt F) arg9.view (Rect.unit (s := S512x2048) o17 S64x128.size i17).toLoadRect (harg9.unread B.d))
        (View.readAt (Elt F) arg3.view (Rect.unit (s := S512x2048) o17 S64x128.size i17).toLoadRect (harg3.unread B.k))
        (View.readAt (Elt F) arg13.view (Rect.unit (s := S16x128x128) oS S1x128x128.size iS).toLoadRect (harg13.unread S))) x
      = B.next ⟨7 - k, by omega⟩ S ((Rect.unit (s := S16x128x128) oS S1x128x128.size iS).emb x) := by
  rw [head_dvn B hk h harg3 harg5 harg9 harg13 e17 i17 e33 i33 eS iS, load_gc harg8 B.gc hk h e1, load_rows harg2 B.q hk h e17,
    load_rows harg9 B.d hk h e17, load_rows harg4 B.w hk h e17, load_st harg13 S h eS]
  exact piece_ds B h ⟨7 - k, by omega⟩ S eS iS x

end Heads

/-! ## The trip's four lists -/

section Trip

variable (𝒱 : Variants) (c : Dev nD) (bd : Option 𝒱.V) (i : grid0.Coords)
    (arg2 : Memref sig .tc .vmem S512x2048 .bf16) (harg2 : arg2.IsWhole)
    (arg3 : Memref sig .tc .vmem S512x2048 .bf16) (harg3 : arg3.IsWhole)
    (arg4 : Memref sig .tc .vmem S512x2048 .bf16) (harg4 : arg4.IsWhole)
    (arg5 : Memref sig .tc .vmem S16x8x64x64 .bf16) (harg5 : arg5.IsWhole)
    (arg6 : Memref sig .tc .vmem S512x2048 .bf16) (harg6 : arg6.IsWhole)
    (arg7 : Memref sig .tc .vmem S16x8x128x128 .bf16) (harg7 : arg7.IsWhole)
    (arg8 : Memref sig .tc .vmem S16x8x64 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .f32) (harg11 : arg11.IsWhole)
    (arg12 : Memref sig .tc .vmem S16x8x64 .f32) (harg12 : arg12.IsWhole)
    (arg13 : Memref sig .tc .vmem S16x128x128 .f32) (harg13 : arg13.IsWhole)
    (B : Blk F) (S : Vec F S16x128x128 .f32) (k : Fin k0_t1_loop.trips)
    (f10 : BufTy.Contents (Elt F) arg10.view.ty) (f11 : BufTy.Contents (Elt F) arg11.view.ty)
    (f12 : BufTy.Contents (Elt F) arg12.view.ty)

/-- The stores into the first output are blocks of the new values' gradient. -/
theorem trip_outV :
    View.PiecesOf (B.outV S)
      ((trip_k0_t1 (F := F) 𝒱 c bd i arg2 harg2 arg3 harg3 arg4 harg4 arg5 harg5 arg6 harg6 arg7 harg7 arg8 harg8 arg9 harg9
        arg10 harg10 arg11 harg11 arg12 harg12 arg13 harg13 (harg2.unread B.q) (harg3.unread B.k) (harg4.unread B.w)
        (harg5.unread B.pm) (harg6.unread B.vn) (harg7.unread B.sa) (harg8.unread B.gc) (harg9.unread B.d) k).1
        f10 f11 f12 (harg13.unread (B.st S k.val))) := by
  have hk := trips_lt k
  unfold trip_k0_t1
  dsimp only
  exact ⟨fun x => head_outV B S hk 15 harg3 harg5 harg9 harg13 (k0_off32_eq k) (k0_off32_inb k) (k0_off48_eq k) (k0_off48_inb k) (oS := ![15, 0, 0]) rfl inb_S16x128x128_S1x128x128_15_0_0 x,
    fun x => head_outV B S hk 14 harg3 harg5 harg9 harg13 (k0_off31_eq k) (k0_off31_inb k) (k0_off47_eq k) (k0_off47_inb k) (oS := ![14, 0, 0]) rfl inb_S16x128x128_S1x128x128_14_0_0 x,
    fun x => head_outV B S hk 13 harg3 harg5 harg9 harg13 (k0_off30_eq k) (k0_off30_inb k) (k0_off46_eq k) (k0_off46_inb k) (oS := ![13, 0, 0]) rfl inb_S16x128x128_S1x128x128_13_0_0 x,
    fun x => head_outV B S hk 12 harg3 harg5 harg9 harg13 (k0_off29_eq k) (k0_off29_inb k) (k0_off45_eq k) (k0_off45_inb k) (oS := ![12, 0, 0]) rfl inb_S16x128x128_S1x128x128_12_0_0 x,
    fun x => head_outV B S hk 11 harg3 harg5 harg9 harg13 (k0_off28_eq k) (k0_off28_inb k) (k0_off44_eq k) (k0_off44_inb k) (oS := ![11, 0, 0]) rfl inb_S16x128x128_S1x128x128_11_0_0 x,
    fun x => head_outV B S hk 10 harg3 harg5 harg9 harg13 (k0_off27_eq k) (k0_off27_inb k) (k0_off43_eq k) (k0_off43_inb k) (oS := ![10, 0, 0]) rfl inb_S16x128x128_S1x128x128_10_0_0 x,
    fun x => head_outV B S hk 9 harg3 harg5 harg9 harg13 (k0_off26_eq k) (k0_off26_inb k) (k0_off42_eq k) (k0_off42_inb k) (oS := ![9, 0, 0]) rfl inb_S16x128x128_S1x128x128_9_0_0 x,
    fun x => head_outV B S hk 8 harg3 harg5 harg9 harg13 (k0_off25_eq k) (k0_off25_inb k) (k0_off41_eq k) (k0_off41_inb k) (oS := ![8, 0, 0]) rfl inb_S16x128x128_S1x128x128_8_0_0 x,
    fun x => head_outV B S hk 7 harg3 harg5 harg9 harg13 (k0_off24_eq k) (k0_off24_inb k) (k0_off40_eq k) (k0_off40_inb k) (oS := ![7, 0, 0]) rfl inb_S16x128x128_S1x128x128_7_0_0 x,
    fun x => head_outV B S hk 6 harg3 harg5 harg9 harg13 (k0_off23_eq k) (k0_off23_inb k) (k0_off39_eq k) (k0_off39_inb k) (oS := ![6, 0, 0]) rfl inb_S16x128x128_S1x128x128_6_0_0 x,
    fun x => head_outV B S hk 5 harg3 harg5 harg9 harg13 (k0_off22_eq k) (k0_off22_inb k) (k0_off38_eq k) (k0_off38_inb k) (oS := ![5, 0, 0]) rfl inb_S16x128x128_S1x128x128_5_0_0 x,
    fun x => head_outV B S hk 4 harg3 harg5 harg9 harg13 (k0_off21_eq k) (k0_off21_inb k) (k0_off37_eq k) (k0_off37_inb k) (oS := ![4, 0, 0]) rfl inb_S16x128x128_S1x128x128_4_0_0 x,
    fun x => head_outV B S hk 3 harg3 harg5 harg9 harg13 (k0_off20_eq k) (k0_off20_inb k) (k0_off36_eq k) (k0_off36_inb k) (oS := ![3, 0, 0]) rfl inb_S16x128x128_S1x128x128_3_0_0 x,
    fun x => head_outV B S hk 2 harg3 harg5 harg9 harg13 (k0_off19_eq k) (k0_off19_inb k) (k0_off35_eq k) (k0_off35_inb k) (oS := ![2, 0, 0]) rfl inb_S16x128x128_S1x128x128_2_0_0 x,
    fun x => head_outV B S hk 1 harg3 harg5 harg9 harg13 (k0_off18_eq k) (k0_off18_inb k) (k0_off34_eq k) (k0_off34_inb k) (oS := ![1, 0, 0]) rfl inb_S16x128x128_S1x128x128_1_0_0 x,
    fun x => head_outV B S hk 0 harg3 harg5 harg9 harg13 (k0_off17_eq k) (k0_off17_inb k) (k0_off33_eq k) (k0_off33_inb k) (oS := ![0, 0, 0]) rfl inb_S16x128x128_S1x128x128_0_0_0 x,
    trivial⟩

/-- The stores into the second output are blocks of the decayed keys' gradient. -/
theorem trip_outK :
    View.PiecesOf (B.outK S)
      ((trip_k0_t1 (F := F) 𝒱 c bd i arg2 harg2 arg3 harg3 arg4 harg4 arg5 harg5 arg6 harg6 arg7 harg7 arg8 harg8 arg9 harg9
        arg10 harg10 arg11 harg11 arg12 harg12 arg13 harg13 (harg2.unread B.q) (harg3.unread B.k) (harg4.unread B.w)
        (harg5.unread B.pm) (harg6.unread B.vn) (harg7.unread B.sa) (harg8.unread B.gc) (harg9.unread B.d) k).2.1
        f10 f11 f12 (harg13.unread (B.st S k.val))) := by
  have hk := trips_lt k
  unfold trip_k0_t1
  dsimp only
  exact ⟨fun x => head_outK B S hk 15 harg6 harg13 (k0_off32_eq k) (k0_off32_inb k) (oS := ![15, 0, 0]) rfl inb_S16x128x128_S1x128x128_15_0_0 x,
    fun x => head_outK B S hk 14 harg6 harg13 (k0_off31_eq k) (k0_off31_inb k) (oS := ![14, 0, 0]) rfl inb_S16x128x128_S1x128x128_14_0_0 x,
    fun x => head_outK B S hk 13 harg6 harg13 (k0_off30_eq k) (k0_off30_inb k) (oS := ![13, 0, 0]) rfl inb_S16x128x128_S1x128x128_13_0_0 x,
    fun x => head_outK B S hk 12 harg6 harg13 (k0_off29_eq k) (k0_off29_inb k) (oS := ![12, 0, 0]) rfl inb_S16x128x128_S1x128x128_12_0_0 x,
    fun x => head_outK B S hk 11 harg6 harg13 (k0_off28_eq k) (k0_off28_inb k) (oS := ![11, 0, 0]) rfl inb_S16x128x128_S1x128x128_11_0_0 x,
    fun x => head_outK B S hk 10 harg6 harg13 (k0_off27_eq k) (k0_off27_inb k) (oS := ![10, 0, 0]) rfl inb_S16x128x128_S1x128x128_10_0_0 x,
    fun x => head_outK B S hk 9 harg6 harg13 (k0_off26_eq k) (k0_off26_inb k) (oS := ![9, 0, 0]) rfl inb_S16x128x128_S1x128x128_9_0_0 x,
    fun x => head_outK B S hk 8 harg6 harg13 (k0_off25_eq k) (k0_off25_inb k) (oS := ![8, 0, 0]) rfl inb_S16x128x128_S1x128x128_8_0_0 x,
    fun x => head_outK B S hk 7 harg6 harg13 (k0_off24_eq k) (k0_off24_inb k) (oS := ![7, 0, 0]) rfl inb_S16x128x128_S1x128x128_7_0_0 x,
    fun x => head_outK B S hk 6 harg6 harg13 (k0_off23_eq k) (k0_off23_inb k) (oS := ![6, 0, 0]) rfl inb_S16x128x128_S1x128x128_6_0_0 x,
    fun x => head_outK B S hk 5 harg6 harg13 (k0_off22_eq k) (k0_off22_inb k) (oS := ![5, 0, 0]) rfl inb_S16x128x128_S1x128x128_5_0_0 x,
    fun x => head_outK B S hk 4 harg6 harg13 (k0_off21_eq k) (k0_off21_inb k) (oS := ![4, 0, 0]) rfl inb_S16x128x128_S1x128x128_4_0_0 x,
    fun x => head_outK B S hk 3 harg6 harg13 (k0_off20_eq k) (k0_off20_inb k) (oS := ![3, 0, 0]) rfl inb_S16x128x128_S1x128x128_3_0_0 x,
    fun x => head_outK B S hk 2 harg6 harg13 (k0_off19_eq k) (k0_off19_inb k) (oS := ![2, 0, 0]) rfl inb_S16x128x128_S1x128x128_2_0_0 x,
    fun x => head_outK B S hk 1 harg6 harg13 (k0_off18_eq k) (k0_off18_inb k) (oS := ![1, 0, 0]) rfl inb_S16x128x128_S1x128x128_1_0_0 x,
    fun x => head_outK B S hk 0 harg6 harg13 (k0_off17_eq k) (k0_off17_inb k) (oS := ![0, 0, 0]) rfl inb_S16x128x128_S1x128x128_0_0_0 x,
    trivial⟩

/-- The stores into the third output are blocks of the decays' gradient. -/
theorem trip_outG :
    View.PiecesOf (B.outG S)
      ((trip_k0_t1 (F := F) 𝒱 c bd i arg2 harg2 arg3 harg3 arg4 harg4 arg5 harg5 arg6 harg6 arg7 harg7 arg8 harg8 arg9 harg9
        arg10 harg10 arg11 harg11 arg12 harg12 arg13 harg13 (harg2.unread B.q) (harg3.unread B.k) (harg4.unread B.w)
        (harg5.unread B.pm) (harg6.unread B.vn) (harg7.unread B.sa) (harg8.unread B.gc) (harg9.unread B.d) k).2.2.1
        f10 f11 f12 (harg13.unread (B.st S k.val))) := by
  have hk := trips_lt k
  unfold trip_k0_t1
  dsimp only
  exact ⟨fun x => head_outG B S hk 15 harg7 harg13 (k0_off79_eq k) (k0_off79_inb k) (oS := ![15, 0, 0]) rfl inb_S16x128x128_S1x128x128_15_0_0 (k0_off80_eq k) (k0_off80_inb k) x,
    fun x => head_outG B S hk 14 harg7 harg13 (k0_off77_eq k) (k0_off77_inb k) (oS := ![14, 0, 0]) rfl inb_S16x128x128_S1x128x128_14_0_0 (k0_off78_eq k) (k0_off78_inb k) x,
    fun x => head_outG B S hk 13 harg7 harg13 (k0_off75_eq k) (k0_off75_inb k) (oS := ![13, 0, 0]) rfl inb_S16x128x128_S1x128x128_13_0_0 (k0_off76_eq k) (k0_off76_inb k) x,
    fun x => head_outG B S hk 12 harg7 harg13 (k0_off73_eq k) (k0_off73_inb k) (oS := ![12, 0, 0]) rfl inb_S16x128x128_S1x128x128_12_0_0 (k0_off74_eq k) (k0_off74_inb k) x,
    fun x => head_outG B S hk 11 harg7 harg13 (k0_off71_eq k) (k0_off71_inb k) (oS := ![11, 0, 0]) rfl inb_S16x128x128_S1x128x128_11_0_0 (k0_off72_eq k) (k0_off72_inb k) x,
    fun x => head_outG B S hk 10 harg7 harg13 (k0_off69_eq k) (k0_off69_inb k) (oS := ![10, 0, 0]) rfl inb_S16x128x128_S1x128x128_10_0_0 (k0_off70_eq k) (k0_off70_inb k) x,
    fun x => head_outG B S hk 9 harg7 harg13 (k0_off67_eq k) (k0_off67_inb k) (oS := ![9, 0, 0]) rfl inb_S16x128x128_S1x128x128_9_0_0 (k0_off68_eq k) (k0_off68_inb k) x,
    fun x => head_outG B S hk 8 harg7 harg13 (k0_off65_eq k) (k0_off65_inb k) (oS := ![8, 0, 0]) rfl inb_S16x128x128_S1x128x128_8_0_0 (k0_off66_eq k) (k0_off66_inb k) x,
    fun x => head_outG B S hk 7 harg7 harg13 (k0_off63_eq k) (k0_off63_inb k) (oS := ![7, 0, 0]) rfl inb_S16x128x128_S1x128x128_7_0_0 (k0_off64_eq k) (k0_off64_inb k) x,
    fun x => head_outG B S hk 6 harg7 harg13 (k0_off61_eq k) (k0_off61_inb k) (oS := ![6, 0, 0]) rfl inb_S16x128x128_S1x128x128_6_0_0 (k0_off62_eq k) (k0_off62_inb k) x,
    fun x => head_outG B S hk 5 harg7 harg13 (k0_off59_eq k) (k0_off59_inb k) (oS := ![5, 0, 0]) rfl inb_S16x128x128_S1x128x128_5_0_0 (k0_off60_eq k) (k0_off60_inb k) x,
    fun x => head_outG B S hk 4 harg7 harg13 (k0_off57_eq k) (k0_off57_inb k) (oS := ![4, 0, 0]) rfl inb_S16x128x128_S1x128x128_4_0_0 (k0_off58_eq k) (k0_off58_inb k) x,
    fun x => head_outG B S hk 3 harg7 harg13 (k0_off55_eq k) (k0_off55_inb k) (oS := ![3, 0, 0]) rfl inb_S16x128x128_S1x128x128_3_0_0 (k0_off56_eq k) (k0_off56_inb k) x,
    fun x => head_outG B S hk 2 harg7 harg13 (k0_off53_eq k) (k0_off53_inb k) (oS := ![2, 0, 0]) rfl inb_S16x128x128_S1x128x128_2_0_0 (k0_off54_eq k) (k0_off54_inb k) x,
    fun x => head_outG B S hk 1 harg7 harg13 (k0_off51_eq k) (k0_off51_inb k) (oS := ![1, 0, 0]) rfl inb_S16x128x128_S1x128x128_1_0_0 (k0_off52_eq k) (k0_off52_inb k) x,
    fun x => head_outG B S hk 0 harg7 harg13 (k0_off49_eq k) (k0_off49_inb k) (oS := ![0, 0, 0]) rfl inb_S16x128x128_S1x128x128_0_0_0 (k0_off50_eq k) (k0_off50_inb k) x,
    trivial⟩

/-- The stores into the scratch are blocks of the state's gradient before the chunk. -/
theorem trip_st :
    View.PiecesOf (B.next ⟨7 - k.val, by omega⟩ S)
      ((trip_k0_t1 (F := F) 𝒱 c bd i arg2 harg2 arg3 harg3 arg4 harg4 arg5 harg5 arg6 harg6 arg7 harg7 arg8 harg8 arg9 harg9
        arg10 harg10 arg11 harg11 arg12 harg12 arg13 harg13 (harg2.unread B.q) (harg3.unread B.k) (harg4.unread B.w)
        (harg5.unread B.pm) (harg6.unread B.vn) (harg7.unread B.sa) (harg8.unread B.gc) (harg9.unread B.d) k).2.2.2.1
        f10 f11 f12 (harg13.unread S)) := by
  have hk := trips_lt k
  unfold trip_k0_t1
  dsimp only
  exact ⟨fun x => head_st B S hk 15 harg2 harg3 harg4 harg5 harg8 harg9 harg13 (k0_off32_eq k) (k0_off32_inb k) (k0_off48_eq k) (k0_off48_inb k) (k0_off16_eq k) (k0_off16_inb k) (oS := ![15, 0, 0]) rfl inb_S16x128x128_S1x128x128_15_0_0 x,
    fun x => head_st B S hk 14 harg2 harg3 harg4 harg5 harg8 harg9 harg13 (k0_off31_eq k) (k0_off31_inb k) (k0_off47_eq k) (k0_off47_inb k) (k0_off15_eq k) (k0_off15_inb k) (oS := ![14, 0, 0]) rfl inb_S16x128x128_S1x128x128_14_0_0 x,
    fun x => head_st B S hk 13 harg2 harg3 harg4 harg5 harg8 harg9 harg13 (k0_off30_eq k) (k0_off30_inb k) (k0_off46_eq k) (k0_off46_inb k) (k0_off14_eq k) (k0_off14_inb k) (oS := ![13, 0, 0]) rfl inb_S16x128x128_S1x128x128_13_0_0 x,
    fun x => head_st B S hk 12 harg2 harg3 harg4 harg5 harg8 harg9 harg13 (k0_off29_eq k) (k0_off29_inb k) (k0_off45_eq k) (k0_off45_inb k) (k0_off13_eq k) (k0_off13_inb k) (oS := ![12, 0, 0]) rfl inb_S16x128x128_S1x128x128_12_0_0 x,
    fun x => head_st B S hk 11 harg2 harg3 harg4 harg5 harg8 harg9 harg13 (k0_off28_eq k) (k0_off28_inb k) (k0_off44_eq k) (k0_off44_inb k) (k0_off12_eq k) (k0_off12_inb k) (oS := ![11, 0, 0]) rfl inb_S16x128x128_S1x128x128_11_0_0 x,
    fun x => head_st B S hk 10 harg2 harg3 harg4 harg5 harg8 harg9 harg13 (k0_off27_eq k) (k0_off27_inb k) (k0_off43_eq k) (k0_off43_inb k) (k0_off11_eq k) (k0_off11_inb k) (oS := ![10, 0, 0]) rfl inb_S16x128x128_S1x128x128_10_0_0 x,
    fun x => head_st B S hk 9 harg2 harg3 harg4 harg5 harg8 harg9 harg13 (k0_off26_eq k) (k0_off26_inb k) (k0_off42_eq k) (k0_off42_inb k) (k0_off10_eq k) (k0_off10_inb k) (oS := ![9, 0, 0]) rfl inb_S16x128x128_S1x128x128_9_0_0 x,
    fun x => head_st B S hk 8 harg2 harg3 harg4 harg5 harg8 harg9 harg13 (k0_off25_eq k) (k0_off25_inb k) (k0_off41_eq k) (k0_off41_inb k) (k0_off9_eq k) (k0_off9_inb k) (oS := ![8, 0, 0]) rfl inb_S16x128x128_S1x128x128_8_0_0 x,
    fun x => head_st B S hk 7 harg2 harg3 harg4 harg5 harg8 harg9 harg13 (k0_off24_eq k) (k0_off24_inb k) (k0_off40_eq k) (k0_off40_inb k) (k0_off8_eq k) (k0_off8_inb k) (oS := ![7, 0, 0]) rfl inb_S16x128x128_S1x128x128_7_0_0 x,
    fun x => head_st B S hk 6 harg2 harg3 harg4 harg5 harg8 harg9 harg13 (k0_off23_eq k) (k0_off23_inb k) (k0_off39_eq k) (k0_off39_inb k) (k0_off7_eq k) (k0_off7_inb k) (oS := ![6, 0, 0]) rfl inb_S16x128x128_S1x128x128_6_0_0 x,
    fun x => head_st B S hk 5 harg2 harg3 harg4 harg5 harg8 harg9 harg13 (k0_off22_eq k) (k0_off22_inb k) (k0_off38_eq k) (k0_off38_inb k) (k0_off6_eq k) (k0_off6_inb k) (oS := ![5, 0, 0]) rfl inb_S16x128x128_S1x128x128_5_0_0 x,
    fun x => head_st B S hk 4 harg2 harg3 harg4 harg5 harg8 harg9 harg13 (k0_off21_eq k) (k0_off21_inb k) (k0_off37_eq k) (k0_off37_inb k) (k0_off5_eq k) (k0_off5_inb k) (oS := ![4, 0, 0]) rfl inb_S16x128x128_S1x128x128_4_0_0 x,
    fun x => head_st B S hk 3 harg2 harg3 harg4 harg5 harg8 harg9 harg13 (k0_off20_eq k) (k0_off20_inb k) (k0_off36_eq k) (k0_off36_inb k) (k0_off4_eq k) (k0_off4_inb k) (oS := ![3, 0, 0]) rfl inb_S16x128x128_S1x128x128_3_0_0 x,
    fun x => head_st B S hk 2 harg2 harg3 harg4 harg5 harg8 harg9 harg13 (k0_off19_eq k) (k0_off19_inb k) (k0_off35_eq k) (k0_off35_inb k) (k0_off3_eq k) (k0_off3_inb k) (oS := ![2, 0, 0]) rfl inb_S16x128x128_S1x128x128_2_0_0 x,
    fun x => head_st B S hk 1 harg2 harg3 harg4 harg5 harg8 harg9 harg13 (k0_off18_eq k) (k0_off18_inb k) (k0_off34_eq k) (k0_off34_inb k) (k0_off2_eq k) (k0_off2_inb k) (oS := ![1, 0, 0]) rfl inb_S16x128x128_S1x128x128_1_0_0 x,
    fun x => head_st B S hk 0 harg2 harg3 harg4 harg5 harg8 harg9 harg13 (k0_off17_eq k) (k0_off17_inb k) (k0_off33_eq k) (k0_off33_inb k) (k0_off1_eq k) (k0_off1_inb k) (oS := ![0, 0, 0]) rfl inb_S16x128x128_S1x128x128_0_0_0 x,
    trivial⟩

end Trip

end Cert.KernelIdeal.Bwd

end
-- ==== Proof.Loop.lean ====
/- The loop of the backward recurrence's body: what its eight trips leave in the three outputs and the scratch. -/
module

public import proofs.«01_k».proof.Proof.Trip
public import Idealize.ShloMosaic.Lib.Ring

@[expose] public section

set_option maxRecDepth 8192

noncomputable section

namespace Cert.KernelIdeal.Bwd

open Idealize.ShloMosaic Idealize.ShloMosaic.TcCoe Idealize.ShloMosaic.Tactic Cert.KernelIdeal.Gen

variable {F : FTy → Type} [FloatOps F]

variable (𝒱 : Variants) (c : Dev nD) (bd : Option 𝒱.V) (i : grid0.Coords)
    (arg2 : Memref sig .tc .vmem S512x2048 .bf16) (harg2 : arg2.IsWhole)
    (arg3 : Memref sig .tc .vmem S512x2048 .bf16) (harg3 : arg3.IsWhole)
    (arg4 : Memref sig .tc .vmem S512x2048 .bf16) (harg4 : arg4.IsWhole)
    (arg5 : Memref sig .tc .vmem S16x8x64x64 .bf16) (harg5 : arg5.IsWhole)
    (arg6 : Memref sig .tc .vmem S512x2048 .bf16) (harg6 : arg6.IsWhole)
    (arg7 : Memref sig .tc .vmem S16x8x128x128 .bf16) (harg7 : arg7.IsWhole)
    (arg8 : Memref sig .tc .vmem S16x8x64 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .f32) (harg11 : arg11.IsWhole)
    (arg12 : Memref sig .tc .vmem S16x8x64 .f32) (harg12 : arg12.IsWhole)
    (arg13 : Memref sig .tc .vmem S16x128x128 .f32) (harg13 : arg13.IsWhole)

/-- The pieces of the trips before `n`, the buffers found at `g·`. -/
abbrev pieces (B : Blk F) (g10 : BufTy.Contents (Elt F) arg10.view.ty) (g11 : BufTy.Contents (Elt F) arg11.view.ty)
    (g12 : BufTy.Contents (Elt F) arg12.view.ty) (g13 : BufTy.Contents (Elt F) arg13.view.ty) (n : ℕ) :=
  pb_k0_t1 (F := F) 𝒱 c bd i arg2 harg2 arg3 harg3 arg4 harg4 arg5 harg5 arg6 harg6 arg7 harg7 arg8 harg8 arg9 harg9
      arg10 harg10 arg11 harg11 arg12 harg12 arg13 harg13
      (harg2.unread B.q) (harg3.unread B.k) (harg4.unread B.w)
      (harg5.unread B.pm) (harg6.unread B.vn) (harg7.unread B.sa) (harg8.unread B.gc) (harg9.unread B.d)
      g10 g11 g12 g13 n

/-- One trip's stores into the scratch cover it. -/
theorem trip_st_cover (B : Blk F) (k : Fin k0_t1_loop.trips) (f10 : BufTy.Contents (Elt F) arg10.view.ty)
    (f11 : BufTy.Contents (Elt F) arg11.view.ty) (f12 : BufTy.Contents (Elt F) arg12.view.ty)
    (f13 : BufTy.Contents (Elt F) arg13.view.ty) (y : S16x128x128.Idx) :
    ∃ p ∈ (trip_k0_t1 (F := F) 𝒱 c bd i arg2 harg2 arg3 harg3 arg4 harg4 arg5 harg5 arg6 harg6 arg7 harg7 arg8 harg8 arg9 harg9
      arg10 harg10 arg11 harg11 arg12 harg12 arg13 harg13
      (harg2.unread B.q) (harg3.unread B.k) (harg4.unread B.w)
      (harg5.unread B.pm) (harg6.unread B.vn) (harg7.unread B.sa) (harg8.unread B.gc) (harg9.unread B.d) k).2.2.2.1 f10 f11 f12 f13, y ∈ p.1.set :=
  View.cover_of_tiledL ((trip_k0_t1 (F := F) 𝒱 c bd i arg2 harg2 arg3 harg3 arg4 harg4 arg5 harg5 arg6 harg6 arg7 harg7 arg8 harg8 arg9 harg9
      arg10 harg10 arg11 harg11 arg12 harg12 arg13 harg13
      (harg2.unread B.q) (harg3.unread B.k) (harg4.unread B.w)
      (harg5.unread B.pm) (harg6.unread B.vn) (harg7.unread B.sa) (harg8.unread B.gc) (harg9.unread B.d) k).2.2.2.1 f10 f11 f12 f13) S1x128x128.size (by sl_kernel_rfl) y

variable (B : Blk F) (g10 : BufTy.Contents (Elt F) arg10.view.ty) (g11 : BufTy.Contents (Elt F) arg11.view.ty)
    (g12 : BufTy.Contents (Elt F) arg12.view.ty) (S : Vec F S16x128x128 .f32)

/-- The pieces, the scratch found at `S`. -/
abbrev piecesS (n : ℕ) := pieces 𝒱 c bd i arg2 harg2 arg3 harg3 arg4 harg4 arg5 harg5 arg6 harg6 arg7 harg7 arg8 harg8 arg9 harg9
      arg10 harg10 arg11 harg11 arg12 harg12 arg13 harg13
      B g10 g11 g12 (harg13.unread S) n

/-- After `n` trips the scratch holds the state's gradient after `n` chunks. -/
theorem scratch_after : ∀ n ≤ 8, arg13.view.writes (Elt F) (harg13.unread S)
      (piecesS 𝒱 c bd i arg2 harg2 arg3 harg3 arg4 harg4 arg5 harg5 arg6 harg6 arg7 harg7 arg8 harg8 arg9 harg9
      arg10 harg10 arg11 harg11 arg12 harg12 arg13 harg13 B g10 g11 g12 S n).2.2.2 = harg13.unread (B.st S n)
  | 0, _ => by
    unfold piecesS pieces; rw [pb_k0_t1.eq_1]; rfl
  | n + 1, hn => by
    have ih := scratch_after n (by omega)
    have e := pb_k0_t1_succ (F := F) 𝒱 c bd i arg2 harg2 arg3 harg3 arg4 harg4 arg5 harg5 arg6 harg6 arg7 harg7 arg8 harg8 arg9 harg9
      arg10 harg10 arg11 harg11 arg12 harg12 arg13 harg13
      (harg2.unread B.q) (harg3.unread B.k) (harg4.unread B.w)
      (harg5.unread B.pm) (harg6.unread B.vn) (harg7.unread B.sa) (harg8.unread B.gc) (harg9.unread B.d)
      g10 g11 g12 (harg13.unread S) ⟨n, show n < k0_t1_loop.trips from hn⟩
    unfold piecesS pieces at ih ⊢
    rw [e, View.writes_append, ih]
    refine harg13.eq_unread (funext fun y => ?_)
    exact View.read_writes_apply_of_pieces _ _ (B.next ⟨7 - n, by omega⟩ (B.st S n)) _
      (View.PiecesOf.mem (trip_st 𝒱 c bd i arg2 harg2 arg3 harg3 arg4 harg4 arg5 harg5 arg6 harg6 arg7 harg7 arg8 harg8 arg9 harg9
      arg10 harg10 arg11 harg11 arg12 harg12 arg13 harg13 B (B.st S n) ⟨n, show n < k0_t1_loop.trips from hn⟩ _ _ _)) y
      (trip_st_cover 𝒱 c bd i arg2 harg2 arg3 harg3 arg4 harg4 arg5 harg5 arg6 harg6 arg7 harg7 arg8 harg8 arg9 harg9
      arg10 harg10 arg11 harg11 arg12 harg12 arg13 harg13 B ⟨n, show n < k0_t1_loop.trips from hn⟩ _ _ _ _ y)

/-- Every store into the outputs, over `n` trips, is a block of the point's results. -/
theorem pieces_blocks : ∀ n ≤ 8,
    (∀ p ∈ (piecesS 𝒱 c bd i arg2 harg2 arg3 harg3 arg4 harg4 arg5 harg5 arg6 harg6 arg7 harg7 arg8 harg8 arg9 harg9
      arg10 harg10 arg11 harg11 arg12 harg12 arg13 harg13 B g10 g11 g12 S n).1, ∀ x, p.2 x = B.outV S (p.1.emb x))
    ∧ (∀ p ∈ (piecesS 𝒱 c bd i arg2 harg2 arg3 harg3 arg4 harg4 arg5 harg5 arg6 harg6 arg7 harg7 arg8 harg8 arg9 harg9
      arg10 harg10 arg11 harg11 arg12 harg12 arg13 harg13 B g10 g11 g12 S n).2.1, ∀ x, p.2 x = B.outK S (p.1.emb x))
    ∧ (∀ p ∈ (piecesS 𝒱 c bd i arg2 harg2 arg3 harg3 arg4 harg4 arg5 harg5 arg6 harg6 arg7 harg7 arg8 harg8 arg9 harg9
      arg10 harg10 arg11 harg11 arg12 harg12 arg13 harg13 B g10 g11 g12 S n).2.2.1, ∀ x, p.2 x = B.outG S (p.1.emb x))
  | 0, _ => by
    unfold piecesS pieces; rw [pb_k0_t1.eq_1]
    exact ⟨fun _ h => absurd h List.not_mem_nil, fun _ h => absurd h List.not_mem_nil, fun _ h => absurd h List.not_mem_nil⟩
  | n + 1, hn => by
    obtain ⟨h1, h2, h3⟩ := pieces_blocks n (by omega)
    have hs := scratch_after 𝒱 c bd i arg2 harg2 arg3 harg3 arg4 harg4 arg5 harg5 arg6 harg6 arg7 harg7 arg8 harg8 arg9 harg9
      arg10 harg10 arg11 harg11 arg12 harg12 arg13 harg13 B g10 g11 g12 S n (by omega)
    have e := pb_k0_t1_succ (F := F) 𝒱 c bd i arg2 harg2 arg3 harg3 arg4 harg4 arg5 harg5 arg6 harg6 arg7 harg7 arg8 harg8 arg9 harg9
      arg10 harg10 arg11 harg11 arg12 harg12 arg13 harg13
      (harg2.unread B.q) (harg3.unread B.k) (harg4.unread B.w)
      (harg5.unread B.pm) (harg6.unread B.vn) (harg7.unread B.sa) (harg8.unread B.gc) (harg9.unread B.d)
      g10 g11 g12 (harg13.unread S) ⟨n, show n < k0_t1_loop.trips from hn⟩
    unfold piecesS pieces at h1 h2 h3 hs ⊢
    rw [e, hs]
    refine ⟨fun p hp => ?_, fun p hp => ?_, fun p hp => ?_⟩
    · rcases List.mem_append.mp hp with hp | hp
      · exact View.PiecesOf.mem (trip_outV 𝒱 c bd i arg2 harg2 arg3 harg3 arg4 harg4 arg5 harg5 arg6 harg6 arg7 harg7 arg8 harg8 arg9 harg9
      arg10 harg10 arg11 harg11 arg12 harg12 arg13 harg13 B S ⟨n, show n < k0_t1_loop.trips from hn⟩ _ _ _) p hp
      · exact h1 p hp
    · rcases List.mem_append.mp hp with hp | hp
      · exact View.PiecesOf.mem (trip_outK 𝒱 c bd i arg2 harg2 arg3 harg3 arg4 harg4 arg5 harg5 arg6 harg6 arg7 harg7 arg8 harg8 arg9 harg9
      arg10 harg10 arg11 harg11 arg12 harg12 arg13 harg13 B S ⟨n, show n < k0_t1_loop.trips from hn⟩ _ _ _) p hp
      · exact h2 p hp
    · rcases List.mem_append.mp hp with hp | hp
      · exact View.PiecesOf.mem (trip_outG 𝒱 c bd i arg2 harg2 arg3 harg3 arg4 harg4 arg5 harg5 arg6 harg6 arg7 harg7 arg8 harg8 arg9 harg9
      arg10 harg10 arg11 harg11 arg12 harg12 arg13 harg13 B S ⟨n, show n < k0_t1_loop.trips from hn⟩ _ _ _) p hp
      · exact h3 p hp

/-! ## The eight trips cover the outputs -/

theorem cover_outV (y : S512x2048.Idx) :
    ∃ p ∈ (piecesS 𝒱 c bd i arg2 harg2 arg3 harg3 arg4 harg4 arg5 harg5 arg6 harg6 arg7 harg7 arg8 harg8 arg9 harg9
      arg10 harg10 arg11 harg11 arg12 harg12 arg13 harg13 B g10 g11 g12 S 8).1, y ∈ p.1.set :=
  View.cover_of_tiledL (piecesS 𝒱 c bd i arg2 harg2 arg3 harg3 arg4 harg4 arg5 harg5 arg6 harg6 arg7 harg7 arg8 harg8 arg9 harg9
      arg10 harg10 arg11 harg11 arg12 harg12 arg13 harg13 B g10 g11 g12 S 8).1 S64x128.size (by sl_kernel_rfl) y

theorem cover_outK (y : S512x2048.Idx) :
    ∃ p ∈ (piecesS 𝒱 c bd i arg2 harg2 arg3 harg3 arg4 harg4 arg5 harg5 arg6 harg6 arg7 harg7 arg8 harg8 arg9 harg9
      arg10 harg10 arg11 harg11 arg12 harg12 arg13 harg13 B g10 g11 g12 S 8).2.1, y ∈ p.1.set :=
  View.cover_of_tiledL (piecesS 𝒱 c bd i arg2 harg2 arg3 harg3 arg4 harg4 arg5 harg5 arg6 harg6 arg7 harg7 arg8 harg8 arg9 harg9
      arg10 harg10 arg11 harg11 arg12 harg12 arg13 harg13 B g10 g11 g12 S 8).2.1 S64x128.size (by sl_kernel_rfl) y

theorem cover_outG (y : S16x8x64.Idx) :
    ∃ p ∈ (piecesS 𝒱 c bd i arg2 harg2 arg3 harg3 arg4 harg4 arg5 harg5 arg6 harg6 arg7 harg7 arg8 harg8 arg9 harg9
      arg10 harg10 arg11 harg11 arg12 harg12 arg13 harg13 B g10 g11 g12 S 8).2.2.1, y ∈ p.1.set :=
  View.cover_of_tiledL (piecesS 𝒱 c bd i arg2 harg2 arg3 harg3 arg4 harg4 arg5 harg5 arg6 harg6 arg7 harg7 arg8 harg8 arg9 harg9
      arg10 harg10 arg11 harg11 arg12 harg12 arg13 harg13 B g10 g11 g12 S 8).2.2.1 S1x1x64.size (by sl_kernel_rfl) y

/-! ## After the loop -/

variable (g13 : BufTy.Contents (Elt F) arg13.view.ty) (hg : g13 = harg13.unread S)

include hg

theorem read_outV (f : BufTy.Contents (Elt F) arg10.view.ty) :
    arg10.view.read (Elt F) (arg10.view.writes (Elt F) f
      (pieces 𝒱 c bd i arg2 harg2 arg3 harg3 arg4 harg4 arg5 harg5 arg6 harg6 arg7 harg7 arg8 harg8 arg9 harg9
      arg10 harg10 arg11 harg11 arg12 harg12 arg13 harg13 B g10 g11 g12 g13 k0_t1_loop.trips).1) = B.outV S := by
  subst hg
  exact funext fun y => View.read_writes_apply_of_pieces _ _ (B.outV S) _
    (pieces_blocks 𝒱 c bd i arg2 harg2 arg3 harg3 arg4 harg4 arg5 harg5 arg6 harg6 arg7 harg7 arg8 harg8 arg9 harg9
      arg10 harg10 arg11 harg11 arg12 harg12 arg13 harg13 B g10 g11 g12 S 8 le_rfl).1 y
    (cover_outV 𝒱 c bd i arg2 harg2 arg3 harg3 arg4 harg4 arg5 harg5 arg6 harg6 arg7 harg7 arg8 harg8 arg9 harg9
      arg10 harg10 arg11 harg11 arg12 harg12 arg13 harg13 B g10 g11 g12 S y)

theorem read_outK (f : BufTy.Contents (Elt F) arg11.view.ty) :
    arg11.view.read (Elt F) (arg11.view.writes (Elt F) f
      (pieces 𝒱 c bd i arg2 harg2 arg3 harg3 arg4 harg4 arg5 harg5 arg6 harg6 arg7 harg7 arg8 harg8 arg9 harg9
      arg10 harg10 arg11 harg11 arg12 harg12 arg13 harg13 B g10 g11 g12 g13 k0_t1_loop.trips).2.1) = B.outK S := by
  subst hg
  exact funext fun y => View.read_writes_apply_of_pieces _ _ (B.outK S) _
    (pieces_blocks 𝒱 c bd i arg2 harg2 arg3 harg3 arg4 harg4 arg5 harg5 arg6 harg6 arg7 harg7 arg8 harg8 arg9 harg9
      arg10 harg10 arg11 harg11 arg12 harg12 arg13 harg13 B g10 g11 g12 S 8 le_rfl).2.1 y
    (cover_outK 𝒱 c bd i arg2 harg2 arg3 harg3 arg4 harg4 arg5 harg5 arg6 harg6 arg7 harg7 arg8 harg8 arg9 harg9
      arg10 harg10 arg11 harg11 arg12 harg12 arg13 harg13 B g10 g11 g12 S y)

theorem read_outG (f : BufTy.Contents (Elt F) arg12.view.ty) :
    arg12.view.read (Elt F) (arg12.view.writes (Elt F) f
      (pieces 𝒱 c bd i arg2 harg2 arg3 harg3 arg4 harg4 arg5 harg5 arg6 harg6 arg7 harg7 arg8 harg8 arg9 harg9
      arg10 harg10 arg11 harg11 arg12 harg12 arg13 harg13 B g10 g11 g12 g13 k0_t1_loop.trips).2.2.1) = B.outG S := by
  subst hg
  exact funext fun y => View.read_writes_apply_of_pieces _ _ (B.outG S) _
    (pieces_blocks 𝒱 c bd i arg2 harg2 arg3 harg3 arg4 harg4 arg5 harg5 arg6 harg6 arg7 harg7 arg8 harg8 arg9 harg9
      arg10 harg10 arg11 harg11 arg12 harg12 arg13 harg13 B g10 g11 g12 S 8 le_rfl).2.2 y
    (cover_outG 𝒱 c bd i arg2 harg2 arg3 harg3 arg4 harg4 arg5 harg5 arg6 harg6 arg7 harg7 arg8 harg8 arg9 harg9
      arg10 harg10 arg11 harg11 arg12 harg12 arg13 harg13 B g10 g11 g12 S y)

theorem read_st :
    arg13.view.read (Elt F) (arg13.view.writes (Elt F) g13
      (pieces 𝒱 c bd i arg2 harg2 arg3 harg3 arg4 harg4 arg5 harg5 arg6 harg6 arg7 harg7 arg8 harg8 arg9 harg9
      arg10 harg10 arg11 harg11 arg12 harg12 arg13 harg13 B g10 g11 g12 g13 k0_t1_loop.trips).2.2.2) = B.st S 8 := by
  subst hg
  exact (congrArg (arg13.view.read (Elt F)) (scratch_after 𝒱 c bd i arg2 harg2 arg3 harg3 arg4 harg4 arg5 harg5 arg6 harg6 arg7 harg7 arg8 harg8 arg9 harg9
      arg10 harg10 arg11 harg11 arg12 harg12 arg13 harg13 B g10 g11 g12 S 8 le_rfl)).trans
    (harg13.read_unread _)

end Cert.KernelIdeal.Bwd

end
-- ==== Proof.Body.lean ====
/- The body of the backward recurrence at one grid point: it leaves the point's results in its outputs and the state's
gradient in its scratch. -/
module

public import proofs.«01_k».proof.Proof.Loop
public import proofs.«01_k».proof.Proof.Gen.KernelIdeal.Frame.Runs

@[expose] public section

set_option maxRecDepth 16384

noncomputable section

namespace Cert.KernelIdeal.Bwd

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The state's gradient after the last chunk of all: zero. -/
def zeroS : Vec F S16x128x128 .f32 := k0_pay1

/-- The scratch cleared holds the zero state. -/
theorem cleared {m : Memref sig .tc .vmem S16x128x128 .f32} (hm : m.IsWhole) (f : BufTy.Contents (Elt F) m.view.ty)
    (inb : ∀ a, (![0, 0, 0] : Fin 3 → ℕ) a + S16x128x128.size a ≤ S16x128x128.size a) :
    m.view.writes (Elt F) f [⟨Rect.unit (s := S16x128x128) ![0, 0, 0] S16x128x128.size inb, k0_pay1⟩] = hm.unread zeroS := by
  refine hm.eq_unread (funext fun y => ?_)
  refine View.read_writes_apply_of_pieces _ _ zeroS _ (fun p hp x => ?_) y ⟨_, List.mem_singleton_self _, ?_⟩
  · obtain rfl := List.mem_singleton.mp hp
    rfl
  · refine (Rect.mem_set_unit (s := S16x128x128) (off := ![0, 0, 0]) (size := S16x128x128.size) (inb := inb)).mpr fun a => ?_
    have h : (![0, 0, 0] : Fin 3 → ℕ) a = 0 := by fin_cases a <;> rfl
    rw [h]
    exact ⟨Nat.zero_le _, by have := (y a).isLt; omega⟩

variable (c : Dev nD) (i : grid0.Coords)
    (arg2 : Memref sig .tc .vmem S512x2048 .bf16) (harg2 : arg2.IsWhole)
    (arg3 : Memref sig .tc .vmem S512x2048 .bf16) (harg3 : arg3.IsWhole)
    (arg4 : Memref sig .tc .vmem S512x2048 .bf16) (harg4 : arg4.IsWhole)
    (arg5 : Memref sig .tc .vmem S16x8x64x64 .bf16) (harg5 : arg5.IsWhole)
    (arg6 : Memref sig .tc .vmem S512x2048 .bf16) (harg6 : arg6.IsWhole)
    (arg7 : Memref sig .tc .vmem S16x8x128x128 .bf16) (harg7 : arg7.IsWhole)
    (arg8 : Memref sig .tc .vmem S16x8x64 .f32) (harg8 : arg8.IsWhole)
    (arg9 : Memref sig .tc .vmem S512x2048 .f32) (harg9 : arg9.IsWhole)
    (arg10 : Memref sig .tc .vmem S512x2048 .f32) (harg10 : arg10.IsWhole)
    (arg11 : Memref sig .tc .vmem S512x2048 .f32) (harg11 : arg11.IsWhole)
    (arg12 : Memref sig .tc .vmem S16x8x64 .f32) (harg12 : arg12.IsWhole)
    (arg13 : Memref sig .tc .vmem S16x128x128 .f32) (harg13 : arg13.IsWhole)
    (B : Blk F)

/-- What the body is given beside the scratch. -/
abbrev given : sProp 𝕄 :=
  iprop(owns (c : Thread nD τ) arg2 fullShare B.q
        ∗ owns (c : Thread nD τ) arg3 fullShare B.k
        ∗ owns (c : Thread nD τ) arg4 fullShare B.w
        ∗ owns (c : Thread nD τ) arg5 fullShare B.pm
        ∗ owns (c : Thread nD τ) arg6 fullShare B.vn
        ∗ owns (c : Thread nD τ) arg7 fullShare B.sa
        ∗ owns (c : Thread nD τ) arg8 fullShare B.gc
        ∗ owns (c : Thread nD τ) arg9 fullShare B.d
        ∗ (∃ d, owns (c : Thread nD τ) arg10 fullShare d) ∗ (∃ d, owns (c : Thread nD τ) arg11 fullShare d)
        ∗ (∃ d, owns (c : Thread nD τ) arg12 fullShare d))

/-- What the body leaves, the state's gradient being `S` before it. -/
abbrev left (S : Vec F S16x128x128 .f32) : sProp 𝕄 :=
  iprop(owns (c : Thread nD τ) arg2 fullShare B.q
        ∗ owns (c : Thread nD τ) arg3 fullShare B.k
        ∗ owns (c : Thread nD τ) arg4 fullShare B.w
        ∗ owns (c : Thread nD τ) arg5 fullShare B.pm
        ∗ owns (c : Thread nD τ) arg6 fullShare B.vn
        ∗ owns (c : Thread nD τ) arg7 fullShare B.sa
        ∗ owns (c : Thread nD τ) arg8 fullShare B.gc
        ∗ owns (c : Thread nD τ) arg9 fullShare B.d
        ∗ owns (c : Thread nD τ) arg10 fullShare (B.outV S) ∗ owns (c : Thread nD τ) arg11 fullShare (B.outK S)
        ∗ owns (c : Thread nD τ) arg12 fullShare (B.outG S) ∗ owns (c : Thread nD τ) arg13 fullShare (B.st S 8))

/-- The body at the first point: it clears the scratch first. -/
theorem body_first (hc0 : cond0_0 i) (E : Set ℕ) (K : PUnit → sProp 𝕄) :
    iprop(given c arg2 arg3 arg4 arg5 arg6 arg7 arg8 arg9 arg10 arg11 arg12 B ∗ (∃ d, owns (c : Thread nD τ) arg13 fullShare d)
        ∗ (left c arg2 arg3 arg4 arg5 arg6 arg7 arg8 arg9 arg10 arg11 arg12 arg13 B zeroS -∗ K ⟨⟩))
      ⊢ wp frame (wpE (defs₀ (F := F)) Variants.none c none) E (cc0_gdn_state_bwd i arg2 harg2 arg3 harg3 arg4 harg4 arg5 harg5 arg6 harg6 arg7 harg7 arg8 harg8 arg9 harg9
          arg10 harg10 arg11 harg11 arg12 harg12 arg13 harg13) K := by
    simp only [cc0_gdn_state_bwd_eq_skeleton]; unfold cc0_gdn_state_bwd_skel
    unfold given left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7

    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr
      swap; · iexact H8
      ipureintro
      exact read_outV Variants.none c none i arg2 harg2 arg3 harg3 arg4 harg4 arg5 harg5 arg6 harg6 arg7 harg7 arg8 harg8 arg9 harg9
          arg10 harg10 arg11 harg11 arg12 harg12 arg13 harg13 B f8 f9 f10 _ _ (cleared harg13 _ _) _
    isplitl [H9]
    · iexists _; isplitr
      swap; · iexact H9
      ipureintro
      exact read_outK Variants.none c none i arg2 harg2 arg3 harg3 arg4 harg4 arg5 harg5 arg6 harg6 arg7 harg7 arg8 harg8 arg9 harg9
          arg10 harg10 arg11 harg11 arg12 harg12 arg13 harg13 B f8 f9 f10 _ _ (cleared harg13 _ _) _
    isplitl [H10]
    · iexists _; isplitr
      swap; · iexact H10
      ipureintro
      exact read_outG Variants.none c none i arg2 harg2 arg3 harg3 arg4 harg4 arg5 harg5 arg6 harg6 arg7 harg7 arg8 harg8 arg9 harg9
          arg10 harg10 arg11 harg11 arg12 harg12 arg13 harg13 B f8 f9 f10 _ _ (cleared harg13 _ _) _
    iexists _; isplitr
    swap; · iexact HS0
    ipureintro
    exact (congrArg (arg13.view.read (Elt F)) (View.writes_append ..)).trans (read_st Variants.none c none i arg2 harg2 arg3 harg3 arg4 harg4 arg5 harg5 arg6 harg6 arg7 harg7 arg8 harg8 arg9 harg9
          arg10 harg10 arg11 harg11 arg12 harg12 arg13 harg13 B f8 f9 f10 _ _ (cleared harg13 _ _))

/-- The body at any other point: it goes on from the state's gradient in the scratch. -/
theorem body_next (hc0 : ¬ cond0_0 i) (S : Vec F S16x128x128 .f32) (E : Set ℕ) (K : PUnit → sProp 𝕄) :
    iprop(given c arg2 arg3 arg4 arg5 arg6 arg7 arg8 arg9 arg10 arg11 arg12 B ∗ owns (c : Thread nD τ) arg13 fullShare S
        ∗ (left c arg2 arg3 arg4 arg5 arg6 arg7 arg8 arg9 arg10 arg11 arg12 arg13 B S -∗ K ⟨⟩))
      ⊢ wp frame (wpE (defs₀ (F := F)) Variants.none c none) E (cc0_gdn_state_bwd i arg2 harg2 arg3 harg3 arg4 harg4 arg5 harg5 arg6 harg6 arg7 harg7 arg8 harg8 arg9 harg9
          arg10 harg10 arg11 harg11 arg12 harg12 arg13 harg13) K := by
    simp only [cc0_gdn_state_bwd_eq_skeleton]; unfold cc0_gdn_state_bwd_skel
    unfold given left owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr
      swap; · iexact H8
      ipureintro
      exact read_outV Variants.none c none i arg2 harg2 arg3 harg3 arg4 harg4 arg5 harg5 arg6 harg6 arg7 harg7 arg8 harg8 arg9 harg9
          arg10 harg10 arg11 harg11 arg12 harg12 arg13 harg13 B f8 f9 f10 _ _ rfl _
    isplitl [H9]
    · iexists _; isplitr
      swap; · iexact H9
      ipureintro
      exact read_outK Variants.none c none i arg2 harg2 arg3 harg3 arg4 harg4 arg5 harg5 arg6 harg6 arg7 harg7 arg8 harg8 arg9 harg9
          arg10 harg10 arg11 harg11 arg12 harg12 arg13 harg13 B f8 f9 f10 _ _ rfl _
    isplitl [H10]
    · iexists _; isplitr
      swap; · iexact H10
      ipureintro
      exact read_outG Variants.none c none i arg2 harg2 arg3 harg3 arg4 harg4 arg5 harg5 arg6 harg6 arg7 harg7 arg8 harg8 arg9 harg9
          arg10 harg10 arg11 harg11 arg12 harg12 arg13 harg13 B f8 f9 f10 _ _ rfl _
    iexists _; isplitr
    swap; · iexact HS0
    ipureintro
    exact read_st Variants.none c none i arg2 harg2 arg3 harg3 arg4 harg4 arg5 harg5 arg6 harg6 arg7 harg7 arg8 harg8 arg9 harg9
          arg10 harg10 arg11 harg11 arg12 harg12 arg13 harg13 B f8 f9 f10 _ _ rfl

end Cert.KernelIdeal.Bwd

end
-- ==== Proof.Run.lean ====
/- The run of the backward recurrence: every grid point's outputs and the state's gradient carried between the points. -/
module

public import proofs.«01_k».proof.Proof.Body
public import Idealize.ShloMosaic.Lib.Claim

@[expose] public section

set_option maxRecDepth 16384

noncomputable section

namespace Cert.KernelIdeal.Bwd

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of grid point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- The state's gradient before grid point `n`: zero before the first, then what the point before left. -/
def carry (c : Dev nD) : (n : ℕ) → n ≤ cfg0.N → Vec F S16x128x128 .f32
  | 0, _ => zeroS
  | n + 1, hn => (blk m c ⟨n, hn⟩).st (carry c n (Nat.le_of_succ_le hn)) 8

/-- The invariant between grid points: the scratch at the state's gradient, at anything before the first point. -/
def inv (c : Dev nD) : (n : ℕ) → n ≤ cfg0.N → sProp 𝕄
  | 0, _ => Pipeline.ΦA spec0 c
  | n + 1, hn => iprop(owns (c : Thread nD τ) scM0_0 fullShare (carry m c (n + 1) hn) ∗ (∃ r, prngReg c r))

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = iprop(owns (c : Thread nD τ) scM0_0 fullShare (carry m c n h) ∗ (∃ r, prngReg c r)) := by
  cases n with
  | zero => exact absurd rfl hz
  | succ n => rfl

/-- What the launch is run with: the arrays as the region finds them, every window's contents after the body at each
point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blk m c t).outV (carry m c t.val t.isLt.le)
    | ⟨9, _⟩ => (blk m c t).outK (carry m c t.val t.isLt.le)
    | ⟨10, _⟩ => (blk m c t).outG (carry m c t.val t.isLt.le)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (blk m c t).outV (carry m c t.val t.isLt.le) := by dsimp only [dats]
theorem after9 (c : Dev nD) (t : Fin cfg0.N) : (dats m 0 c).after 9 t = (blk m c t).outK (carry m c t.val t.isLt.le) := by dsimp only [dats]
theorem after10 (c : Dev nD) (t : Fin cfg0.N) : (dats m 0 c).after 10 t = (blk m c t).outG (carry m c t.val t.isLt.le) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4000000 in
/-- The body at any point leaves its outputs and carries the state's gradient on. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl,
    after0, after1, after2, after3, after4, after5, after6, after7, after8, after9, after10]
  rw [show (dats m 0 c).Φ t.succ = inv m c (t.val + 1) t.isLt from rfl, inv_pos m c _ _ (Nat.succ_ne_zero _),
    inv_castSucc m c t, show carry m c (t.val + 1) t.isLt = (blk m c t).st (carry m c t.val t.isLt.le) 8 from rfl]
  have hN : t.val < 32 := lt_of_lt_of_eq t.isLt (show cfg0.N = 32 from N_0)
  by_cases hz : t.val = 0
  · rw [inv_zero m c _ _ hz, PhiA0_eq, show carry m c t.val t.isLt.le = zeroS from by
      obtain ⟨n, hn⟩ := t; cases n with
      | zero => rfl
      | succ n => exact absurd hz (Nat.succ_ne_zero _)]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0
      (Memref.isWhole_whole _) (blk m c t) ((hcond0_0 t).mpr (by omega)) Set.univ _)
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [inv_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_next c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0
      (Memref.isWhole_whole _) (blk m c t) (fun h => hz (by have := (hcond0_0 t).mp h; omega)) (carry m c t.val t.isLt.le) Set.univ _)
    isplitl [H0 H1 H2 H3 H4 H5 H6 H7 H8 H9 H10]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      iexists _; iexact H10
    isplitl [HS0]; · iexact HS0
    iintro ⟨H0, H1, H2, H3, H4, H5, H6, H7, H8, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

/-- Every point's body meets what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]

theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 32 := N_0; omega), PhiA0_eq]
  iintro ⟨HS0, Hg⟩
  isplitl [HS0]
  · iexists _; iexact HS0
  iexact Hg

set_option backward.isDefEq.respectTransparency.types false in
/-- The launch, every array of the pipeline named and every counter at zero at the end. -/
theorem launched : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_post : θ_run defs (onTc (τ := τ) (main (F := F))) (s₀ m ρ) (Pipeline.FramePost cfgs (dats m) 0 (V m)) :=
  (θ_run defs _ _).mono (fun _ h => h.1) (launched m ρ)

/-- Every execution ends with the arguments as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_post m ρ)

/-- Every execution ends, its arguments as they were and its counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (launched m ρ))

/-- Every execution ends with the three results at the pipeline's arrays and the arguments as they were. -/
theorem run_arrays : θ_run defs (onTc (τ := τ) (main (F := F))) ⟨m, fun _ => 0, ρ⟩ (fun r => ∀ c : Dev nD,
      (r.2.mem ((c : Thread nD τ).loc main_v11_0) = (dats m 0 c).arrAt 8 cfg0.N
      ∧ r.2.mem ((c : Thread nD τ).loc main_v11_1) = (dats m 0 c).arrAt 9 cfg0.N
      ∧ r.2.mem ((c : Thread nD τ).loc main_v11_2) = (dats m 0 c).arrAt 10 cfg0.N) ∧ (
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) :=
  (θ_run defs _ _).mono (fun r h c => ⟨⟨(h.1 c).1 8, (h.1 c).1 9, (h.1 c).1 10⟩, h.2 c⟩) (θ_run_and (run_post m ρ) (unchanged m ρ))

end Cert.KernelIdeal.Bwd

end
-- ==== Proof.Pure.lean ====
/- What one chunk and head computes, over the extended reals. -/
module

public import proofs.«01_k».proof.Proof.Block
public import Idealize.ShloMosaic.Lib.Pointwise

@[expose] public section

set_option maxRecDepth 16384

noncomputable section

namespace Cert.KernelIdeal.Bwd

open Idealize.ShloMosaic Idealize.ShloMosaic.TcCoe Cert.KernelIdeal Cert.KernelIdeal.Gen

theorem dvnOp_apply (p : Vec Ideal S1x1x64x64 .bf16) (d : Vec Ideal S64x128 .f32) (k : Vec Ideal S64x128 .bf16)
    (s : Vec Ideal S1x128x128 .f32) (c : Fin 64) (e : Fin 128) :
    (dvnOp p d k s (ix2 c e) : EReal)
      = (∑ r : Fin 64, (p (ix4 0 0 r c) : EReal) * d (ix2 r e)) + ∑ x : Fin 128, (k (ix2 c x) : EReal) * s (ix3 0 x e) := by
  pointwise [dvnOp, mat]

theorem dkdOp_apply (v : Vec Ideal S64x128 .bf16) (s : Vec Ideal S1x128x128 .f32) (c : Fin 64) (x : Fin 128) :
    (dkdOp v s (ix2 c x) : EReal) = ∑ e : Fin 128, (v (ix2 c e) : EReal) * s (ix3 0 x e) := by
  pointwise [dkdOp, mat]

theorem dglOp_apply (s : Vec Ideal S1x128x128 .f32) (a : Vec Ideal S1x1x128x128 .bf16) (l : Fin 64) :
    (dglOp s a (ix3 0 0 l) : EReal) = ∑ e : Fin 128, ∑ x : Fin 128, (s (ix3 0 x e) : EReal) * a (ix4 0 0 x e) := by
  pointwise [dglOp, mat]

theorem dsOp_apply (g : Vec Ideal S1x1x1 .f32) (s : Vec Ideal S1x128x128 .f32) (q : Vec Ideal S64x128 .bf16)
    (d : Vec Ideal S64x128 .f32) (w : Vec Ideal S64x128 .bf16) (n : FVec Ideal S64x128 .f32) (x e : Fin 128) :
    (dsOp g s q d w n (ix3 0 x e) : EReal)
      = (s (ix3 0 x e) : EReal) * Ideal.exp (g (ix3 0 0 0)) + (∑ c : Fin 64, (q (ix2 c x) : EReal) * d (ix2 c e))
        - ∑ c : Fin 64, (w (ix2 c x) : EReal) * n (ix2 c e) := by
  pointwise [dsOp, mat]

end Cert.KernelIdeal.Bwd

end
-- ==== Proof.Math.lean ====
/- The backward recurrence of the gated delta rule over chunks, as functions of numbers: the order the kernel takes its
sums in and the order the derivative takes them in, and their equality where the inputs are finite. -/
module

public import Idealize.ShloMosaic.PureOps.Ideal

@[expose] public section

noncomputable section

namespace Cert.Chunked

/-! ## Finite numbers -/

/-- A number that is real. -/
def Real' (x : EReal) : Prop := ∃ r : ℝ, x = (r : EReal)

namespace Real'

theorem zero : Real' 0 := ⟨0, rfl⟩

theorem add {x y : EReal} (hx : Real' x) (hy : Real' y) : Real' (x + y) := by
  obtain ⟨a, rfl⟩ := hx; obtain ⟨b, rfl⟩ := hy; exact ⟨a + b, (EReal.coe_add a b).symm⟩

theorem mul {x y : EReal} (hx : Real' x) (hy : Real' y) : Real' (x * y) := by
  obtain ⟨a, rfl⟩ := hx; obtain ⟨b, rfl⟩ := hy; exact ⟨a * b, (EReal.coe_mul a b).symm⟩

theorem neg {x : EReal} (hx : Real' x) : Real' (-x) := by
  obtain ⟨a, rfl⟩ := hx; exact ⟨-a, (EReal.coe_neg a).symm⟩

theorem sub {x y : EReal} (hx : Real' x) (hy : Real' y) : Real' (x - y) := by
  obtain ⟨a, rfl⟩ := hx; obtain ⟨b, rfl⟩ := hy; exact ⟨a - b, (EReal.coe_sub a b).symm⟩

theorem sum {ι : Type*} (s : Finset ι) {f : ι → EReal} (hf : ∀ i, Real' (f i)) : Real' (∑ i ∈ s, f i) := by
  classical
  induction s using Finset.induction_on with
  | empty => simpa using zero
  | insert a s ha ih => rw [Finset.sum_insert ha]; exact (hf a).add ih

/-- Negation goes through a sum of finite numbers. -/
theorem sum_neg {ι : Type*} (s : Finset ι) {f : ι → EReal} (hf : ∀ i, Real' (f i)) : ∑ i ∈ s, -f i = -∑ i ∈ s, f i := by
  classical
  induction s using Finset.induction_on with
  | empty => simp
  | insert a s ha ih =>
    rw [Finset.sum_insert ha, Finset.sum_insert ha, ih]
    obtain ⟨x, hx⟩ := hf a
    obtain ⟨y, hy⟩ := sum s hf
    rw [hx, hy]
    norm_cast
    ring

end Real'

/-! ## The recurrence -/

/-- What the recurrence reads, by chunk and head: queries, keys, written keys, values and the output's gradient by row
and column; intra-chunk weights; saved states; decays. -/
structure Data where
  q : Fin 256 → Fin 16 → Fin 64 → Fin 128 → EReal
  k : Fin 256 → Fin 16 → Fin 64 → Fin 128 → EReal
  w : Fin 256 → Fin 16 → Fin 64 → Fin 128 → EReal
  v : Fin 256 → Fin 16 → Fin 64 → Fin 128 → EReal
  d : Fin 256 → Fin 16 → Fin 64 → Fin 128 → EReal
  p : Fin 256 → Fin 16 → Fin 64 → Fin 64 → EReal
  s : Fin 256 → Fin 16 → Fin 128 → Fin 128 → EReal
  g : Fin 256 → Fin 16 → EReal

/-- The state's gradient of every head. -/
abbrev St := Fin 16 → Fin 128 → Fin 128 → EReal

namespace Data

variable (D : Data)

/-- The gradient of the new values of chunk `n`, the state's gradient after it being `S`. -/
def dv (n : Fin 256) (S : St) (h : Fin 16) (c : Fin 64) (e : Fin 128) : EReal :=
  (∑ r, D.p n h r c * D.d n h r e) + ∑ x, D.k n h c x * S h x e

/-- The gradient of the decayed keys of chunk `n`. -/
def dk (n : Fin 256) (S : St) (h : Fin 16) (c : Fin 64) (x : Fin 128) : EReal := ∑ e, D.v n h c e * S h x e

/-- The gradient of the decay of chunk `n`. -/
def dg (n : Fin 256) (S : St) (h : Fin 16) : EReal := ∑ e, ∑ x, S h x e * D.s n h x e

/-- The state's gradient before chunk `n`. -/
def back (n : Fin 256) (S : St) : St := fun h x e =>
  S h x e * D.g n h + (∑ c, D.q n h c x * D.d n h c e) - ∑ c, D.w n h c x * D.dv n S h c e

/-- The state's gradient after `i` chunks from the last. -/
def dS (D : Data) : ℕ → St
  | 0 => fun _ _ _ => 0
  | i + 1 => D.back ⟨255 - i, by omega⟩ (dS D i)

/-- The data on which the recurrence stays finite. -/
structure Finite : Prop where
  q : ∀ n h c x, Real' (D.q n h c x)
  k : ∀ n h c x, Real' (D.k n h c x)
  w : ∀ n h c x, Real' (D.w n h c x)
  d : ∀ n h c x, Real' (D.d n h c x)
  p : ∀ n h c x, Real' (D.p n h c x)
  g : ∀ n h, Real' (D.g n h)

variable {D}

theorem Finite.dv (H : D.Finite) (n : Fin 256) {S : St} (hS : ∀ h x e, Real' (S h x e)) (h c e) : Real' (D.dv n S h c e) :=
  (Real'.sum _ fun r => (H.p n h r c).mul (H.d n h r e)).add (Real'.sum _ fun x => (H.k n h c x).mul (hS h x e))

theorem Finite.dS {D : Data} (H : D.Finite) : ∀ (i : ℕ) (h x e), Real' (D.dS i h x e)
  | 0, _, _, _ => Real'.zero
  | i + 1, h, x, e => by
    have hS := fun h x e => Finite.dS H i h x e
    show Real' (D.back ⟨255 - i, by omega⟩ (D.dS i) h x e)
    exact (((hS h x e).mul (H.g _ h)).add (Real'.sum _ fun c => (H.q _ h c x).mul (H.d _ h c e))).sub
      (Real'.sum _ fun c => (H.w _ h c x).mul (H.dv _ hS h c e))

/-- The derivative adds the negated gradient of the new values times the written keys where the kernel subtracts the
product. -/
theorem Finite.back_eq (H : D.Finite) (n : Fin 256) {S : St} (hS : ∀ h x e, Real' (S h x e)) (h x e) :
    D.back n S h x e
      = S h x e * D.g n h + (∑ c, D.d n h c e * D.q n h c x) + ∑ c, -(D.dv n S h c e) * D.w n h c x := by
  have e1 : ∀ c, -(D.dv n S h c e) * D.w n h c x = -(D.w n h c x * D.dv n S h c e) := fun c => by
    rw [EReal.neg_mul, mul_comm]
  have e2 : ∑ c, -(D.dv n S h c e) * D.w n h c x = -∑ c, D.w n h c x * D.dv n S h c e := by
    rw [← Real'.sum_neg _ fun c => (H.w n h c x).mul (H.dv n hS h c e)]
    exact Finset.sum_congr rfl fun c _ => e1 c
  rw [e2]
  simp only [mul_comm (D.d n h _ e)]
  rfl

end Data

end Cert.Chunked

end
-- ==== Proof.Split.lean ====
/- The recurrence's data, read off the arrays: rows are chunk by chunk, columns head by head. -/
module

public import proofs.«01_k».proof.Proof.Math
public import Idealize.ShloMosaic.Lib.ValueIdx
public import Idealize.ShloMosaic.Lib.Pointwise

@[expose] public section

noncomputable section

namespace Cert.Chunked

open Idealize.ShloMosaic

/-- An array of 16384 rows and 2048 columns. -/
abbrev Rows := (⟨2, ![16384, 2048]⟩ : Shape).Idx → EReal
/-- One matrix of 64 by 64 per head and chunk. -/
abbrev Mats := (⟨4, ![16, 256, 64, 64]⟩ : Shape).Idx → EReal
/-- One matrix of 128 by 128 per head and chunk. -/
abbrev States := (⟨4, ![16, 256, 128, 128]⟩ : Shape).Idx → EReal
/-- One row of 64 per head and chunk. -/
abbrev Decays := (⟨3, ![16, 256, 64]⟩ : Shape).Idx → EReal

/-- Row `r` of chunk `n`, column `x` of head `h`. -/
def cell (X : Rows) (n : Fin 256) (h : Fin 16) (r : Fin 64) (x : Fin 128) : EReal :=
  X (ix2 ⟨64 * n.val + r.val, by omega⟩ ⟨128 * h.val + x.val, by omega⟩)

/-- The recurrence's data. The new values are `u` minus the written keys times the saved state. -/
def ofArrays (q k u w : Rows) (p : Mats) (s : States) (g : Decays) (d : Rows) : Data where
  q := cell q
  k := cell k
  w := cell w
  v n h c e := cell u n h c e - ∑ x : Fin 128, cell w n h c x * s (ix4 h n x e)
  d := cell d
  p n h r c := p (ix4 h n r c)
  s n h x e := s (ix4 h n x e)
  g n h := Ideal.exp (g (ix3 h n 63))

/-- The gradient of the new values, as an array: chunk `n` at the state's gradient after the chunks above it. -/
def dvArr (D : Data) : Rows := fun i =>
  D.dv ⟨(i 0).val / 64, by have := ValueIdx.idx2_lt0 i; omega⟩ (D.dS (255 - (i 0).val / 64))
    ⟨(i 1).val / 128, by have := ValueIdx.idx2_lt1 i; omega⟩ ⟨(i 0).val % 64, by omega⟩ ⟨(i 1).val % 128, by omega⟩

/-- The gradient of the decayed keys, as an array. -/
def dkArr (D : Data) : Rows := fun i =>
  D.dk ⟨(i 0).val / 64, by have := ValueIdx.idx2_lt0 i; omega⟩ (D.dS (255 - (i 0).val / 64))
    ⟨(i 1).val / 128, by have := ValueIdx.idx2_lt1 i; omega⟩ ⟨(i 0).val % 64, by omega⟩ ⟨(i 1).val % 128, by omega⟩

/-- The gradient of the decays, as an array: constant along a row of 64. -/
def dgArr (D : Data) : Decays := fun i => D.dg (i 1) (D.dS (255 - (i 1).val)) (i 0)

end Cert.Chunked

end
-- ==== Proof.Arrays.lean ====
/- The three result arrays of the backward recurrence, over the extended reals. -/
module

public import proofs.«01_k».proof.Proof.Run
public import proofs.«01_k».proof.Proof.Pure
public import proofs.«01_k».proof.Proof.Split
public import Idealize.ShloMosaic.Lib.Pipeline.ValueKit
public import Idealize.ShloMosaic.Lib.Pointwise

@[expose] public section

set_option maxRecDepth 16384

noncomputable section

namespace Cert.KernelIdeal.Bwd

open Idealize.ShloMosaic Idealize.ShloMosaic.TcCoe Cert.KernelIdeal Cert.KernelIdeal.Gen Cert.Chunked
open Idealize.ShloMosaic.Pipeline (Dat)

variable (m : (ℓ : Loc nD τ sig) → Buf (Elt Ideal) ℓ)

/-- The recurrence's data in the launch memory. -/
def data (c : Dev nD) : Data :=
  ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Every window walks the chunks from the last eight down. -/
theorem idx_val : ∀ t : Fin cfg0.N,
    win0_0.index t = ![31 - t.val, 0] ∧ win0_1.index t = ![31 - t.val, 0] ∧ win0_2.index t = ![31 - t.val, 0]
    ∧ win0_3.index t = ![0, 31 - t.val, 0, 0] ∧ win0_4.index t = ![31 - t.val, 0] ∧ win0_5.index t = ![0, 31 - t.val, 0, 0]
    ∧ win0_6.index t = ![0, 31 - t.val, 0] ∧ win0_7.index t = ![31 - t.val, 0] ∧ win0_8.index t = ![31 - t.val, 0]
    ∧ win0_9.index t = ![31 - t.val, 0] ∧ win0_10.index t = ![0, 31 - t.val, 0] ∧ t.val < 32 :=
  (by decide +kernel : ∀ t : Fin grid0.N, _)

/-- Chunk `n` of grid point `t`, in the whole sequence. -/
def ch (t : Fin cfg0.N) (n : Fin 8) : Fin 256 := ⟨8 * (31 - t.val) + n.val, by omega⟩

/-- The new values the host computes before the grid starts. -/
theorem new_values (c : Dev nD) (n : Fin 256) (h : Fin 16) (r : Fin 64) (e : Fin 128) :
    ((V m c main_v10 : FVec Ideal S16384x2048 .bf16) (ix2 ⟨64 * n.val + r.val, by omega⟩ ⟨128 * h.val + e.val, by omega⟩) : EReal)
      = (data m c).v n h r e := by
  show _ = cell (m ((c : Thread nD τ).loc main_arg2)) n h r e - ∑ x : Fin 128, cell (m ((c : Thread nD τ).loc main_arg3)) n h r x
      * (m ((c : Thread nD τ).loc main_arg5) : FVec Ideal S16x256x128x128 .bf16) (ix4 h n x e)
  entry_read
  pointwise [cell]
  congr 1
  · blk_ext
  · refine Finset.sum_congr rfl fun x _ => ?_
    congr 1
    · blk_ext
    · blk_ext

section Reads

variable (c : Dev nD) (t : Fin cfg0.N) (n : Fin 8) (h : Fin 16)

theorem read_q (r : Fin 64) (x : Fin 128) :
    (rowsAt (blk m c t).q n h (ix2 r x) : EReal) = (data m c).q (ch t n) h r x := by
  show (iblk m c 0 t : Vec Ideal S512x2048 .bf16) (ix2 _ _)
    = (m ((c : Thread nD τ).loc main_arg0) : FVec Ideal S16384x2048 .bf16) (ix2 _ _)
  blk_ext [iblk, V, idx_val t, ch]

theorem read_k (r : Fin 64) (x : Fin 128) :
    (rowsAt (blk m c t).k n h (ix2 r x) : EReal) = (data m c).k (ch t n) h r x := by
  show (iblk m c 1 t : Vec Ideal S512x2048 .bf16) (ix2 _ _)
    = (m ((c : Thread nD τ).loc main_arg1) : FVec Ideal S16384x2048 .bf16) (ix2 _ _)
  blk_ext [iblk, V, idx_val t, ch]

theorem read_w (r : Fin 64) (x : Fin 128) :
    (rowsAt (blk m c t).w n h (ix2 r x) : EReal) = (data m c).w (ch t n) h r x := by
  show (iblk m c 2 t : Vec Ideal S512x2048 .bf16) (ix2 _ _)
    = (m ((c : Thread nD τ).loc main_arg3) : FVec Ideal S16384x2048 .bf16) (ix2 _ _)
  blk_ext [iblk, V, idx_val t, ch]

theorem read_d (r : Fin 64) (x : Fin 128) :
    (rowsAt (blk m c t).d n h (ix2 r x) : EReal) = (data m c).d (ch t n) h r x := by
  show (iblk m c 7 t : Vec Ideal S512x2048 .f32) (ix2 _ _)
    = (m ((c : Thread nD τ).loc main_arg7) : FVec Ideal S16384x2048 .f32) (ix2 _ _)
  blk_ext [iblk, V, idx_val t, ch]

theorem read_v (r : Fin 64) (x : Fin 128) :
    (rowsAt (blk m c t).vn n h (ix2 r x) : EReal) = (data m c).v (ch t n) h r x := by
  refine Eq.trans ?_ (new_values m c (ch t n) h r x)
  show (iblk m c 4 t : Vec Ideal S512x2048 .bf16) (ix2 _ _) = (V m c main_v10 : FVec Ideal S16384x2048 .bf16) (ix2 _ _)
  blk_ext [iblk, idx_val t, ch]

theorem read_p (r x : Fin 64) :
    (pmAt (blk m c t).pm n h (ix4 0 0 r x) : EReal) = (data m c).p (ch t n) h r x := by
  show (iblk m c 3 t : Vec Ideal S16x8x64x64 .bf16) (ix4 _ _ _ _)
    = (m ((c : Thread nD τ).loc main_arg4) : FVec Ideal S16x256x64x64 .bf16) (ix4 _ _ _ _)
  blk_ext [iblk, V, idx_val t, ch]

theorem read_s (x e : Fin 128) :
    (saAt (blk m c t).sa n h (ix4 0 0 x e) : EReal) = (data m c).s (ch t n) h x e := by
  show (iblk m c 5 t : Vec Ideal S16x8x128x128 .bf16) (ix4 _ _ _ _)
    = (m ((c : Thread nD τ).loc main_arg5) : FVec Ideal S16x256x128x128 .bf16) (ix4 _ _ _ _)
  blk_ext [iblk, V, idx_val t, ch]

theorem read_g : (Ideal.exp (gcAt (blk m c t).gc n h (ix3 0 0 0)) : EReal) = (data m c).g (ch t n) h := by
  refine congrArg Ideal.exp ?_
  show (iblk m c 6 t : Vec Ideal S16x8x64 .f32) (ix3 _ _ _)
    = (m ((c : Thread nD τ).loc main_arg6) : FVec Ideal S16x256x64 .f32) (ix3 _ _ _)
  blk_ext [iblk, V, idx_val t, ch]

end Reads

end Cert.KernelIdeal.Bwd

end
-- ==== Proof.Result.lean ====
/- The kernel's result arrays are the recurrence's gradients. -/
module

public import proofs.«01_k».proof.Proof.Arrays

@[expose] public section

set_option maxRecDepth 16384

noncomputable section

namespace Cert.KernelIdeal.Bwd

open Idealize.ShloMosaic Idealize.ShloMosaic.TcCoe Cert.KernelIdeal Cert.KernelIdeal.Gen Cert.Chunked
open Idealize.ShloMosaic.Pipeline (Dat)

variable (m : (ℓ : Loc nD τ sig) → Buf (Elt Ideal) ℓ)

/-- A state's gradient as a function of head, row and column. -/
def asSt (S : Vec Ideal S16x128x128 .f32) : St := fun h x e => S (ix3 h x e)

section Chunk

variable (c : Dev nD) (t : Fin cfg0.N) (n : Fin 8) (h : Fin 16) (S : Vec Ideal S16x128x128 .f32)

theorem dvn_eq (r : Fin 64) (e : Fin 128) :
    ((blk m c t).dvn n h S (ix2 r e) : EReal) = (data m c).dv (ch t n) (asSt S) h r e := by
  unfold Blk.dvn Data.dv
  refine (dvnOp_apply _ _ _ _ r e).trans ?_
  congr 1
  · exact Finset.sum_congr rfl fun i _ => by rw [read_p, read_d]
  · exact Finset.sum_congr rfl fun x _ => by rw [read_k]; rfl

theorem dkd_eq (r : Fin 64) (x : Fin 128) :
    ((blk m c t).dkd n h S (ix2 r x) : EReal) = (data m c).dk (ch t n) (asSt S) h r x := by
  unfold Blk.dkd Data.dk
  refine (dkdOp_apply _ _ r x).trans ?_
  exact Finset.sum_congr rfl fun e _ => by rw [read_v]; rfl

theorem dgl_eq (l : Fin 64) :
    ((blk m c t).dgl n h S (ix3 0 0 l) : EReal) = (data m c).dg (ch t n) (asSt S) h := by
  unfold Blk.dgl Data.dg
  refine (dglOp_apply _ _ l).trans ?_
  exact Finset.sum_congr rfl fun e _ => Finset.sum_congr rfl fun x _ => by rw [read_s]; rfl

theorem next_eq : asSt ((blk m c t).next n S) = (data m c).back (ch t n) (asSt S) := by
  funext h x e
  show ((blk m c t).ds n h S (ix3 0 x e) : EReal) = _
  unfold Blk.ds Data.back
  refine (dsOp_apply _ _ _ _ _ _ x e).trans ?_
  congr 1
  · congr 1
    · rw [read_g]; rfl
    · exact Finset.sum_congr rfl fun r _ => by rw [read_q, read_d]
  · exact Finset.sum_congr rfl fun r _ => by rw [read_w, dvn_eq]

theorem st_eq (hS : asSt S = (data m c).dS (8 * t.val)) :
    ∀ k : ℕ, k ≤ 8 → asSt ((blk m c t).st S k) = (data m c).dS (8 * t.val + k)
  | 0, _ => hS
  | k + 1, hk => by
    have ht : t.val < 32 := (idx_val t).2.2.2.2.2.2.2.2.2.2.2
    show asSt ((blk m c t).next ⟨7 - k, _⟩ ((blk m c t).st S k)) = (data m c).back ⟨255 - (8 * t.val + k), _⟩ ((data m c).dS (8 * t.val + k))
    rw [next_eq, st_eq hS k (by omega)]
    refine congrArg (fun i => (data m c).back i _) (Fin.ext ?_)
    show 8 * (31 - t.val) + (7 - k) = 255 - (8 * t.val + k)
    omega

end Chunk

theorem carry_eq (c : Dev nD) : ∀ (n : ℕ) (hn : n ≤ cfg0.N), asSt (carry m c n hn) = (data m c).dS (8 * n)
  | 0, _ => by
    funext h x e
    show (zeroS (F := Ideal) (ix3 h x e) : EReal) = 0
    pointwise [zeroS, k0_pay1]
  | n + 1, hn => st_eq m c ⟨n, hn⟩ (carry m c n (Nat.le_of_succ_le hn)) (carry_eq c n (Nat.le_of_succ_le hn)) 8 le_rfl

section Final

variable (c : Dev nD) (t : Fin cfg0.N)

theorem point8 (y : S512x2048.Idx) (i : S16384x2048.Idx) (h0 : (i 0).val = 512 * (31 - t.val) + (y 0).val)
    (h1 : (i 1).val = (y 1).val) :
    ((blk m c t).outV (carry m c t.val t.isLt.le) y : EReal) = dvArr (data m c) i := by
  have ht : t.val < 32 := (idx_val t).2.2.2.2.2.2.2.2.2.2.2
  have y0 := ValueIdx.idx2_lt0 y
  have y1 := ValueIdx.idx2_lt1 y
  refine (dvn_eq m c t _ _ _ _ _).trans ?_
  rw [st_eq m c t _ (carry_eq m c _ _) _ (by omega)]
  unfold dvArr
  have e0 : 8 * t.val + (7 - (y 0).val / 64) = 255 - (i 0).val / 64 := by omega
  rw [e0]
  congr 1 <;> refine Fin.ext ?_
  · show 8 * (31 - t.val) + (y 0).val / 64 = (i 0).val / 64; omega
  · show (y 1).val / 128 = (i 1).val / 128; omega
  · show (y 0).val % 64 = (i 0).val % 64; omega
  · show (y 1).val % 128 = (i 1).val % 128; omega

theorem point9 (y : S512x2048.Idx) (i : S16384x2048.Idx) (h0 : (i 0).val = 512 * (31 - t.val) + (y 0).val)
    (h1 : (i 1).val = (y 1).val) :
    ((blk m c t).outK (carry m c t.val t.isLt.le) y : EReal) = dkArr (data m c) i := by
  have ht : t.val < 32 := (idx_val t).2.2.2.2.2.2.2.2.2.2.2
  have y0 := ValueIdx.idx2_lt0 y
  have y1 := ValueIdx.idx2_lt1 y
  refine (dkd_eq m c t _ _ _ _ _).trans ?_
  rw [st_eq m c t _ (carry_eq m c _ _) _ (by omega)]
  unfold dkArr
  have e0 : 8 * t.val + (7 - (y 0).val / 64) = 255 - (i 0).val / 64 := by omega
  rw [e0]
  congr 1 <;> refine Fin.ext ?_
  · show 8 * (31 - t.val) + (y 0).val / 64 = (i 0).val / 64; omega
  · show (y 1).val / 128 = (i 1).val / 128; omega
  · show (y 0).val % 64 = (i 0).val % 64; omega
  · show (y 1).val % 128 = (i 1).val % 128; omega

theorem point10 (y : S16x8x64.Idx) (i : S16x256x64.Idx) (h0 : (i 0).val = (y 0).val)
    (h1 : (i 1).val = 8 * (31 - t.val) + (y 1).val) :
    ((blk m c t).outG (carry m c t.val t.isLt.le) y : EReal) = dgArr (data m c) i := by
  have ht : t.val < 32 := (idx_val t).2.2.2.2.2.2.2.2.2.2.2
  have y1 : (y 1).val < 8 := (y 1).isLt
  refine (dgl_eq m c t _ _ _ _).trans ?_
  rw [st_eq m c t _ (carry_eq m c _ _) _ (by omega)]
  unfold dgArr
  have e0 : 8 * t.val + (7 - (y 1).val) = 255 - (i 1).val := by omega
  rw [e0]
  congr 1 <;> refine Fin.ext ?_
  · exact h1.symm
  · exact h0.symm

theorem final8 : (dats m 0 c).arrAt 8 cfg0.N = dvArr (data m c) := by
  refine (dats m 0 c).arrAt_eq_of_covers 8 _ (by decide +kernel) fun t _ y => ?_
  blk_simp
  rw [after8]
  refine point8 m c t y _ ?_ ?_
  all_goals (blk_simp [idx_val t] <;> try omega)

theorem final9 : (dats m 0 c).arrAt 9 cfg0.N = dkArr (data m c) := by
  refine (dats m 0 c).arrAt_eq_of_covers 9 _ (by decide +kernel) fun t _ y => ?_
  blk_simp
  rw [after9]
  refine point9 m c t y _ ?_ ?_
  all_goals (blk_simp [idx_val t] <;> try omega)

theorem final10 : (dats m 0 c).arrAt 10 cfg0.N = dgArr (data m c) := by
  refine (dats m 0 c).arrAt_eq_of_covers 10 _ (by decide +kernel) fun t _ y => ?_
  blk_simp
  rw [after10]
  refine point10 m c t y _ ?_ ?_
  all_goals (blk_simp [idx_val t] <;> try omega)

end Final

end Cert.KernelIdeal.Bwd

end
-- ==== Proof.Rows.lean ====
/- Slices of the reference's scan, and their updates, read at an index. -/
module

public import proofs.«01_k».proof.Proof.Gen.ReferenceIdeal
public import Idealize.ShloMosaic.Lib.Pointwise

@[expose] public section

set_option maxRecDepth 16384

noncomputable section

namespace Cert.ReferenceIdeal.Scan

open Idealize.ShloMosaic Idealize.ShloMosaic.TcCoe Cert.ReferenceIdeal Cert.ReferenceIdeal.Gen

/-- Where the slice of chunk `n` starts, four axes. -/
abbrev at4 (n : Fin 256) : Fin 4 → ℤ := fun k =>
  (((![constantI S_ 32 (BitVec.ofNat 32 n.val), constantI S_ 32 0#32, constantI S_ 32 0#32, constantI S_ 32 0#32] :
    Fin 4 → (⟨S_, .i32⟩ : BufTy).Contents (Elt Ideal))) k (Shape.Idx.first h_S_)).toInt

/-- Where the slice of chunk `n` starts, two axes. -/
abbrev at2 (n : Fin 256) : Fin 2 → ℤ := fun k =>
  (((![constantI S_ 32 (BitVec.ofNat 32 n.val), constantI S_ 32 0#32] :
    Fin 2 → (⟨S_, .i32⟩ : BufTy).Contents (Elt Ideal))) k (Shape.Idx.first h_S_)).toInt

theorem word (n : Fin 256) : (BitVec.ofNat 32 n.val).toInt = (n.val : ℤ) := by
  rw [BitVec.toInt_ofNat']
  exact Int.bmod_eq_of_le_mul_two (by omega) (by omega)

variable (n : Fin 256)

theorem take_s (X : FVec Ideal S256x16x128x128 .f32) (h : Fin 16) (x : Fin 128) (e : Fin 128) :
    (shapeCast S16x128x128 (Host.dynamicSlice S1x16x128x128 X (at4 n) sliceFits_S256x16x128x128_S1x16x128x128)
      shapeCasts_S1x16x128x128_S16x128x128 (ix3 h x e) : EReal) = X (ix4 n h x e) := by
  have c0 := Host.clampedStart_of_le (s := S256x16x128x128) (t := S1x16x128x128) rfl (at4 n) 0 n.val (word n) (by show n.val + 1 ≤ 256; omega)
  have c1 := Host.clampedStart_of_le (s := S256x16x128x128) (t := S1x16x128x128) rfl (at4 n) 1 0 rfl (by decide)
  have c2 := Host.clampedStart_of_le (s := S256x16x128x128) (t := S1x16x128x128) rfl (at4 n) 2 0 rfl (by decide)
  have c3 := Host.clampedStart_of_le (s := S256x16x128x128) (t := S1x16x128x128) rfl (at4 n) 3 0 rfl (by decide)
  pointwise
  simp only [c0, c1, c2, c3, Nat.zero_add, Fin.eta]

theorem take_r (X : FVec Ideal S256x16x64x128 .f32) (h : Fin 16) (x : Fin 64) (e : Fin 128) :
    (shapeCast S16x64x128 (Host.dynamicSlice S1x16x64x128 X (at4 n) sliceFits_S256x16x64x128_S1x16x64x128)
      shapeCasts_S1x16x64x128_S16x64x128 (ix3 h x e) : EReal) = X (ix4 n h x e) := by
  have c0 := Host.clampedStart_of_le (s := S256x16x64x128) (t := S1x16x64x128) rfl (at4 n) 0 n.val (word n) (by show n.val + 1 ≤ 256; omega)
  have c1 := Host.clampedStart_of_le (s := S256x16x64x128) (t := S1x16x64x128) rfl (at4 n) 1 0 rfl (by decide)
  have c2 := Host.clampedStart_of_le (s := S256x16x64x128) (t := S1x16x64x128) rfl (at4 n) 2 0 rfl (by decide)
  have c3 := Host.clampedStart_of_le (s := S256x16x64x128) (t := S1x16x64x128) rfl (at4 n) 3 0 rfl (by decide)
  pointwise
  simp only [c0, c1, c2, c3, Nat.zero_add, Fin.eta]

theorem put_r (X : FVec Ideal S256x16x64x128 .f32) (Y : FVec Ideal S16x64x128 .f32) (i : Fin 256) (h : Fin 16) (x : Fin 64) (e : Fin 128) :
    (Host.dynamicUpdateSlice X (broadcastInDim S1x16x64x128 ![1, 2, 3] bcast_S16x64x128_S1x16x64x128_1_2_3 Y) (at4 n)
      updateFits_S256x16x64x128_S1x16x64x128 (ix4 i h x e) : EReal) = if i = n then Y (ix3 h x e) else X (ix4 i h x e) := by
  have c0 := Host.clampedStart_of_le (s := S256x16x64x128) (t := S1x16x64x128) rfl (at4 n) 0 n.val (word n) (by show n.val + 1 ≤ 256; omega)
  have c1 := Host.clampedStart_of_le (s := S256x16x64x128) (t := S1x16x64x128) rfl (at4 n) 1 0 rfl (by decide)
  have c2 := Host.clampedStart_of_le (s := S256x16x64x128) (t := S1x16x64x128) rfl (at4 n) 2 0 rfl (by decide)
  have c3 := Host.clampedStart_of_le (s := S256x16x64x128) (t := S1x16x64x128) rfl (at4 n) 3 0 rfl (by decide)
  pointwise
  simp only [c0, c1, c2, c3, Nat.zero_le, Nat.sub_zero, and_true, Fin.eta]
  by_cases hi : i = n
  · subst hi; simp
  · rw [if_neg hi, dif_neg (by intro q; exact hi (Fin.ext (by omega)))]

theorem take_p (X : FVec Ideal S256x16x64x64 .f32) (h : Fin 16) (x : Fin 64) (e : Fin 64) :
    (shapeCast S16x64x64 (Host.dynamicSlice S1x16x64x64 X (at4 n) sliceFits_S256x16x64x64_S1x16x64x64)
      shapeCasts_S1x16x64x64_S16x64x64 (ix3 h x e) : EReal) = X (ix4 n h x e) := by
  have c0 := Host.clampedStart_of_le (s := S256x16x64x64) (t := S1x16x64x64) rfl (at4 n) 0 n.val (word n) (by show n.val + 1 ≤ 256; omega)
  have c1 := Host.clampedStart_of_le (s := S256x16x64x64) (t := S1x16x64x64) rfl (at4 n) 1 0 rfl (by decide)
  have c2 := Host.clampedStart_of_le (s := S256x16x64x64) (t := S1x16x64x64) rfl (at4 n) 2 0 rfl (by decide)
  have c3 := Host.clampedStart_of_le (s := S256x16x64x64) (t := S1x16x64x64) rfl (at4 n) 3 0 rfl (by decide)
  pointwise
  simp only [c0, c1, c2, c3, Nat.zero_add, Fin.eta]

theorem take_g (X : FVec Ideal S256x16 .f32) (h : Fin 16) :
    (shapeCast S16 (Host.dynamicSlice S1x16 X (at2 n) sliceFits_S256x16_S1x16)
      shapeCasts_S1x16_S16 (ix1 h) : EReal) = X (ix2 n h) := by
  have c0 := Host.clampedStart_of_le (s := S256x16) (t := S1x16) rfl (at2 n) 0 n.val (word n) (by show n.val + 1 ≤ 256; omega)
  have c1 := Host.clampedStart_of_le (s := S256x16) (t := S1x16) rfl (at2 n) 1 0 rfl (by decide)
  pointwise
  simp only [c0, c1, Nat.zero_add, Fin.eta]

theorem put_g (X : FVec Ideal S256x16 .f32) (Y : FVec Ideal S16 .f32) (i : Fin 256) (h : Fin 16) :
    (Host.dynamicUpdateSlice X (broadcastInDim S1x16 ![1] bcast_S16_S1x16_1 Y) (at2 n)
      updateFits_S256x16_S1x16 (ix2 i h) : EReal) = if i = n then Y (ix1 h) else X (ix2 i h) := by
  have c0 := Host.clampedStart_of_le (s := S256x16) (t := S1x16) rfl (at2 n) 0 n.val (word n) (by show n.val + 1 ≤ 256; omega)
  have c1 := Host.clampedStart_of_le (s := S256x16) (t := S1x16) rfl (at2 n) 1 0 rfl (by decide)
  pointwise
  simp only [c0, c1, Nat.zero_le, Nat.sub_zero, and_true, Fin.eta]
  by_cases hi : i = n
  · subst hi; simp
  · rw [if_neg hi, dif_neg (by intro q; exact hi (Fin.ext (by omega)))]

end Cert.ReferenceIdeal.Scan

end
-- ==== Proof.Scan.lean ====
/- One trip of the reference's scan is one step of the recurrence. -/
module

public import proofs.«01_k».proof.Proof.Gen.ReferenceIdeal.Run
public import proofs.«01_k».proof.Proof.Rows
public import proofs.«01_k».proof.Proof.Split

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value Cert.Chunked

/-! ## The carried buffers, at their types -/

abbrev cS (V : Valuation τ sig (Elt Ideal)) : FVec Ideal S256x16x128x128 .f32 := V (Proc.devRef .tc main_v30_0)
abbrev cQ (V : Valuation τ sig (Elt Ideal)) : FVec Ideal S256x16x64x128 .f32 := V (Proc.devRef .tc main_v30_1)
abbrev cK (V : Valuation τ sig (Elt Ideal)) : FVec Ideal S256x16x64x128 .f32 := V (Proc.devRef .tc main_v30_2)
abbrev cU (V : Valuation τ sig (Elt Ideal)) : FVec Ideal S256x16x64x128 .f32 := V (Proc.devRef .tc main_v30_3)
abbrev cW (V : Valuation τ sig (Elt Ideal)) : FVec Ideal S256x16x64x128 .f32 := V (Proc.devRef .tc main_v30_4)
abbrev cP (V : Valuation τ sig (Elt Ideal)) : FVec Ideal S256x16x64x64 .f32 := V (Proc.devRef .tc main_v30_5)
abbrev cG (V : Valuation τ sig (Elt Ideal)) : FVec Ideal S256x16 .f32 := V (Proc.devRef .tc main_v30_6)
abbrev cD (V : Valuation τ sig (Elt Ideal)) : FVec Ideal S256x16x64x128 .f32 := V (Proc.devRef .tc main_v30_7)
abbrev cT (V : Valuation τ sig (Elt Ideal)) : FVec Ideal S16x128x128 .f32 := V (Proc.devRef .tc main_v30_9)
abbrev oV (V : Valuation τ sig (Elt Ideal)) : FVec Ideal S256x16x64x128 .f32 := V (Proc.devRef .tc main_v30_10)
abbrev oK (V : Valuation τ sig (Elt Ideal)) : FVec Ideal S256x16x64x128 .f32 := V (Proc.devRef .tc main_v30_11)
abbrev oG (V : Valuation τ sig (Elt Ideal)) : FVec Ideal S256x16 .f32 := V (Proc.devRef .tc main_v30_12)

variable (V : Valuation τ sig (Elt Ideal)) (n : Fin 256)

/-- The trip reads and writes chunk `n`. -/
def AtChunk : Prop := res_main_while0b_v41 V = constantI S_ 32 (BitVec.ofNat 32 n.val)

section Trip

variable {V n} (hn : AtChunk V n)
include hn

theorem v42 (h : Fin 16) (x : Fin 128) (e : Fin 128) :
    ((res_main_while0b_v42 V : FVec Ideal S16x128x128 .f32) (ix3 h x e) : EReal) = cS V (ix4 n h x e) := by
  unfold res_main_while0b_v42
  rw [show res_main_while0b_v41 V = _ from hn]
  exact take_s n _ h x e

theorem v43 (h : Fin 16) (x : Fin 64) (e : Fin 128) :
    ((res_main_while0b_v43 V : FVec Ideal S16x64x128 .f32) (ix3 h x e) : EReal) = cQ V (ix4 n h x e) := by
  unfold res_main_while0b_v43
  rw [show res_main_while0b_v41 V = _ from hn]
  exact take_r n _ h x e

theorem v44 (h : Fin 16) (x : Fin 64) (e : Fin 128) :
    ((res_main_while0b_v44 V : FVec Ideal S16x64x128 .f32) (ix3 h x e) : EReal) = cK V (ix4 n h x e) := by
  unfold res_main_while0b_v44
  rw [show res_main_while0b_v41 V = _ from hn]
  exact take_r n _ h x e

theorem v46 (h : Fin 16) (x : Fin 64) (e : Fin 128) :
    ((res_main_while0b_v46 V : FVec Ideal S16x64x128 .f32) (ix3 h x e) : EReal) = cW V (ix4 n h x e) := by
  unfold res_main_while0b_v46
  rw [show res_main_while0b_v41 V = _ from hn]
  exact take_r n _ h x e

theorem v47 (h : Fin 16) (x : Fin 64) (e : Fin 64) :
    ((res_main_while0b_v47 V : FVec Ideal S16x64x64 .f32) (ix3 h x e) : EReal) = cP V (ix4 n h x e) := by
  unfold res_main_while0b_v47
  rw [show res_main_while0b_v41 V = _ from hn]
  exact take_p n _ h x e

theorem v49 (h : Fin 16) (x : Fin 64) (e : Fin 128) :
    ((res_main_while0b_v49 V : FVec Ideal S16x64x128 .f32) (ix3 h x e) : EReal) = cD V (ix4 n h x e) := by
  unfold res_main_while0b_v49
  rw [show res_main_while0b_v41 V = _ from hn]
  exact take_r n _ h x e

theorem v51 (h : Fin 16) (r : Fin 64) (e : Fin 128) :
    ((res_main_while0b_v51 V : FVec Ideal S16x64x128 .f32) (ix3 h r e) : EReal)
      = cU V (ix4 n h r e) - ∑ x : Fin 128, (cW V (ix4 n h r x) : EReal) * cS V (ix4 n h x e) := by
  unfold res_main_while0b_v51
  rw [show res_main_while0b_v41 V = _ from hn]
  show (shapeCast S16x64x128 (Host.dynamicSlice S1x16x64x128 (cU V) (at4 n) _) _ (ix3 h r e) : EReal)
    - (Host.dotGeneral (F := Ideal) dot_S16x64x128_S16x128x128_S16x64x128_2_1_1_2_0_0 none (res_main_while0b_v46 V : FVec Ideal S16x64x128 .f32)
        (res_main_while0b_v42 V : FVec Ideal S16x128x128 .f32) : FVec Ideal S16x64x128 .f32) (ix3 h r e) = _
  rw [take_r n (cU V) h r e]
  congr 1
  generalize hA : (res_main_while0b_v46 V : FVec Ideal S16x64x128 .f32) = A
  generalize hB : (res_main_while0b_v42 V : FVec Ideal S16x128x128 .f32) = B
  pointwise
  refine Finset.sum_congr rfl fun x _ => ?_
  rw [← hA, ← hB, v46 hn, v42 hn]

theorem v72 (h : Fin 16) (r : Fin 64) (e : Fin 128) :
    ((res_main_while0b_v72 V : FVec Ideal S16x64x128 .f32) (ix3 h r e) : EReal)
      = (∑ x : Fin 128, (cT V (ix3 h x e) : EReal) * cK V (ix4 n h r x))
        + ∑ s : Fin 64, (cD V (ix4 n h s e) : EReal) * cP V (ix4 n h s r) := by
  unfold res_main_while0b_v72
  generalize hA : (res_main_while0b_v44 V : FVec Ideal S16x64x128 .f32) = A
  generalize hB : (res_main_while0b_v49 V : FVec Ideal S16x64x128 .f32) = B
  generalize hC : (res_main_while0b_v47 V : FVec Ideal S16x64x64 .f32) = C
  pointwise
  congr 1
  · refine Finset.sum_congr rfl fun x _ => ?_
    rw [← hA, v44 hn]
  · refine Finset.sum_congr rfl fun x _ => ?_
    rw [← hB, ← hC, v49 hn, v47 hn]

/-- The gradient of the new values of the trip's chunk. -/
def newRow (V : Valuation τ sig (Elt Ideal)) (h : Fin 16) (r : Fin 64) (e : Fin 128) : EReal :=
  (res_main_while0b_v72 V : FVec Ideal S16x64x128 .f32) (ix3 h r e)

theorem v55 (h : Fin 16) :
    ((res_main_while0b_v55 V : FVec Ideal S16x1x1 .f32) (ix3 h 0 0) : EReal) = cG V (ix2 n h) := by
  unfold res_main_while0b_v55
  rw [show res_main_while0b_v41 V = _ from hn]
  refine Eq.trans ?_ (take_g n (cG V) h)
  generalize shapeCast S16 (Host.dynamicSlice S1x16 (cG V) (at2 n) sliceFits_S256x16_S1x16) shapeCasts_S1x16_S16 = X
  pointwise

theorem state (h : Fin 16) (x e : Fin 128) :
    ((step_main_v30_9 V : FVec Ideal S16x128x128 .f32) (ix3 h x e) : EReal)
      = (cT V (ix3 h x e) : EReal) * cG V (ix2 n h)
        + (∑ r : Fin 64, (cD V (ix4 n h r e) : EReal) * cQ V (ix4 n h r x))
        + ∑ r : Fin 64, -newRow V h r e * cW V (ix4 n h r x) := by
  unfold step_main_v30_9
  rw [id_eq, ← v55 hn h]
  generalize hA : (res_main_while0b_v49 V : FVec Ideal S16x64x128 .f32) = A
  generalize hB : (res_main_while0b_v43 V : FVec Ideal S16x64x128 .f32) = B
  generalize hC : (res_main_while0b_v72 V : FVec Ideal S16x64x128 .f32) = C
  generalize hD : (res_main_while0b_v46 V : FVec Ideal S16x64x128 .f32) = D
  generalize hE : (res_main_while0b_v55 V : FVec Ideal S16x1x1 .f32) = E
  pointwise
  congr 1
  · congr 1
    refine Finset.sum_congr rfl fun x _ => ?_
    rw [← hA, ← hB, v49 hn, v43 hn]
  · refine Finset.sum_congr rfl fun x _ => ?_
    rw [← hD, v46 hn, ← hC]; rfl

theorem values (i : Fin 256) (h : Fin 16) (r : Fin 64) (e : Fin 128) :
    ((step_main_v30_10 V : FVec Ideal S256x16x64x128 .f32) (ix4 i h r e) : EReal)
      = if i = n then (res_main_while0b_v72 V : FVec Ideal S16x64x128 .f32) (ix3 h r e) else oV V (ix4 i h r e) := by
  unfold step_main_v30_10
  rw [show res_main_while0b_v41 V = _ from hn]
  exact put_r n (oV V) (res_main_while0b_v72 V : FVec Ideal S16x64x128 .f32) i h r e

theorem keys (i : Fin 256) (h : Fin 16) (r : Fin 64) (x : Fin 128) :
    ((step_main_v30_11 V : FVec Ideal S256x16x64x128 .f32) (ix4 i h r x) : EReal)
      = if i = n then ∑ e : Fin 128, (cT V (ix3 h x e) : EReal) * (res_main_while0b_v51 V : FVec Ideal S16x64x128 .f32) (ix3 h r e)
        else oK V (ix4 i h r x) := by
  unfold step_main_v30_11
  rw [show res_main_while0b_v41 V = _ from hn]
  refine (put_r n (oK V) _ i h r x).trans ?_
  congr 1
  generalize hA : (res_main_while0b_v51 V : FVec Ideal S16x64x128 .f32) = A
  pointwise

theorem decays (i : Fin 256) (h : Fin 16) :
    ((step_main_v30_12 V : FVec Ideal S256x16 .f32) (ix2 i h) : EReal)
      = if i = n then ∑ x : Fin 128, ∑ e : Fin 128, (cS V (ix4 n h x e) : EReal) * cT V (ix3 h x e)
        else oG V (ix2 i h) := by
  unfold step_main_v30_12
  rw [show res_main_while0b_v41 V = _ from hn]
  refine (put_g n (oG V) _ i h).trans ?_
  congr 1
  generalize hA : (res_main_while0b_v42 V : FVec Ideal S16x128x128 .f32) = A
  pointwise
  simp only [Fin.sum_univ_one]
  refine Finset.sum_congr rfl fun x _ => Finset.sum_congr rfl fun e _ => ?_
  rw [← hA, v42 hn]

end Trip

end Cert.ReferenceIdeal.Scan

end
-- ==== Proof.Trips.lean ====
/- The reference's scan computes the recurrence, chunk by chunk from the last. -/
module

public import proofs.«01_k».proof.Proof.Scan

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value Cert.Chunked

/-- What the carried buffers hold before trip `j`: the data, the state's gradient after `j` chunks, and the results of
those chunks. -/
structure Inv (D : Data) (j : ℕ) (V : Valuation τ sig (Elt Ideal)) : Prop where
  ctr : (V (Proc.devRef .tc main_v30_8) : IVec S_ 32) = constantI S_ 32 (BitVec.ofNat 32 j)
  s : ∀ n h x e, (cS V (ix4 n h x e) : EReal) = D.s n h x e
  q : ∀ n h r x, (cQ V (ix4 n h r x) : EReal) = D.q n h r x
  k : ∀ n h r x, (cK V (ix4 n h r x) : EReal) = D.k n h r x
  w : ∀ n h r x, (cW V (ix4 n h r x) : EReal) = D.w n h r x
  d : ∀ n h r x, (cD V (ix4 n h r x) : EReal) = D.d n h r x
  p : ∀ n h r x, (cP V (ix4 n h r x) : EReal) = D.p n h r x
  g : ∀ n h, (cG V (ix2 n h) : EReal) = D.g n h
  u : ∀ n h r e, (cU V (ix4 n h r e) : EReal) - ∑ x : Fin 128, D.w n h r x * D.s n h x e = D.v n h r e
  t : ∀ h x e, (cT V (ix3 h x e) : EReal) = D.dS j h x e
  ov : ∀ i h r e, 256 ≤ i.val + j → (oV V (ix4 i h r e) : EReal) = D.dv i (D.dS (255 - i.val)) h r e
  ok : ∀ i h r x, 256 ≤ i.val + j → (oK V (ix4 i h r x) : EReal) = D.dk i (D.dS (255 - i.val)) h r x
  og : ∀ i h, 256 ≤ i.val + j → (oG V (ix2 i h) : EReal) = D.dg i (D.dS (255 - i.val)) h

/-- The chunk of trip `j`. -/
def rev (j : ℕ) : Fin 256 := ⟨255 - j, by omega⟩

namespace Inv

variable {D : Data} {j : ℕ} {V : Valuation τ sig (Elt Ideal)} (I : Inv D j V)
include I

/-- The scan runs in reverse: trip `j` takes chunk `255 - j`. -/
theorem chunk (hj : j < 256) : AtChunk V (rev j) := by
  unfold AtChunk res_main_while0b_v41
  rw [show V (Proc.devRef .tc main_v30_8) = constantI S_ 32 (BitVec.ofNat 32 j) from I.ctr]
  funext i
  show (256#32 - BitVec.ofNat 32 j) - 1#32 = BitVec.ofNat 32 (255 - j)
  apply BitVec.eq_of_toNat_eq
  simp only [BitVec.toNat_sub, BitVec.toNat_ofNat]
  omega

theorem new (hj : j < 256) (h : Fin 16) (r : Fin 64) (e : Fin 128) :
    newRow V h r e = D.dv (rev j) (D.dS j) h r e := by
  refine (v72 (I.chunk hj) h r e).trans ?_
  unfold Data.dv
  rw [add_comm]
  congr 1
  · exact Finset.sum_congr rfl fun s _ => by rw [I.d, I.p, mul_comm]
  · exact Finset.sum_congr rfl fun x _ => by rw [I.t, I.k, mul_comm]

theorem v (hj : j < 256) (h : Fin 16) (r : Fin 64) (e : Fin 128) :
    ((res_main_while0b_v51 V : FVec Ideal S16x64x128 .f32) (ix3 h r e) : EReal) = D.v (rev j) h r e := by
  refine (v51 (I.chunk hj) h r e).trans ?_
  rw [← I.u]
  congr 1
  exact Finset.sum_congr rfl fun x _ => by rw [I.w, I.s]

theorem key (hj : j < 256) (h : Fin 16) (r : Fin 64) (x : Fin 128) :
    ∑ e : Fin 128, (cT V (ix3 h x e) : EReal) * (res_main_while0b_v51 V : FVec Ideal S16x64x128 .f32) (ix3 h r e)
      = D.dk (rev j) (D.dS j) h r x := by
  unfold Data.dk
  exact Finset.sum_congr rfl fun e _ => by rw [I.t, I.v hj, mul_comm]

theorem decay (hj : j < 256) (h : Fin 16) :
    ∑ x : Fin 128, ∑ e : Fin 128, (cS V (ix4 (rev j) h x e) : EReal) * cT V (ix3 h x e) = D.dg (rev j) (D.dS j) h := by
  unfold Data.dg
  rw [Finset.sum_comm]
  exact Finset.sum_congr rfl fun e _ => Finset.sum_congr rfl fun x _ => by rw [I.t, I.s, mul_comm]

theorem step (H : D.Finite) (hj : j < 256) : Inv D (j + 1) (STEP V) where
  ctr := by
    refine (STEP_main_v30_8 V).trans ?_
    unfold step_main_v30_8
    rw [show V (Proc.devRef .tc main_v30_8) = constantI S_ 32 (BitVec.ofNat 32 j) from I.ctr, id_eq]
    funext i
    show BitVec.ofNat 32 j + 1#32 = BitVec.ofNat 32 (j + 1)
    rw [BitVec.ofNat_add]
  s n h x e := (congrFun (STEP_main_v30_0 V) _).trans (I.s n h x e)
  q n h x e := (congrFun (STEP_main_v30_1 V) _).trans (I.q n h x e)
  k n h x e := (congrFun (STEP_main_v30_2 V) _).trans (I.k n h x e)
  u n h r e := by
    rw [show (cU (STEP V) (ix4 n h r e) : EReal) = cU V (ix4 n h r e) from congrFun (STEP_main_v30_3 V) _]
    exact I.u n h r e
  w n h x e := (congrFun (STEP_main_v30_4 V) _).trans (I.w n h x e)
  p n h x e := (congrFun (STEP_main_v30_5 V) _).trans (I.p n h x e)
  g n h := (congrFun (STEP_main_v30_6 V) _).trans (I.g n h)
  d n h x e := (congrFun (STEP_main_v30_7 V) _).trans (I.d n h x e)
  t h x e := by
    refine (congrFun (STEP_main_v30_9 V) _).trans ((state (I.chunk hj) h x e).trans ?_)
    show _ = D.back (rev j) (D.dS j) h x e
    rw [H.back_eq _ (H.dS j), I.t, I.g]
    congr 1
    · congr 1
      exact Finset.sum_congr rfl fun r _ => by rw [I.d, I.q]
    · exact Finset.sum_congr rfl fun r _ => by rw [I.new hj, I.w]
  ov i h r e hi := by
    refine (congrFun (STEP_main_v30_10 V) _).trans ((values (I.chunk hj) i h r e).trans ?_)
    by_cases hn : i = (rev j)
    · rw [if_pos hn]
      refine (I.new hj h r e).trans ?_
      subst hn
      rw [show 255 - (rev j).val = j by show 255 - (255 - j) = j; omega]
    · rw [if_neg hn]
      have : i.val ≠ 255 - j := fun q => hn (Fin.ext q)
      exact I.ov i h r e (by omega)
  ok i h r x hi := by
    refine (congrFun (STEP_main_v30_11 V) _).trans ((keys (I.chunk hj) i h r x).trans ?_)
    by_cases hn : i = (rev j)
    · rw [if_pos hn]
      subst hn
      rw [show 255 - (rev j).val = j by show 255 - (255 - j) = j; omega]
      exact I.key hj h r x
    · rw [if_neg hn]
      have : i.val ≠ 255 - j := fun q => hn (Fin.ext q)
      exact I.ok i h r x (by omega)
  og i h hi := by
    refine (congrFun (STEP_main_v30_12 V) _).trans ((decays (I.chunk hj) i h).trans ?_)
    by_cases hn : i = (rev j)
    · rw [if_pos hn]
      subst hn
      rw [show 255 - (rev j).val = j by show 255 - (255 - j) = j; omega]
      exact I.decay hj h
    · rw [if_neg hn]
      have : i.val ≠ 255 - j := fun q => hn (Fin.ext q)
      exact I.og i h (by omega)

end Inv

/-- After every trip the invariant holds again. -/
theorem steps {D : Data} {V : Valuation τ sig (Elt Ideal)} (I : Inv D 0 V) (H : D.Finite) :
    ∀ i : ℕ, i ≤ 256 → Inv D i (STEP^[i] V)
  | 0, _ => I
  | i + 1, hi => by
    rw [Function.iterate_succ_apply']
    exact (steps I H i (by omega)).step H hi

end Cert.ReferenceIdeal.Scan

end
-- ==== Proof.Scanned.lean ====
/- The reference's results are the recurrence's gradients. -/
module

public import proofs.«01_k».proof.Proof.Trips
public import Idealize.ShloMosaic.Lib.Pipeline.ValueKit

@[expose] public section

set_option maxRecDepth 65536

noncomputable section

namespace Cert.ReferenceIdeal.Scan

open Idealize.ShloMosaic Idealize.ShloMosaic.TcCoe Idealize.ShloMosaic.StableHlo Idealize.SL.Sem
open Cert.ReferenceIdeal Cert.ReferenceIdeal.Gen Cert.ReferenceIdeal.Value Cert.Chunked

variable (m : (ℓ : Loc nD τ sig) → Buf (Elt Ideal) ℓ)

/-- The recurrence's data in the launch memory. -/
def data (c : Dev nD) : Data :=
  ofArrays (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

section Entry

variable (c : Dev nD)

theorem entry_q (n : Fin 256) (h : Fin 16) (r : Fin 64) (x : Fin 128) :
    (cQ (entryContents preI m c) (ix4 n h r x) : EReal) = (data m c).q n h r x := by
  show _ = (m ((c.tc : Thread nD τ).loc main_arg0) : FVec Ideal S16384x2048 .bf16) (ix2 _ _)
  simp only [cQ, entryContents, afterL_cons, afterL_nil]
  after_reads_simp
  rw [id_eq]
  pointwise
  blk_ext

theorem entry_k (n : Fin 256) (h : Fin 16) (r : Fin 64) (x : Fin 128) :
    (cK (entryContents preI m c) (ix4 n h r x) : EReal) = (data m c).k n h r x := by
  show _ = (m ((c.tc : Thread nD τ).loc main_arg1) : FVec Ideal S16384x2048 .bf16) (ix2 _ _)
  simp only [cK, entryContents, afterL_cons, afterL_nil]
  after_reads_simp
  rw [id_eq]
  pointwise
  blk_ext

theorem entry_u (n : Fin 256) (h : Fin 16) (r : Fin 64) (x : Fin 128) :
    (cU (entryContents preI m c) (ix4 n h r x) : EReal) = cell (m ((c.tc : Thread nD τ).loc main_arg2)) n h r x := by
  show _ = (m ((c.tc : Thread nD τ).loc main_arg2) : FVec Ideal S16384x2048 .f32) (ix2 _ _)
  simp only [cU, entryContents, afterL_cons, afterL_nil]
  after_reads_simp
  rw [id_eq]
  pointwise
  blk_ext

theorem entry_w (n : Fin 256) (h : Fin 16) (r : Fin 64) (x : Fin 128) :
    (cW (entryContents preI m c) (ix4 n h r x) : EReal) = (data m c).w n h r x := by
  show _ = (m ((c.tc : Thread nD τ).loc main_arg3) : FVec Ideal S16384x2048 .bf16) (ix2 _ _)
  simp only [cW, entryContents, afterL_cons, afterL_nil]
  after_reads_simp
  rw [id_eq]
  pointwise
  blk_ext

theorem entry_d (n : Fin 256) (h : Fin 16) (r : Fin 64) (x : Fin 128) :
    (cD (entryContents preI m c) (ix4 n h r x) : EReal) = (data m c).d n h r x := by
  show _ = (m ((c.tc : Thread nD τ).loc main_arg7) : FVec Ideal S16384x2048 .f32) (ix2 _ _)
  simp only [cD, entryContents, afterL_cons, afterL_nil]
  after_reads_simp
  rw [id_eq]
  pointwise
  blk_ext

theorem entry_p (n : Fin 256) (h : Fin 16) (r x : Fin 64) :
    (cP (entryContents preI m c) (ix4 n h r x) : EReal) = (data m c).p n h r x := by
  show _ = (m ((c.tc : Thread nD τ).loc main_arg4) : FVec Ideal S16x256x64x64 .bf16) (ix4 h n r x)
  simp only [cP, entryContents, afterL_cons, afterL_nil]
  after_reads_simp
  rw [id_eq]
  pointwise

theorem entry_s (n : Fin 256) (h : Fin 16) (x e : Fin 128) :
    (cS (entryContents preI m c) (ix4 n h x e) : EReal) = (data m c).s n h x e := by
  show _ = (m ((c.tc : Thread nD τ).loc main_arg5) : FVec Ideal S16x256x128x128 .bf16) (ix4 h n x e)
  simp only [cS, entryContents, afterL_cons, afterL_nil]
  after_reads_simp
  rw [id_eq]
  pointwise

theorem entry_g (n : Fin 256) (h : Fin 16) :
    (cG (entryContents preI m c) (ix2 n h) : EReal) = (data m c).g n h := by
  show _ = Ideal.exp ((m ((c.tc : Thread nD τ).loc main_arg6) : FVec Ideal S16x256x64 .f32) (ix3 h n 63))
  simp only [cG, entryContents, afterL_cons, afterL_nil]
  after_reads_simp
  rw [id_eq]
  pointwise

theorem entry_t (h : Fin 16) (x e : Fin 128) :
    (cT (entryContents preI m c) (ix3 h x e) : EReal) = (data m c).dS 0 h x e := by
  show _ = (0 : EReal)
  simp only [cT, entryContents, afterL_cons, afterL_nil]
  after_reads_simp
  rw [id_eq]
  pointwise

/-- At the loop's entry nothing is computed yet. -/
theorem entry : Inv (data m c) 0 (entryContents preI m c) where
  ctr := ctr_entry m c
  s := entry_s m c
  q := entry_q m c
  k := entry_k m c
  w := entry_w m c
  d := entry_d m c
  p := entry_p m c
  g := entry_g m c
  u n h r e := by rw [entry_u]; rfl
  t := entry_t m c
  ov i _ _ _ hi := absurd hi (by omega)
  ok i _ _ _ hi := absurd hi (by omega)
  og i _ hi := absurd hi (by omega)

end Entry

section Out

variable {D : Data} {V : Valuation τ sig (Elt Ideal)} (I : Inv D 256 V)
include I

theorem out_v : (out_main_v33 V : FVec Ideal S16384x2048 .f32) = dvArr D := by
  funext i
  unfold out_main_v33 dvArr
  idx_vars i
  rw [← I.ov _ _ _ _ (by omega)]
  pointwise

theorem out_k : (out_main_v36 V : FVec Ideal S16384x2048 .f32) = dkArr D := by
  funext i
  unfold out_main_v36 dkArr
  idx_vars i
  rw [← I.ok _ _ _ _ (by omega)]
  pointwise

theorem out_g : (out_main_v39 V : FVec Ideal S16x256x64 .f32) = dgArr D := by
  funext i
  unfold out_main_v39 dgArr
  idx_vars i
  refine Eq.trans ?_ (I.og _ _ (by omega))
  pointwise

end Out

/-- The reference's run: the three gradients, and the arguments as they were. -/
theorem run_arrays (ρ : Dev nD → PrngReg) (H : ∀ c, (data m c).Finite) :
    θ_run (defs (F := Ideal)) (onTc (τ := τ) (main (F := Ideal))) ⟨m, fun _ => 0, ρ⟩ fun r => ∀ c : Dev nD,
      (r.2.mem ((c.tc : Thread nD τ).loc main_v33) = dvArr (data m c)
        ∧ r.2.mem ((c.tc : Thread nD τ).loc main_v36) = dkArr (data m c)
        ∧ r.2.mem ((c.tc : Thread nD τ).loc main_v39) = dgArr (data m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have I := steps (entry m c) (H c) 256 le_rfl
    ⟨⟨(h c).1.trans (out_v I), (h c).2.1.trans (out_k I), (h c).2.2.1.trans (out_g I)⟩, (h c).2.2.2⟩) (Value.run m ρ)

end Cert.ReferenceIdeal.Scan

end
-- ==== Proof.Finite.lean ====
/- What the precondition gives: the recurrence's numbers are real. -/
module

public import proofs.«01_k».proof.Pre_finite
public import proofs.«01_k».proof.Proof.Gen.Pre_finite
public import proofs.«01_k».proof.Proof.Split
public import Idealize.ShloMosaic.Lib.ReduceAll
public import Idealize.ShloMosaic.Lib.WordArith

@[expose] public section

noncomputable section

namespace Cert.Chunked

open Idealize.ShloMosaic

/-- A number whose magnitude is below the infinity of the comparison is real. -/
theorem real_of_below {x : EReal} (h : Ideal.cmp .olt (max x (-x)) (Ideal.ofBits .f32 0x7F800000#32) = 1#1) : Real' x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The exponential of a real is real. -/
theorem real_exp {x : EReal} (h : Real' x) : Real' (Ideal.exp x) := by
  obtain ⟨r, rfl⟩ := h
  exact ⟨Real.exp r, rfl⟩

/-- Where an "and" of two one-bit words is 1, both are. -/
theorem both {a b : BitVec 1} (h : a &&& b = 1#1) : a = 1#1 ∧ b = 1#1 := by
  revert a b; decide

/-- The shape of a scalar has one index. -/
instance : Subsingleton Cert.Pre_finite.S_.Idx := ⟨fun a b => funext fun d => d.elim0⟩

/-- Under the precondition the recurrence's data are real. -/
theorem finite_of_pre (q k u w p s g d) (h : Cert.Pre_finite.fn (F := Ideal) q k u w p s g d = fun _ => 1#1) :
    (ofArrays q k u w p s g d).Finite := by
  have e := congrFun h (fun d => d.elim0)
  dsimp only [Cert.Pre_finite.fn, Cert.Pre_finite.fn_part1] at e
  obtain ⟨e, hd⟩ := both e
  obtain ⟨e, hg⟩ := both e
  obtain ⟨e, hp⟩ := both e
  obtain ⟨e, hw⟩ := both e
  obtain ⟨hq, hk⟩ := both e
  have rq : ∀ i, Real' (q i) := fun i => real_of_below (Host.reduce_andi_all _ _ _ _ _ hq i)
  have rk : ∀ i, Real' (k i) := fun i => real_of_below (Host.reduce_andi_all _ _ _ _ _ hk i)
  have rw' : ∀ i, Real' (w i) := fun i => real_of_below (Host.reduce_andi_all _ _ _ _ _ hw i)
  have rp : ∀ i, Real' (p i) := fun i => real_of_below (Host.reduce_andi_all _ _ _ _ _ hp i)
  have rg : ∀ i, Real' (g i) := fun i => real_of_below (Host.reduce_andi_all _ _ _ _ _ hg i)
  have rd : ∀ i, Real' (d i) := fun i => real_of_below (Host.reduce_andi_all _ _ _ _ _ hd i)
  exact ⟨fun _ _ _ _ => rq _, fun _ _ _ _ => rk _, fun _ _ _ _ => rw' _, fun _ _ _ _ => rd _, fun _ _ _ _ => rp _,
    fun _ _ => real_exp (rg _)⟩

end Cert.Chunked

end
-- ==== Proof.Product.lean ====
/- The weight gradients: products over the rows of two arrays. -/
module

public import Idealize.ShloMosaic.Lib.Pointwise

@[expose] public section

noncomputable section

namespace Cert.Weights

open Idealize.ShloMosaic

/-- The product of `a` transposed and `b`: a sum over their common rows. -/
def tn {φ ψ : FTy} {K N : ℕ} (a : FVec Ideal ⟨2, ![16384, K]⟩ φ) (b : FVec Ideal ⟨2, ![16384, N]⟩ ψ) :
    FVec Ideal ⟨2, ![K, N]⟩ .f32 :=
  fun j => ∑ l : Fin 16384, a (ix2 l (j 0)) * b (ix2 l (j 1))

/-- The normalised rows a layer's input projection reads. -/
def normed (x : FVec Ideal ⟨2, ![16384, 1024]⟩ .f32) (w : FVec Ideal ⟨2, ![1, 1024]⟩ .f32) :
    FVec Ideal ⟨2, ![16384, 1024]⟩ .bf16 :=
  fun j => x (ix2 (j 0) (j 1))
    * Ideal.rsqrt (Ideal.div (∑ k : Fin 1024, x (ix2 (j 0) k) * x (ix2 (j 0) k)) (Ideal.ofBits .f32 0x44800000#32)
        + Ideal.ofBits .f32 0x358637BD#32)
    * w (ix2 0 (j 1))

/-- Thirty-two columns and ninety-six of zeros. -/
def padded (d : FVec Ideal ⟨2, ![16384, 32]⟩ .f32) : FVec Ideal ⟨2, ![16384, 128]⟩ .f32 :=
  fun j => if h : (j 1 : ℕ) < 32 then d (ix2 (j 0) ⟨j 1, h⟩) else 0

/-- The word of zero is zero. -/
theorem word_zero : (FloatOps.sitofp (F := Ideal) FTy.f32 (0#32) : EReal) = 0 := by
  show (((0#32 : BitVec 32).toInt : ℝ) : EReal) = 0
  simp

/-- An entry depends on the number of its column only. -/
theorem same_column {R N : ℕ} (a : Shape.Idx ⟨2, ![R, N]⟩ → EReal) (l : Fin R) {i j : Fin N}
    (h : (i : ℕ) = (j : ℕ)) : a (ix2 l i) = a (ix2 l j) := by
  rw [Fin.ext h]

end Cert.Weights

end
-- ==== Proof.CallsW.lean ====
/- What each call of the weight gradients' matrix product leaves in its result array. -/
module

public import proofs.«01_k».proof.Proof.Gen.KernelWIdeal.Frame
public import proofs.«01_k».proof.Proof.Product
public import Idealize.ShloMosaic.Lib.Pipeline.ValueKit

@[expose] public section

set_option maxRecDepth 16384

noncomputable section

namespace Cert.KernelWIdeal.Grad

open Idealize.ShloMosaic Idealize.ShloMosaic.TcCoe Cert.KernelWIdeal Cert.KernelWIdeal.Gen Cert.Weights
open Idealize.ShloMosaic.Pipeline (Dat)

variable (V : (c : Dev nD) → (b : Ref sig .tc) → Buf (Elt Ideal) ((c : Thread nD τ).loc b)) (c : Dev nD)

/-! ## Columns of z -/

theorem zero0 (j : S1024x1024.Idx) : k0_pay1 (F := Ideal) j = (0 : EReal) := by pointwise [k0_pay1]

theorem pay0 (acc : FVec Ideal S1024x1024 .f32) (a : FVec Ideal S2048x1024 .bf16) (b : FVec Ideal S2048x1024 .bf16)
    (j : S1024x1024.Idx) :
    k0_pay2 (F := Ideal) acc a b j = acc j + ∑ s : Fin 2048, a (ix2 s (j 0)) * b (ix2 s (j 1)) := by
  pointwise [k0_pay2]

theorem idx0 : ∀ t : Fin cfg0.N, win0_0.index t = ![t.val % 8, 0] ∧ win0_1.index t = ![t.val % 8, t.val / 8]
    ∧ win0_2.index t = ![0, t.val / 8] :=
  (by decide +kernel : ∀ t : Fin grid0.N, _)

theorem call0 : (dat0 V c).arrAt 2 cfg0.N = tn (φ := .bf16) (ψ := .bf16) (K := 1024) (N := 2048) (V c main_v12) (V c main_arg2) := by
  refine (dat0 V c).arrAt_eq_of_covers 2 _ (by decide +kernel) fun t hf y => ?_
  blk_simp
  rw [after0_2, Pipeline.eq_sum_fin_of_reset_step_apply_of_flush (fun n h => outsAt0 V c n h) 8 (fun _ => 0) _
    (fun t h j => by rw [outsAt0_A V c t h]; frame_out; rw [pay0, zero0])
    (fun t h j => by rw [outsAt0_B V c t h]; frame_out; rw [pay0])
    t ((flush0_2 t).mp hf) _, zero_add]
  unfold tn
  refine Fin.sum_mul_add_congr fun s k hl => ?_
  blk_point [iblk0, idx0 t, idx0 ⟨_, Pipeline.run_point_lt_of_flush t ((flush0_2 t).mp hf) s⟩]

/-! ## Columns of x -/

theorem zero1 (j : S1024x1024.Idx) : k1_pay1 (F := Ideal) j = (0 : EReal) := by pointwise [k1_pay1]

theorem pay1 (acc : FVec Ideal S1024x1024 .f32) (a : FVec Ideal S2048x1024 .bf16) (b : FVec Ideal S2048x1024 .bf16)
    (j : S1024x1024.Idx) :
    k1_pay2 (F := Ideal) acc a b j = acc j + ∑ s : Fin 2048, a (ix2 s (j 0)) * b (ix2 s (j 1)) := by
  pointwise [k1_pay2]

theorem idx1 : ∀ t : Fin cfg1.N, win1_0.index t = ![t.val % 8, 0] ∧ win1_1.index t = ![t.val % 8, t.val / 8]
    ∧ win1_2.index t = ![0, t.val / 8] :=
  (by decide +kernel : ∀ t : Fin grid1.N, _)

theorem call1 : (dat1 V c).arrAt 2 cfg1.N = tn (φ := .bf16) (ψ := .bf16) (K := 1024) (N := 2048) (V c main_v12) (V c main_arg3) := by
  refine (dat1 V c).arrAt_eq_of_covers 2 _ (by decide +kernel) fun t hf y => ?_
  blk_simp
  rw [after1_2, Pipeline.eq_sum_fin_of_reset_step_apply_of_flush (fun n h => outsAt1 V c n h) 8 (fun _ => 0) _
    (fun t h j => by rw [outsAt1_A V c t h]; frame_out; rw [pay1, zero1])
    (fun t h j => by rw [outsAt1_B V c t h]; frame_out; rw [pay1])
    t ((flush1_2 t).mp hf) _, zero_add]
  unfold tn
  refine Fin.sum_mul_add_congr fun s k hl => ?_
  blk_point [iblk1, idx1 t, idx1 ⟨_, Pipeline.run_point_lt_of_flush t ((flush1_2 t).mp hf) s⟩]

/-! ## Columns of B -/

theorem zero2 (j : S1024x1024.Idx) : k2_pay1 (F := Ideal) j = (0 : EReal) := by pointwise [k2_pay1]

theorem pay2 (acc : FVec Ideal S1024x1024 .f32) (a : FVec Ideal S2048x1024 .bf16) (b : FVec Ideal S2048x1024 .bf16)
    (j : S1024x1024.Idx) :
    k2_pay2 (F := Ideal) acc a b j = acc j + ∑ s : Fin 2048, a (ix2 s (j 0)) * b (ix2 s (j 1)) := by
  pointwise [k2_pay2]

theorem idx2 : ∀ t : Fin cfg2.N, win2_0.index t = ![t.val % 8, 0] ∧ win2_1.index t = ![t.val % 8, 0]
    ∧ win2_2.index t = ![0, 0] :=
  (by decide +kernel : ∀ t : Fin grid2.N, _)

theorem call2 : (dat2 V c).arrAt 2 cfg2.N = tn (φ := .bf16) (ψ := .bf16) (K := 1024) (N := 1024) (V c main_v12) (V c main_arg4) := by
  refine (dat2 V c).arrAt_eq_of_covers 2 _ (by decide +kernel) fun t hf y => ?_
  blk_simp
  rw [after2_2, Pipeline.eq_sum_fin_of_reset_step_apply_of_flush (fun n h => outsAt2 V c n h) 8 (fun _ => 0) _
    (fun t h j => by rw [outsAt2_A V c t h]; frame_out; rw [pay2, zero2])
    (fun t h j => by rw [outsAt2_B V c t h]; frame_out; rw [pay2])
    t ((flush2_2 t).mp hf) _, zero_add]
  unfold tn
  refine Fin.sum_mul_add_congr fun s k hl => ?_
  blk_point [iblk2, idx2 t, idx2 ⟨_, Pipeline.run_point_lt_of_flush t ((flush2_2 t).mp hf) s⟩]

/-! ## Columns of C -/

theorem zero3 (j : S1024x1024.Idx) : k3_pay1 (F := Ideal) j = (0 : EReal) := by pointwise [k3_pay1]

theorem pay3 (acc : FVec Ideal S1024x1024 .f32) (a : FVec Ideal S2048x1024 .bf16) (b : FVec Ideal S2048x1024 .bf16)
    (j : S1024x1024.Idx) :
    k3_pay2 (F := Ideal) acc a b j = acc j + ∑ s : Fin 2048, a (ix2 s (j 0)) * b (ix2 s (j 1)) := by
  pointwise [k3_pay2]

theorem idx3 : ∀ t : Fin cfg3.N, win3_0.index t = ![t.val % 8, 0] ∧ win3_1.index t = ![t.val % 8, 0]
    ∧ win3_2.index t = ![0, 0] :=
  (by decide +kernel : ∀ t : Fin grid3.N, _)

theorem call3 : (dat3 V c).arrAt 2 cfg3.N = tn (φ := .bf16) (ψ := .bf16) (K := 1024) (N := 1024) (V c main_v12) (V c main_arg5) := by
  refine (dat3 V c).arrAt_eq_of_covers 2 _ (by decide +kernel) fun t hf y => ?_
  blk_simp
  rw [after3_2, Pipeline.eq_sum_fin_of_reset_step_apply_of_flush (fun n h => outsAt3 V c n h) 8 (fun _ => 0) _
    (fun t h j => by rw [outsAt3_A V c t h]; frame_out; rw [pay3, zero3])
    (fun t h j => by rw [outsAt3_B V c t h]; frame_out; rw [pay3])
    t ((flush3_2 t).mp hf) _, zero_add]
  unfold tn
  refine Fin.sum_mul_add_congr fun s k hl => ?_
  blk_point [iblk3, idx3 t, idx3 ⟨_, Pipeline.run_point_lt_of_flush t ((flush3_2 t).mp hf) s⟩]

/-! ## Columns of dt, padded -/

theorem zero4 (j : S1024x128.Idx) : k4_pay1 (F := Ideal) j = (0 : EReal) := by pointwise [k4_pay1]

theorem pay4 (acc : FVec Ideal S1024x128 .f32) (a : FVec Ideal S2048x1024 .bf16) (b : FVec Ideal S2048x128 .f32)
    (j : S1024x128.Idx) :
    k4_pay2 (F := Ideal) acc a b j = acc j + ∑ s : Fin 2048, a (ix2 s (j 0)) * b (ix2 s (j 1)) := by
  pointwise [k4_pay2]

theorem idx4 : ∀ t : Fin cfg4.N, win4_0.index t = ![t.val % 8, 0] ∧ win4_1.index t = ![t.val % 8, 0]
    ∧ win4_2.index t = ![0, 0] :=
  (by decide +kernel : ∀ t : Fin grid4.N, _)

theorem call4 : (dat4 V c).arrAt 2 cfg4.N = tn (φ := .bf16) (ψ := .f32) (K := 1024) (N := 128) (V c main_v12) (V c main_v13) := by
  refine (dat4 V c).arrAt_eq_of_covers 2 _ (by decide +kernel) fun t hf y => ?_
  blk_simp
  rw [after4_2, Pipeline.eq_sum_fin_of_reset_step_apply_of_flush (fun n h => outsAt4 V c n h) 8 (fun _ => 0) _
    (fun t h j => by rw [outsAt4_A V c t h]; frame_out; rw [pay4, zero4])
    (fun t h j => by rw [outsAt4_B V c t h]; frame_out; rw [pay4])
    t ((flush4_2 t).mp hf) _, zero_add]
  unfold tn
  refine Fin.sum_mul_add_congr fun s k hl => ?_
  blk_point [iblk4, idx4 t, idx4 ⟨_, Pipeline.run_point_lt_of_flush t ((flush4_2 t).mp hf) s⟩]

/-! ## The output projection -/

theorem zero5 (j : S2048x1024.Idx) : k5_pay1 (F := Ideal) j = (0 : EReal) := by pointwise [k5_pay1]

theorem pay5 (acc : FVec Ideal S2048x1024 .f32) (a : FVec Ideal S2048x2048 .bf16) (b : FVec Ideal S2048x1024 .f32)
    (j : S2048x1024.Idx) :
    k5_pay2 (F := Ideal) acc a b j = acc j + ∑ s : Fin 2048, a (ix2 s (j 0)) * b (ix2 s (j 1)) := by
  pointwise [k5_pay2]

theorem idx5 : ∀ t : Fin cfg5.N, win5_0.index t = ![t.val % 8, 0] ∧ win5_1.index t = ![t.val % 8, 0]
    ∧ win5_2.index t = ![0, 0] :=
  (by decide +kernel : ∀ t : Fin grid5.N, _)

theorem call5 : (dat5 V c).arrAt 2 cfg5.N = tn (φ := .bf16) (ψ := .f32) (K := 2048) (N := 1024) (V c main_arg7) (V c main_arg8) := by
  refine (dat5 V c).arrAt_eq_of_covers 2 _ (by decide +kernel) fun t hf y => ?_
  blk_simp
  rw [after5_2, Pipeline.eq_sum_fin_of_reset_step_apply_of_flush (fun n h => outsAt5 V c n h) 8 (fun _ => 0) _
    (fun t h j => by rw [outsAt5_A V c t h]; frame_out; rw [pay5, zero5])
    (fun t h j => by rw [outsAt5_B V c t h]; frame_out; rw [pay5])
    t ((flush5_2 t).mp hf) _, zero_add]
  unfold tn
  refine Fin.sum_mul_add_congr fun s k hl => ?_
  blk_point [iblk5, idx5 t, idx5 ⟨_, Pipeline.run_point_lt_of_flush t ((flush5_2 t).mp hf) s⟩]

end Cert.KernelWIdeal.Grad

end
-- ==== Proof.FinalW.lean ====
/- The contents of the result arrays when the six calls have run. -/
module

public import proofs.«01_k».proof.Proof.CallsW
public import Idealize.ShloMosaic.Lib.StableHlo.ReadAt

@[expose] public section

set_option maxRecDepth 16384

noncomputable section

namespace Cert.KernelWIdeal.Grad

open Idealize.ShloMosaic Idealize.ShloMosaic.TcCoe Idealize.ShloMosaic.Tactic Cert.KernelWIdeal Cert.KernelWIdeal.Gen Cert.Weights
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Run

variable {F : FTy → Type} [FloatOps F]
variable (m : (ℓ : Loc nD τ sig) → Buf (Elt F) ℓ) (ρ : Dev nD → PrngReg)

local notation "𝕄" => MT nD τ sig Unit (Elt F) ℕ (UR sig nD τ) ℕ

-- the run's implicit arguments are found by unifying its conclusion with this one
set_option backward.isDefEq.respectTransparency.types false in
/-- Every buffer outside the calls' own ends as the fold of the operations and calls leaves it. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨A, -, B, -, C, -⟩, -⟩
      imodintro
      isplitl [A]; · iexact A
      isplitl [C]; · iexists _; iexact C
      iexists ∅; iexact B)
    (QY := fun c s => ∀ b ∈ Pipeline.ucRefs τ sig, s.mem (((c : Thread nD τ)).1, b) = W8 m ρ c b)
    (hfin := fun c s => by
      iintro ⟨⟨A, -⟩, B⟩
      unfold StableHlo.held
      imodintro
      iapply (pointsTo_read_all (Pipeline.ucRefs τ sig) (fun b => (((c : Thread nD τ)).1, b)) (W8 m ρ c) s)
      isplitl [A] <;> iassumption)
    (hQ := fun s h _ => h)

end Run

variable (m : (ℓ : Loc nD τ sig) → Buf (Elt Ideal) ℓ) (ρ : Dev nD → PrngReg) (c : Dev nD)

/-! ## What the calls read -/

theorem entry_h : (V2 m ρ c main_v12 : FVec Ideal S16384x1024 .bf16)
    = normed (m ((c : Thread nD τ).loc main_arg0)) (m ((c : Thread nD τ).loc main_arg1)) := by
  refine (W2_of m ρ c main_v12 (by decide)).trans ?_
  funext j
  unfold normed
  idx_vars j
  show StableHlo.after hostOps0 (W0 m ρ c) (Proc.devRef .tc main_v12) (ix2 j0 j1) = _
  after_reads_at

theorem entry_p : (V2 m ρ c main_v13 : FVec Ideal S16384x128 .f32) = padded (m ((c : Thread nD τ).loc main_arg6)) := by
  funext j
  unfold padded
  idx_vars j
  show StableHlo.after hostOps0_1 (StableHlo.after hostOps0 (W0 m ρ c)) (Proc.devRef .tc main_v13) (ix2 j0 j1) = _
  after_reads_at
  rw [word_zero]

/-- What the calls read and no call writes. -/
abbrev readRefs : List (Ref sig .tc) := main_v12 :: main_v13 :: argRefs

theorem keeps0 : ∀ a ∈ readRefs, ∀ w : Fin cfg0.W, Pipeline.arrRef spec0 w = a → (cfg0.win w).isOut = false :=
  ListAll.forall_mem_of_all_decide (by decide +kernel)

theorem keeps1 : ∀ a ∈ readRefs, ∀ w : Fin cfg1.W, Pipeline.arrRef spec1 w = a → (cfg1.win w).isOut = false :=
  ListAll.forall_mem_of_all_decide (by decide +kernel)

theorem keeps2 : ∀ a ∈ readRefs, ∀ w : Fin cfg2.W, Pipeline.arrRef spec2 w = a → (cfg2.win w).isOut = false :=
  ListAll.forall_mem_of_all_decide (by decide +kernel)

theorem keeps3 : ∀ a ∈ readRefs, ∀ w : Fin cfg3.W, Pipeline.arrRef spec3 w = a → (cfg3.win w).isOut = false :=
  ListAll.forall_mem_of_all_decide (by decide +kernel)

theorem keeps4 : ∀ a ∈ readRefs, ∀ w : Fin cfg4.W, Pipeline.arrRef spec4 w = a → (cfg4.win w).isOut = false :=
  ListAll.forall_mem_of_all_decide (by decide +kernel)

section Kept

variable (r : Ref sig .tc) (h : r ∈ readRefs)
include h

theorem kept3 : V3 m ρ c r = V2 m ρ c r := (W3_of m ρ c r (keeps0 r h))

theorem kept4 : V4 m ρ c r = V2 m ρ c r := (W4_of m ρ c r (keeps1 r h)).trans (kept3 m ρ c r h)

theorem kept5 : V5 m ρ c r = V2 m ρ c r := (W5_of m ρ c r (keeps2 r h)).trans (kept4 m ρ c r h)

theorem kept6 : V6 m ρ c r = V2 m ρ c r := (W6_of m ρ c r (keeps3 r h)).trans (kept5 m ρ c r h)

theorem kept7 : V7 m ρ c r = V2 m ρ c r := (W7_of m ρ c r (keeps4 r h)).trans (kept6 m ρ c r h)

end Kept

/-- An argument is as launched when the first call runs. -/
theorem entry_arg (r : Ref sig .tc) (h : r ∈ argRefs) : V2 m ρ c r = m ((c : Thread nD τ).loc r) := W2_args m ρ c r h

/-! ## The result arrays -/

theorem final0 : W8 m ρ c (Proc.devRef .tc main_v14)
    = tn (φ := .bf16) (ψ := .bf16) (K := 1024) (N := 2048) (normed (m ((c : Thread nD τ).loc main_arg0)) (m ((c : Thread nD τ).loc main_arg1)))
        (m ((c : Thread nD τ).loc main_arg2)) := by
  rw [W8_of m ρ c main_v14 (by decide +kernel), W7_of m ρ c main_v14 (by decide +kernel), W6_of m ρ c main_v14 (by decide +kernel), W5_of m ρ c main_v14 (by decide +kernel), W4_of m ρ c main_v14 (by decide +kernel)]
  refine (W3_arr m ρ c 2).trans ((call0 (V2 m ρ) c).trans ?_)
  exact congrArg₂ (tn (φ := .bf16) (ψ := .bf16) (K := 1024) (N := 2048)) (entry_h m ρ c) (entry_arg m ρ c main_arg2 (by decide))

theorem final1 : W8 m ρ c (Proc.devRef .tc main_v15)
    = tn (φ := .bf16) (ψ := .bf16) (K := 1024) (N := 2048) (normed (m ((c : Thread nD τ).loc main_arg0)) (m ((c : Thread nD τ).loc main_arg1)))
        (m ((c : Thread nD τ).loc main_arg3)) := by
  rw [W8_of m ρ c main_v15 (by decide +kernel), W7_of m ρ c main_v15 (by decide +kernel), W6_of m ρ c main_v15 (by decide +kernel), W5_of m ρ c main_v15 (by decide +kernel)]
  refine (W4_arr m ρ c 2).trans ((call1 (V3 m ρ) c).trans ?_)
  exact congrArg₂ (tn (φ := .bf16) (ψ := .bf16) (K := 1024) (N := 2048)) ((kept3 m ρ c main_v12 (by decide)).trans (entry_h m ρ c)) ((kept3 m ρ c main_arg3 (by decide)).trans (entry_arg m ρ c main_arg3 (by decide)))

theorem final2 : W8 m ρ c (Proc.devRef .tc main_v16)
    = tn (φ := .bf16) (ψ := .bf16) (K := 1024) (N := 1024) (normed (m ((c : Thread nD τ).loc main_arg0)) (m ((c : Thread nD τ).loc main_arg1)))
        (m ((c : Thread nD τ).loc main_arg4)) := by
  rw [W8_of m ρ c main_v16 (by decide +kernel), W7_of m ρ c main_v16 (by decide +kernel), W6_of m ρ c main_v16 (by decide +kernel)]
  refine (W5_arr m ρ c 2).trans ((call2 (V4 m ρ) c).trans ?_)
  exact congrArg₂ (tn (φ := .bf16) (ψ := .bf16) (K := 1024) (N := 1024)) ((kept4 m ρ c main_v12 (by decide)).trans (entry_h m ρ c)) ((kept4 m ρ c main_arg4 (by decide)).trans (entry_arg m ρ c main_arg4 (by decide)))

theorem final3 : W8 m ρ c (Proc.devRef .tc main_v17)
    = tn (φ := .bf16) (ψ := .bf16) (K := 1024) (N := 1024) (normed (m ((c : Thread nD τ).loc main_arg0)) (m ((c : Thread nD τ).loc main_arg1)))
        (m ((c : Thread nD τ).loc main_arg5)) := by
  rw [W8_of m ρ c main_v17 (by decide +kernel), W7_of m ρ c main_v17 (by decide +kernel)]
  refine (W6_arr m ρ c 2).trans ((call3 (V5 m ρ) c).trans ?_)
  exact congrArg₂ (tn (φ := .bf16) (ψ := .bf16) (K := 1024) (N := 1024)) ((kept5 m ρ c main_v12 (by decide)).trans (entry_h m ρ c)) ((kept5 m ρ c main_arg5 (by decide)).trans (entry_arg m ρ c main_arg5 (by decide)))

theorem final4 : W8 m ρ c (Proc.devRef .tc main_v18)
    = tn (φ := .bf16) (ψ := .f32) (K := 1024) (N := 128) (normed (m ((c : Thread nD τ).loc main_arg0)) (m ((c : Thread nD τ).loc main_arg1)))
        (padded (m ((c : Thread nD τ).loc main_arg6))) := by
  rw [W8_of m ρ c main_v18 (by decide +kernel)]
  refine (W7_arr m ρ c 2).trans ((call4 (V6 m ρ) c).trans ?_)
  exact congrArg₂ (tn (φ := .bf16) (ψ := .f32) (K := 1024) (N := 128)) ((kept6 m ρ c main_v12 (by decide)).trans (entry_h m ρ c)) ((kept6 m ρ c main_v13 (by decide)).trans (entry_p m ρ c))

theorem final5 : W8 m ρ c (Proc.devRef .tc main_v19)
    = tn (φ := .bf16) (ψ := .f32) (K := 2048) (N := 1024) (m ((c : Thread nD τ).loc main_arg7))
        (m ((c : Thread nD τ).loc main_arg8)) := by
  refine (W8_arr m ρ c 2).trans ((call5 (V7 m ρ) c).trans ?_)
  exact congrArg₂ (tn (φ := .bf16) (ψ := .f32) (K := 2048) (N := 1024)) ((kept7 m ρ c main_arg7 (by decide)).trans (entry_arg m ρ c main_arg7 (by decide))) ((kept7 m ρ c main_arg8 (by decide)).trans (entry_arg m ρ c main_arg8 (by decide)))

/-- The run: the six products, and the arguments as they were. -/
theorem run_products : θ_run (defs (F := Ideal)) (onTc (τ := τ) (main (F := Ideal))) ⟨m, fun _ => 0, ρ⟩ fun r => ∀ c : Dev nD,
      r.2.mem ((c.tc : Thread nD τ).loc main_v14) = tn (φ := .bf16) (ψ := .bf16) (K := 1024) (N := 2048) (normed (m ((c : Thread nD τ).loc main_arg0)) (m ((c : Thread nD τ).loc main_arg1)))
          (m ((c : Thread nD τ).loc main_arg2))
      ∧ r.2.mem ((c.tc : Thread nD τ).loc main_v15) = tn (φ := .bf16) (ψ := .bf16) (K := 1024) (N := 2048) (normed (m ((c : Thread nD τ).loc main_arg0)) (m ((c : Thread nD τ).loc main_arg1)))
          (m ((c : Thread nD τ).loc main_arg3))
      ∧ r.2.mem ((c.tc : Thread nD τ).loc main_v16) = tn (φ := .bf16) (ψ := .bf16) (K := 1024) (N := 1024) (normed (m ((c : Thread nD τ).loc main_arg0)) (m ((c : Thread nD τ).loc main_arg1)))
          (m ((c : Thread nD τ).loc main_arg4))
      ∧ r.2.mem ((c.tc : Thread nD τ).loc main_v17) = tn (φ := .bf16) (ψ := .bf16) (K := 1024) (N := 1024) (normed (m ((c : Thread nD τ).loc main_arg0)) (m ((c : Thread nD τ).loc main_arg1)))
          (m ((c : Thread nD τ).loc main_arg5))
      ∧ r.2.mem ((c.tc : Thread nD τ).loc main_v18) = tn (φ := .bf16) (ψ := .f32) (K := 1024) (N := 128) (normed (m ((c : Thread nD τ).loc main_arg0)) (m ((c : Thread nD τ).loc main_arg1)))
          (padded (m ((c : Thread nD τ).loc main_arg6)))
      ∧ r.2.mem ((c.tc : Thread nD τ).loc main_v19) = tn (φ := .bf16) (ψ := .f32) (K := 2048) (N := 1024) (m ((c : Thread nD τ).loc main_arg7))
          (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c _ (mem_uc main_v14 (by decide))).trans (final0 m ρ c),
      (h c _ (mem_uc main_v15 (by decide))).trans (final1 m ρ c),
      (h c _ (mem_uc main_v16 (by decide))).trans (final2 m ρ c),
      (h c _ (mem_uc main_v17 (by decide))).trans (final3 m ρ c),
      (h c _ (mem_uc main_v18 (by decide))).trans (final4 m ρ c),
      (h c _ (mem_uc main_v19 (by decide))).trans (final5 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩) (run_all m ρ)

end Cert.KernelWIdeal.Grad

end
-- ==== Proof.RefW.lean ====
/- The reference's weight gradients are the same products. -/
module

public import proofs.«01_k».proof.Proof.Gen.ReferenceWIdeal.Run
public import proofs.«01_k».proof.Proof.Product

@[expose] public section

set_option maxRecDepth 16384

noncomputable section

namespace Cert.ReferenceWIdeal.Grad

open Idealize.ShloMosaic Idealize.ShloMosaic.TcCoe Idealize.SL.Sem Cert.ReferenceWIdeal Cert.Weights

variable (m : (ℓ : Loc nD τ sig) → Buf (Elt Ideal) ℓ) (ρ : Dev nD → PrngReg)

set_option maxHeartbeats 2000000 in
/-- The run: the six products, and the arguments as they were. -/
theorem run_products : θ_run (defs (F := Ideal)) (onTc (τ := τ) (main (F := Ideal))) ⟨m, fun _ => 0, ρ⟩ fun r => ∀ c : Dev nD,
      r.2.mem ((c.tc : Thread nD τ).loc main_v26) = tn (φ := .bf16) (ψ := .bf16) (K := 1024) (N := 2048) (normed (m ((c.tc : Thread nD τ).loc main_arg0)) (m ((c.tc : Thread nD τ).loc main_arg1)))
          (m ((c.tc : Thread nD τ).loc main_arg2))
      ∧ r.2.mem ((c.tc : Thread nD τ).loc main_v27) = tn (φ := .bf16) (ψ := .bf16) (K := 1024) (N := 2048) (normed (m ((c.tc : Thread nD τ).loc main_arg0)) (m ((c.tc : Thread nD τ).loc main_arg1)))
          (m ((c.tc : Thread nD τ).loc main_arg3))
      ∧ r.2.mem ((c.tc : Thread nD τ).loc main_v28) = tn (φ := .bf16) (ψ := .bf16) (K := 1024) (N := 1024) (normed (m ((c.tc : Thread nD τ).loc main_arg0)) (m ((c.tc : Thread nD τ).loc main_arg1)))
          (m ((c.tc : Thread nD τ).loc main_arg4))
      ∧ r.2.mem ((c.tc : Thread nD τ).loc main_v29) = tn (φ := .bf16) (ψ := .bf16) (K := 1024) (N := 1024) (normed (m ((c.tc : Thread nD τ).loc main_arg0)) (m ((c.tc : Thread nD τ).loc main_arg1)))
          (m ((c.tc : Thread nD τ).loc main_arg5))
      ∧ r.2.mem ((c.tc : Thread nD τ).loc main_v31) = tn (φ := .bf16) (ψ := .f32) (K := 1024) (N := 128) (normed (m ((c.tc : Thread nD τ).loc main_arg0)) (m ((c.tc : Thread nD τ).loc main_arg1)))
          (padded (m ((c.tc : Thread nD τ).loc main_arg6)))
      ∧ r.2.mem ((c.tc : Thread nD τ).loc main_v23) = tn (φ := .bf16) (ψ := .f32) (K := 2048) (N := 1024) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2, h3, h4, h5, h6⟩ := h c
  refine ⟨h0.trans ?_, h1.trans ?_, h2.trans ?_, h3.trans ?_, h4.trans ?_, h5.trans ?_, h6⟩
  · funext j
    idx_vars j
    pointwise [tn, normed]
    exact Finset.sum_congr rfl fun l _ => mul_comm _ _
  · funext j
    idx_vars j
    pointwise [tn, normed]
    exact Finset.sum_congr rfl fun l _ => mul_comm _ _
  · funext j
    idx_vars j
    pointwise [tn, normed]
    refine Finset.sum_congr rfl fun l _ => (congrArg (· * _) ?_).trans (mul_comm _ _)
    rw [dif_neg (by omega), dif_neg (by omega), dif_pos (by omega)]
    exact same_column _ l (by show 4096 + (j1 : ℕ) - 2048 - 2048 = (j1 : ℕ); omega)
  · funext j
    idx_vars j
    pointwise [tn, normed]
    refine Finset.sum_congr rfl fun l _ => (congrArg (· * _) ?_).trans (mul_comm _ _)
    rw [dif_neg (by omega), dif_neg (by omega), dif_neg (by omega), dif_pos (by omega)]
    exact same_column _ l (by show 5120 + (j1 : ℕ) - 2048 - 2048 - 1024 = (j1 : ℕ); omega)
  · funext j
    idx_vars j
    pointwise [tn, normed, padded]
    by_cases h : (j1 : ℕ) < 32
    · rw [dif_pos h]
      refine Finset.sum_congr rfl fun l _ => (congrArg (· * _) ?_).trans (mul_comm _ _)
      rw [dif_neg (by omega), dif_neg (by omega), dif_neg (by omega), dif_neg (by omega), dif_pos h]
      exact same_column _ l (by show 6144 + (j1 : ℕ) - 2048 - 2048 - 1024 - 1024 = (j1 : ℕ); omega)
    · rw [dif_neg h, word_zero]
      refine (Finset.sum_eq_zero fun l _ => ?_).symm
      rw [dif_neg h]
      exact mul_zero _
  · funext j
    idx_vars j
    pointwise [tn]
    exact Finset.sum_congr rfl fun l _ => mul_comm _ _

end Cert.ReferenceWIdeal.Grad

end
-- ==== Proof.CallsG.lean ====
/- What each call of the weight gradients' matrix product leaves in its result array. -/
module

public import proofs.«01_k».proof.Proof.Gen.KernelGIdeal.Frame
public import proofs.«01_k».proof.Proof.Product
public import Idealize.ShloMosaic.Lib.Pipeline.ValueKit

@[expose] public section

set_option maxRecDepth 16384

noncomputable section

namespace Cert.KernelGIdeal.Grad

open Idealize.ShloMosaic Idealize.ShloMosaic.TcCoe Cert.KernelGIdeal Cert.KernelGIdeal.Gen Cert.Weights
open Idealize.ShloMosaic.Pipeline (Dat)

variable (V : (c : Dev nD) → (b : Ref sig .tc) → Buf (Elt Ideal) ((c : Thread nD τ).loc b)) (c : Dev nD)

/-! ## Columns of q -/

theorem zero0 (j : S1024x1024.Idx) : k0_pay1 (F := Ideal) j = (0 : EReal) := by pointwise [k0_pay1]

theorem pay0 (acc : FVec Ideal S1024x1024 .f32) (a : FVec Ideal S2048x1024 .bf16) (b : FVec Ideal S2048x1024 .bf16)
    (j : S1024x1024.Idx) :
    k0_pay2 (F := Ideal) acc a b j = acc j + ∑ s : Fin 2048, a (ix2 s (j 0)) * b (ix2 s (j 1)) := by
  pointwise [k0_pay2]

theorem idx0 : ∀ t : Fin cfg0.N, win0_0.index t = ![t.val % 8, 0] ∧ win0_1.index t = ![t.val % 8, 0]
    ∧ win0_2.index t = ![0, 0] :=
  (by decide +kernel : ∀ t : Fin grid0.N, _)

theorem call0 : (dat0 V c).arrAt 2 cfg0.N = tn (φ := .bf16) (ψ := .bf16) (K := 1024) (N := 1024) (V c main_v12) (V c main_arg2) := by
  refine (dat0 V c).arrAt_eq_of_covers 2 _ (by decide +kernel) fun t hf y => ?_
  blk_simp
  rw [after0_2, Pipeline.eq_sum_fin_of_reset_step_apply_of_flush (fun n h => outsAt0 V c n h) 8 (fun _ => 0) _
    (fun t h j => by rw [outsAt0_A V c t h]; frame_out; rw [pay0, zero0])
    (fun t h j => by rw [outsAt0_B V c t h]; frame_out; rw [pay0])
    t ((flush0_2 t).mp hf) _, zero_add]
  unfold tn
  refine Fin.sum_mul_add_congr fun s k hl => ?_
  blk_point [iblk0, idx0 t, idx0 ⟨_, Pipeline.run_point_lt_of_flush t ((flush0_2 t).mp hf) s⟩]

/-! ## Columns of k -/

theorem zero1 (j : S1024x1024.Idx) : k1_pay1 (F := Ideal) j = (0 : EReal) := by pointwise [k1_pay1]

theorem pay1 (acc : FVec Ideal S1024x1024 .f32) (a : FVec Ideal S2048x1024 .bf16) (b : FVec Ideal S2048x1024 .bf16)
    (j : S1024x1024.Idx) :
    k1_pay2 (F := Ideal) acc a b j = acc j + ∑ s : Fin 2048, a (ix2 s (j 0)) * b (ix2 s (j 1)) := by
  pointwise [k1_pay2]

theorem idx1 : ∀ t : Fin cfg1.N, win1_0.index t = ![t.val % 8, 0] ∧ win1_1.index t = ![t.val % 8, 0]
    ∧ win1_2.index t = ![0, 0] :=
  (by decide +kernel : ∀ t : Fin grid1.N, _)

theorem call1 : (dat1 V c).arrAt 2 cfg1.N = tn (φ := .bf16) (ψ := .bf16) (K := 1024) (N := 1024) (V c main_v12) (V c main_arg3) := by
  refine (dat1 V c).arrAt_eq_of_covers 2 _ (by decide +kernel) fun t hf y => ?_
  blk_simp
  rw [after1_2, Pipeline.eq_sum_fin_of_reset_step_apply_of_flush (fun n h => outsAt1 V c n h) 8 (fun _ => 0) _
    (fun t h j => by rw [outsAt1_A V c t h]; frame_out; rw [pay1, zero1])
    (fun t h j => by rw [outsAt1_B V c t h]; frame_out; rw [pay1])
    t ((flush1_2 t).mp hf) _, zero_add]
  unfold tn
  refine Fin.sum_mul_add_congr fun s k hl => ?_
  blk_point [iblk1, idx1 t, idx1 ⟨_, Pipeline.run_point_lt_of_flush t ((flush1_2 t).mp hf) s⟩]

/-! ## Columns of v -/

theorem zero2 (j : S1024x1024.Idx) : k2_pay1 (F := Ideal) j = (0 : EReal) := by pointwise [k2_pay1]

theorem pay2 (acc : FVec Ideal S1024x1024 .f32) (a : FVec Ideal S2048x1024 .bf16) (b : FVec Ideal S2048x1024 .bf16)
    (j : S1024x1024.Idx) :
    k2_pay2 (F := Ideal) acc a b j = acc j + ∑ s : Fin 2048, a (ix2 s (j 0)) * b (ix2 s (j 1)) := by
  pointwise [k2_pay2]

theorem idx2 : ∀ t : Fin cfg2.N, win2_0.index t = ![t.val % 8, 0] ∧ win2_1.index t = ![t.val % 8, t.val / 8]
    ∧ win2_2.index t = ![0, t.val / 8] :=
  (by decide +kernel : ∀ t : Fin grid2.N, _)

theorem call2 : (dat2 V c).arrAt 2 cfg2.N = tn (φ := .bf16) (ψ := .bf16) (K := 1024) (N := 2048) (V c main_v12) (V c main_arg4) := by
  refine (dat2 V c).arrAt_eq_of_covers 2 _ (by decide +kernel) fun t hf y => ?_
  blk_simp
  rw [after2_2, Pipeline.eq_sum_fin_of_reset_step_apply_of_flush (fun n h => outsAt2 V c n h) 8 (fun _ => 0) _
    (fun t h j => by rw [outsAt2_A V c t h]; frame_out; rw [pay2, zero2])
    (fun t h j => by rw [outsAt2_B V c t h]; frame_out; rw [pay2])
    t ((flush2_2 t).mp hf) _, zero_add]
  unfold tn
  refine Fin.sum_mul_add_congr fun s k hl => ?_
  blk_point [iblk2, idx2 t, idx2 ⟨_, Pipeline.run_point_lt_of_flush t ((flush2_2 t).mp hf) s⟩]

/-! ## Columns of z -/

theorem zero3 (j : S1024x1024.Idx) : k3_pay1 (F := Ideal) j = (0 : EReal) := by pointwise [k3_pay1]

theorem pay3 (acc : FVec Ideal S1024x1024 .f32) (a : FVec Ideal S2048x1024 .bf16) (b : FVec Ideal S2048x1024 .bf16)
    (j : S1024x1024.Idx) :
    k3_pay2 (F := Ideal) acc a b j = acc j + ∑ s : Fin 2048, a (ix2 s (j 0)) * b (ix2 s (j 1)) := by
  pointwise [k3_pay2]

theorem idx3 : ∀ t : Fin cfg3.N, win3_0.index t = ![t.val % 8, 0] ∧ win3_1.index t = ![t.val % 8, t.val / 8]
    ∧ win3_2.index t = ![0, t.val / 8] :=
  (by decide +kernel : ∀ t : Fin grid3.N, _)

theorem call3 : (dat3 V c).arrAt 2 cfg3.N = tn (φ := .bf16) (ψ := .bf16) (K := 1024) (N := 2048) (V c main_v12) (V c main_arg5) := by
  refine (dat3 V c).arrAt_eq_of_covers 2 _ (by decide +kernel) fun t hf y => ?_
  blk_simp
  rw [after3_2, Pipeline.eq_sum_fin_of_reset_step_apply_of_flush (fun n h => outsAt3 V c n h) 8 (fun _ => 0) _
    (fun t h j => by rw [outsAt3_A V c t h]; frame_out; rw [pay3, zero3])
    (fun t h j => by rw [outsAt3_B V c t h]; frame_out; rw [pay3])
    t ((flush3_2 t).mp hf) _, zero_add]
  unfold tn
  refine Fin.sum_mul_add_congr fun s k hl => ?_
  blk_point [iblk3, idx3 t, idx3 ⟨_, Pipeline.run_point_lt_of_flush t ((flush3_2 t).mp hf) s⟩]

/-! ## Columns of beta and a, padded -/

theorem zero4 (j : S1024x128.Idx) : k4_pay1 (F := Ideal) j = (0 : EReal) := by pointwise [k4_pay1]

theorem pay4 (acc : FVec Ideal S1024x128 .f32) (a : FVec Ideal S2048x1024 .bf16) (b : FVec Ideal S2048x128 .f32)
    (j : S1024x128.Idx) :
    k4_pay2 (F := Ideal) acc a b j = acc j + ∑ s : Fin 2048, a (ix2 s (j 0)) * b (ix2 s (j 1)) := by
  pointwise [k4_pay2]

theorem idx4 : ∀ t : Fin cfg4.N, win4_0.index t = ![t.val % 8, 0] ∧ win4_1.index t = ![t.val % 8, 0]
    ∧ win4_2.index t = ![0, 0] :=
  (by decide +kernel : ∀ t : Fin grid4.N, _)

theorem call4 : (dat4 V c).arrAt 2 cfg4.N = tn (φ := .bf16) (ψ := .f32) (K := 1024) (N := 128) (V c main_v12) (V c main_v13) := by
  refine (dat4 V c).arrAt_eq_of_covers 2 _ (by decide +kernel) fun t hf y => ?_
  blk_simp
  rw [after4_2, Pipeline.eq_sum_fin_of_reset_step_apply_of_flush (fun n h => outsAt4 V c n h) 8 (fun _ => 0) _
    (fun t h j => by rw [outsAt4_A V c t h]; frame_out; rw [pay4, zero4])
    (fun t h j => by rw [outsAt4_B V c t h]; frame_out; rw [pay4])
    t ((flush4_2 t).mp hf) _, zero_add]
  unfold tn
  refine Fin.sum_mul_add_congr fun s k hl => ?_
  blk_point [iblk4, idx4 t, idx4 ⟨_, Pipeline.run_point_lt_of_flush t ((flush4_2 t).mp hf) s⟩]

/-! ## The output projection -/

theorem zero5 (j : S2048x1024.Idx) : k5_pay1 (F := Ideal) j = (0 : EReal) := by pointwise [k5_pay1]

theorem pay5 (acc : FVec Ideal S2048x1024 .f32) (a : FVec Ideal S2048x2048 .bf16) (b : FVec Ideal S2048x1024 .f32)
    (j : S2048x1024.Idx) :
    k5_pay2 (F := Ideal) acc a b j = acc j + ∑ s : Fin 2048, a (ix2 s (j 0)) * b (ix2 s (j 1)) := by
  pointwise [k5_pay2]

theorem idx5 : ∀ t : Fin cfg5.N, win5_0.index t = ![t.val % 8, 0] ∧ win5_1.index t = ![t.val % 8, 0]
    ∧ win5_2.index t = ![0, 0] :=
  (by decide +kernel : ∀ t : Fin grid5.N, _)

theorem call5 : (dat5 V c).arrAt 2 cfg5.N = tn (φ := .bf16) (ψ := .f32) (K := 2048) (N := 1024) (V c main_arg7) (V c main_arg8) := by
  refine (dat5 V c).arrAt_eq_of_covers 2 _ (by decide +kernel) fun t hf y => ?_
  blk_simp
  rw [after5_2, Pipeline.eq_sum_fin_of_reset_step_apply_of_flush (fun n h => outsAt5 V c n h) 8 (fun _ => 0) _
    (fun t h j => by rw [outsAt5_A V c t h]; frame_out; rw [pay5, zero5])
    (fun t h j => by rw [outsAt5_B V c t h]; frame_out; rw [pay5])
    t ((flush5_2 t).mp hf) _, zero_add]
  unfold tn
  refine Fin.sum_mul_add_congr fun s k hl => ?_
  blk_point [iblk5, idx5 t, idx5 ⟨_, Pipeline.run_point_lt_of_flush t ((flush5_2 t).mp hf) s⟩]

end Cert.KernelGIdeal.Grad

end
-- ==== Proof.FinalG.lean ====
/- The contents of the result arrays when the six calls have run. -/
module

public import proofs.«01_k».proof.Proof.CallsG
public import Idealize.ShloMosaic.Lib.StableHlo.ReadAt

@[expose] public section

set_option maxRecDepth 16384

noncomputable section

namespace Cert.KernelGIdeal.Grad

open Idealize.ShloMosaic Idealize.ShloMosaic.TcCoe Idealize.ShloMosaic.Tactic Cert.KernelGIdeal Cert.KernelGIdeal.Gen Cert.Weights
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Run

variable {F : FTy → Type} [FloatOps F]
variable (m : (ℓ : Loc nD τ sig) → Buf (Elt F) ℓ) (ρ : Dev nD → PrngReg)

local notation "𝕄" => MT nD τ sig Unit (Elt F) ℕ (UR sig nD τ) ℕ

-- the run's implicit arguments are found by unifying its conclusion with this one
set_option backward.isDefEq.respectTransparency.types false in
/-- Every buffer outside the calls' own ends as the fold of the operations and calls leaves it. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H; imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨A, -, B, -, C, -⟩, -⟩
      imodintro
      isplitl [A]; · iexact A
      isplitl [C]; · iexists _; iexact C
      iexists ∅; iexact B)
    (QY := fun c s => ∀ b ∈ Pipeline.ucRefs τ sig, s.mem (((c : Thread nD τ)).1, b) = W8 m ρ c b)
    (hfin := fun c s => by
      iintro ⟨⟨A, -⟩, B⟩
      unfold StableHlo.held
      imodintro
      iapply (pointsTo_read_all (Pipeline.ucRefs τ sig) (fun b => (((c : Thread nD τ)).1, b)) (W8 m ρ c) s)
      isplitl [A] <;> iassumption)
    (hQ := fun s h _ => h)

end Run

variable (m : (ℓ : Loc nD τ sig) → Buf (Elt Ideal) ℓ) (ρ : Dev nD → PrngReg) (c : Dev nD)

/-! ## What the calls read -/

theorem entry_h : (V2 m ρ c main_v12 : FVec Ideal S16384x1024 .bf16)
    = normed (m ((c : Thread nD τ).loc main_arg0)) (m ((c : Thread nD τ).loc main_arg1)) := by
  refine (W2_of m ρ c main_v12 (by decide)).trans ?_
  funext j
  unfold normed
  idx_vars j
  show StableHlo.after hostOps0 (W0 m ρ c) (Proc.devRef .tc main_v12) (ix2 j0 j1) = _
  after_reads_at

theorem entry_p : (V2 m ρ c main_v13 : FVec Ideal S16384x128 .f32) = padded (m ((c : Thread nD τ).loc main_arg6)) := by
  funext j
  unfold padded
  idx_vars j
  show StableHlo.after hostOps0_1 (StableHlo.after hostOps0 (W0 m ρ c)) (Proc.devRef .tc main_v13) (ix2 j0 j1) = _
  after_reads_at
  rw [word_zero]

/-- What the calls read and no call writes. -/
abbrev readRefs : List (Ref sig .tc) := main_v12 :: main_v13 :: argRefs

theorem keeps0 : ∀ a ∈ readRefs, ∀ w : Fin cfg0.W, Pipeline.arrRef spec0 w = a → (cfg0.win w).isOut = false :=
  ListAll.forall_mem_of_all_decide (by decide +kernel)

theorem keeps1 : ∀ a ∈ readRefs, ∀ w : Fin cfg1.W, Pipeline.arrRef spec1 w = a → (cfg1.win w).isOut = false :=
  ListAll.forall_mem_of_all_decide (by decide +kernel)

theorem keeps2 : ∀ a ∈ readRefs, ∀ w : Fin cfg2.W, Pipeline.arrRef spec2 w = a → (cfg2.win w).isOut = false :=
  ListAll.forall_mem_of_all_decide (by decide +kernel)

theorem keeps3 : ∀ a ∈ readRefs, ∀ w : Fin cfg3.W, Pipeline.arrRef spec3 w = a → (cfg3.win w).isOut = false :=
  ListAll.forall_mem_of_all_decide (by decide +kernel)

theorem keeps4 : ∀ a ∈ readRefs, ∀ w : Fin cfg4.W, Pipeline.arrRef spec4 w = a → (cfg4.win w).isOut = false :=
  ListAll.forall_mem_of_all_decide (by decide +kernel)

section Kept

variable (r : Ref sig .tc) (h : r ∈ readRefs)
include h

theorem kept3 : V3 m ρ c r = V2 m ρ c r := (W3_of m ρ c r (keeps0 r h))

theorem kept4 : V4 m ρ c r = V2 m ρ c r := (W4_of m ρ c r (keeps1 r h)).trans (kept3 m ρ c r h)

theorem kept5 : V5 m ρ c r = V2 m ρ c r := (W5_of m ρ c r (keeps2 r h)).trans (kept4 m ρ c r h)

theorem kept6 : V6 m ρ c r = V2 m ρ c r := (W6_of m ρ c r (keeps3 r h)).trans (kept5 m ρ c r h)

theorem kept7 : V7 m ρ c r = V2 m ρ c r := (W7_of m ρ c r (keeps4 r h)).trans (kept6 m ρ c r h)

end Kept

/-- An argument is as launched when the first call runs. -/
theorem entry_arg (r : Ref sig .tc) (h : r ∈ argRefs) : V2 m ρ c r = m ((c : Thread nD τ).loc r) := W2_args m ρ c r h

/-! ## The result arrays -/

theorem final0 : W8 m ρ c (Proc.devRef .tc main_v14)
    = tn (φ := .bf16) (ψ := .bf16) (K := 1024) (N := 1024) (normed (m ((c : Thread nD τ).loc main_arg0)) (m ((c : Thread nD τ).loc main_arg1)))
        (m ((c : Thread nD τ).loc main_arg2)) := by
  rw [W8_of m ρ c main_v14 (by decide +kernel), W7_of m ρ c main_v14 (by decide +kernel), W6_of m ρ c main_v14 (by decide +kernel), W5_of m ρ c main_v14 (by decide +kernel), W4_of m ρ c main_v14 (by decide +kernel)]
  refine (W3_arr m ρ c 2).trans ((call0 (V2 m ρ) c).trans ?_)
  exact congrArg₂ (tn (φ := .bf16) (ψ := .bf16) (K := 1024) (N := 1024)) (entry_h m ρ c) (entry_arg m ρ c main_arg2 (by decide))

theorem final1 : W8 m ρ c (Proc.devRef .tc main_v15)
    = tn (φ := .bf16) (ψ := .bf16) (K := 1024) (N := 1024) (normed (m ((c : Thread nD τ).loc main_arg0)) (m ((c : Thread nD τ).loc main_arg1)))
        (m ((c : Thread nD τ).loc main_arg3)) := by
  rw [W8_of m ρ c main_v15 (by decide +kernel), W7_of m ρ c main_v15 (by decide +kernel), W6_of m ρ c main_v15 (by decide +kernel), W5_of m ρ c main_v15 (by decide +kernel)]
  refine (W4_arr m ρ c 2).trans ((call1 (V3 m ρ) c).trans ?_)
  exact congrArg₂ (tn (φ := .bf16) (ψ := .bf16) (K := 1024) (N := 1024)) ((kept3 m ρ c main_v12 (by decide)).trans (entry_h m ρ c)) ((kept3 m ρ c main_arg3 (by decide)).trans (entry_arg m ρ c main_arg3 (by decide)))

theorem final2 : W8 m ρ c (Proc.devRef .tc main_v16)
    = tn (φ := .bf16) (ψ := .bf16) (K := 1024) (N := 2048) (normed (m ((c : Thread nD τ).loc main_arg0)) (m ((c : Thread nD τ).loc main_arg1)))
        (m ((c : Thread nD τ).loc main_arg4)) := by
  rw [W8_of m ρ c main_v16 (by decide +kernel), W7_of m ρ c main_v16 (by decide +kernel), W6_of m ρ c main_v16 (by decide +kernel)]
  refine (W5_arr m ρ c 2).trans ((call2 (V4 m ρ) c).trans ?_)
  exact congrArg₂ (tn (φ := .bf16) (ψ := .bf16) (K := 1024) (N := 2048)) ((kept4 m ρ c main_v12 (by decide)).trans (entry_h m ρ c)) ((kept4 m ρ c main_arg4 (by decide)).trans (entry_arg m ρ c main_arg4 (by decide)))

theorem final3 : W8 m ρ c (Proc.devRef .tc main_v17)
    = tn (φ := .bf16) (ψ := .bf16) (K := 1024) (N := 2048) (normed (m ((c : Thread nD τ).loc main_arg0)) (m ((c : Thread nD τ).loc main_arg1)))
        (m ((c : Thread nD τ).loc main_arg5)) := by
  rw [W8_of m ρ c main_v17 (by decide +kernel), W7_of m ρ c main_v17 (by decide +kernel)]
  refine (W6_arr m ρ c 2).trans ((call3 (V5 m ρ) c).trans ?_)
  exact congrArg₂ (tn (φ := .bf16) (ψ := .bf16) (K := 1024) (N := 2048)) ((kept5 m ρ c main_v12 (by decide)).trans (entry_h m ρ c)) ((kept5 m ρ c main_arg5 (by decide)).trans (entry_arg m ρ c main_arg5 (by decide)))

theorem final4 : W8 m ρ c (Proc.devRef .tc main_v18)
    = tn (φ := .bf16) (ψ := .f32) (K := 1024) (N := 128) (normed (m ((c : Thread nD τ).loc main_arg0)) (m ((c : Thread nD τ).loc main_arg1)))
        (padded (m ((c : Thread nD τ).loc main_arg6))) := by
  rw [W8_of m ρ c main_v18 (by decide +kernel)]
  refine (W7_arr m ρ c 2).trans ((call4 (V6 m ρ) c).trans ?_)
  exact congrArg₂ (tn (φ := .bf16) (ψ := .f32) (K := 1024) (N := 128)) ((kept6 m ρ c main_v12 (by decide)).trans (entry_h m ρ c)) ((kept6 m ρ c main_v13 (by decide)).trans (entry_p m ρ c))

theorem final5 : W8 m ρ c (Proc.devRef .tc main_v19)
    = tn (φ := .bf16) (ψ := .f32) (K := 2048) (N := 1024) (m ((c : Thread nD τ).loc main_arg7))
        (m ((c : Thread nD τ).loc main_arg8)) := by
  refine (W8_arr m ρ c 2).trans ((call5 (V7 m ρ) c).trans ?_)
  exact congrArg₂ (tn (φ := .bf16) (ψ := .f32) (K := 2048) (N := 1024)) ((kept7 m ρ c main_arg7 (by decide)).trans (entry_arg m ρ c main_arg7 (by decide))) ((kept7 m ρ c main_arg8 (by decide)).trans (entry_arg m ρ c main_arg8 (by decide)))

/-- The run: the six products, and the arguments as they were. -/
theorem run_products : θ_run (defs (F := Ideal)) (onTc (τ := τ) (main (F := Ideal))) ⟨m, fun _ => 0, ρ⟩ fun r => ∀ c : Dev nD,
      r.2.mem ((c.tc : Thread nD τ).loc main_v14) = tn (φ := .bf16) (ψ := .bf16) (K := 1024) (N := 1024) (normed (m ((c : Thread nD τ).loc main_arg0)) (m ((c : Thread nD τ).loc main_arg1)))
          (m ((c : Thread nD τ).loc main_arg2))
      ∧ r.2.mem ((c.tc : Thread nD τ).loc main_v15) = tn (φ := .bf16) (ψ := .bf16) (K := 1024) (N := 1024) (normed (m ((c : Thread nD τ).loc main_arg0)) (m ((c : Thread nD τ).loc main_arg1)))
          (m ((c : Thread nD τ).loc main_arg3))
      ∧ r.2.mem ((c.tc : Thread nD τ).loc main_v16) = tn (φ := .bf16) (ψ := .bf16) (K := 1024) (N := 2048) (normed (m ((c : Thread nD τ).loc main_arg0)) (m ((c : Thread nD τ).loc main_arg1)))
          (m ((c : Thread nD τ).loc main_arg4))
      ∧ r.2.mem ((c.tc : Thread nD τ).loc main_v17) = tn (φ := .bf16) (ψ := .bf16) (K := 1024) (N := 2048) (normed (m ((c : Thread nD τ).loc main_arg0)) (m ((c : Thread nD τ).loc main_arg1)))
          (m ((c : Thread nD τ).loc main_arg5))
      ∧ r.2.mem ((c.tc : Thread nD τ).loc main_v18) = tn (φ := .bf16) (ψ := .f32) (K := 1024) (N := 128) (normed (m ((c : Thread nD τ).loc main_arg0)) (m ((c : Thread nD τ).loc main_arg1)))
          (padded (m ((c : Thread nD τ).loc main_arg6)))
      ∧ r.2.mem ((c.tc : Thread nD τ).loc main_v19) = tn (φ := .bf16) (ψ := .f32) (K := 2048) (N := 1024) (m ((c : Thread nD τ).loc main_arg7))
          (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c =>
    ⟨(h c _ (mem_uc main_v14 (by decide))).trans (final0 m ρ c),
      (h c _ (mem_uc main_v15 (by decide))).trans (final1 m ρ c),
      (h c _ (mem_uc main_v16 (by decide))).trans (final2 m ρ c),
      (h c _ (mem_uc main_v17 (by decide))).trans (final3 m ρ c),
      (h c _ (mem_uc main_v18 (by decide))).trans (final4 m ρ c),
      (h c _ (mem_uc main_v19 (by decide))).trans (final5 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c)⟩) (run_all m ρ)

end Cert.KernelGIdeal.Grad

end
-- ==== Proof.RefG.lean ====
/- The reference's weight gradients are the same products. -/
module

public import proofs.«01_k».proof.Proof.Gen.ReferenceGIdeal.Run
public import proofs.«01_k».proof.Proof.Product

@[expose] public section

set_option maxRecDepth 16384

noncomputable section

namespace Cert.ReferenceGIdeal.Grad

open Idealize.ShloMosaic Idealize.ShloMosaic.TcCoe Idealize.SL.Sem Cert.ReferenceGIdeal Cert.Weights

variable (m : (ℓ : Loc nD τ sig) → Buf (Elt Ideal) ℓ) (ρ : Dev nD → PrngReg)

set_option maxHeartbeats 2000000 in
/-- The run: the six products, and the arguments as they were. -/
theorem run_products : θ_run (defs (F := Ideal)) (onTc (τ := τ) (main (F := Ideal))) ⟨m, fun _ => 0, ρ⟩ fun r => ∀ c : Dev nD,
      r.2.mem ((c.tc : Thread nD τ).loc main_v26) = tn (φ := .bf16) (ψ := .bf16) (K := 1024) (N := 1024) (normed (m ((c.tc : Thread nD τ).loc main_arg0)) (m ((c.tc : Thread nD τ).loc main_arg1)))
          (m ((c.tc : Thread nD τ).loc main_arg2))
      ∧ r.2.mem ((c.tc : Thread nD τ).loc main_v27) = tn (φ := .bf16) (ψ := .bf16) (K := 1024) (N := 1024) (normed (m ((c.tc : Thread nD τ).loc main_arg0)) (m ((c.tc : Thread nD τ).loc main_arg1)))
          (m ((c.tc : Thread nD τ).loc main_arg3))
      ∧ r.2.mem ((c.tc : Thread nD τ).loc main_v28) = tn (φ := .bf16) (ψ := .bf16) (K := 1024) (N := 2048) (normed (m ((c.tc : Thread nD τ).loc main_arg0)) (m ((c.tc : Thread nD τ).loc main_arg1)))
          (m ((c.tc : Thread nD τ).loc main_arg4))
      ∧ r.2.mem ((c.tc : Thread nD τ).loc main_v29) = tn (φ := .bf16) (ψ := .bf16) (K := 1024) (N := 2048) (normed (m ((c.tc : Thread nD τ).loc main_arg0)) (m ((c.tc : Thread nD τ).loc main_arg1)))
          (m ((c.tc : Thread nD τ).loc main_arg5))
      ∧ r.2.mem ((c.tc : Thread nD τ).loc main_v31) = tn (φ := .bf16) (ψ := .f32) (K := 1024) (N := 128) (normed (m ((c.tc : Thread nD τ).loc main_arg0)) (m ((c.tc : Thread nD τ).loc main_arg1)))
          (padded (m ((c.tc : Thread nD τ).loc main_arg6)))
      ∧ r.2.mem ((c.tc : Thread nD τ).loc main_v23) = tn (φ := .bf16) (ψ := .f32) (K := 2048) (N := 1024) (m ((c.tc : Thread nD τ).loc main_arg7))
          (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2, h3, h4, h5, h6⟩ := h c
  refine ⟨h0.trans ?_, h1.trans ?_, h2.trans ?_, h3.trans ?_, h4.trans ?_, h5.trans ?_, h6⟩
  · funext j
    idx_vars j
    pointwise [tn, normed]
    exact Finset.sum_congr rfl fun l _ => mul_comm _ _
  · funext j
    idx_vars j
    pointwise [tn, normed]
    exact Finset.sum_congr rfl fun l _ => mul_comm _ _
  · funext j
    idx_vars j
    pointwise [tn, normed]
    refine Finset.sum_congr rfl fun l _ => (congrArg (· * _) ?_).trans (mul_comm _ _)
    rw [dif_neg (by omega), dif_neg (by omega), dif_pos (by omega)]
    exact same_column _ l (by show 2048 + (j1 : ℕ) - 1024 - 1024 = (j1 : ℕ); omega)
  · funext j
    idx_vars j
    pointwise [tn, normed]
    refine Finset.sum_congr rfl fun l _ => (congrArg (· * _) ?_).trans (mul_comm _ _)
    rw [dif_neg (by omega), dif_neg (by omega), dif_neg (by omega), dif_pos (by omega)]
    exact same_column _ l (by show 4096 + (j1 : ℕ) - 1024 - 1024 - 2048 = (j1 : ℕ); omega)
  · funext j
    idx_vars j
    pointwise [tn, normed, padded]
    by_cases h : (j1 : ℕ) < 32
    · rw [dif_pos h]
      refine Finset.sum_congr rfl fun l _ => (congrArg (· * _) ?_).trans (mul_comm _ _)
      rw [dif_neg (by omega), dif_neg (by omega), dif_neg (by omega), dif_neg (by omega), dif_pos h]
      exact same_column _ l (by show 6144 + (j1 : ℕ) - 1024 - 1024 - 2048 - 2048 = (j1 : ℕ); omega)
    · rw [dif_neg h, word_zero]
      refine (Finset.sum_eq_zero fun l _ => ?_).symm
      rw [dif_neg h]
      exact mul_zero _
  · funext j
    idx_vars j
    pointwise [tn]
    exact Finset.sum_congr rfl fun l _ => mul_comm _ _

end Cert.ReferenceGIdeal.Grad

end
-- ==== Proof.Layer.lean ====
/- The gradient of a normalised, projected row: two ways to write it, and the sum over the columns of the projection. -/
module

public import proofs.«01_k».proof.Proof.Product
public import proofs.«01_k».proof.Proof.Finite

@[expose] public section

noncomputable section

namespace Cert.Layer

open Idealize.ShloMosaic

/-! ## Constants -/

/-- The width of a row. -/
abbrev width : EReal := Ideal.ofBits .f32 0x44800000#32

/-- What the mean square is raised by. -/
abbrev eps : EReal := Ideal.ofBits .f32 0x358637BD#32

/-- Minus one half. -/
abbrev half : EReal := Ideal.ofBits .f32 0xBF000000#32

theorem width_eq : width = ((1024 : ℝ) : EReal) := by
  simp [Ideal.ofBits, Ideal.ieee, -EReal.coe_mul]; norm_num

theorem half_eq : half = ((-(1 / 2) : ℝ) : EReal) := by
  simp [Ideal.ofBits, Ideal.ieee, -EReal.coe_mul]; norm_num

theorem eps_eq : ∃ r : ℝ, 0 < r ∧ eps = (r : EReal) := by
  refine ⟨8796093 * (2 : ℝ) ^ (-43 : ℤ), by positivity, ?_⟩
  simp [Ideal.ofBits, Ideal.ieee, -EReal.coe_mul]

/-- The word of zero is zero. -/
theorem zero_word : (FloatOps.sitofp (F := Ideal) FTy.bf16 (0#32) : EReal) = 0 := by
  show (((0#32 : BitVec 32).toInt : ℝ) : EReal) = 0
  simp

/-! ## A row -/

/-- The reciprocal root of a row's mean square. -/
def scale (x : Fin 1024 → EReal) : EReal := Ideal.rsqrt (Ideal.div (∑ k, x k * x k) width + eps)

/-- The gradient of a row from that of its normalised form `d`, added to `e`. -/
def back (x d : Fin 1024 → EReal) (e : EReal) (j : Fin 1024) : EReal :=
  e + scale x * (d j - x j * scale x * Ideal.div (∑ k, d k * (x k * scale x)) width)

/-- A finite factor that is not negative goes into a sum. -/
theorem mul_sum (r : ℝ) (hr : 0 ≤ r) (f : Fin 1024 → EReal) : (r : EReal) * ∑ k, f k = ∑ k, (r : EReal) * f k := by
  induction (Finset.univ : Finset (Fin 1024)) using Finset.induction_on with
  | empty => simp
  | insert a s h ih =>
    rw [Finset.sum_insert h, Finset.sum_insert h,
      EReal.left_distrib_of_nonneg_of_ne_top (by exact_mod_cast hr) (EReal.coe_ne_top r), ih]

theorem coe_sum (f : Fin 1024 → ℝ) : ((∑ k, f k : ℝ) : EReal) = ∑ k, (f k : EReal) := by
  induction (Finset.univ : Finset (Fin 1024)) using Finset.induction_on with
  | empty => simp
  | insert a s h ih => rw [Finset.sum_insert h, Finset.sum_insert h, EReal.coe_add, ih]

/-- Twice a value. -/
theorem add_self (z : EReal) : z + z = z * ((2 : ℝ) : EReal) := by
  induction z with
  | bot => rw [EReal.bot_mul_coe_of_pos (by norm_num)]; rfl
  | top => rw [EReal.top_mul_coe_of_pos (by norm_num)]; rfl
  | coe r => rw [← EReal.coe_add, ← EReal.coe_mul]; congr 1; ring

theorem sq_nonneg' (z : EReal) : 0 ≤ z * z := by
  rcases le_total 0 z with h | h
  · exact EReal.mul_nonneg h h
  · have := EReal.mul_nonneg (EReal.neg_nonneg.mpr h) (EReal.neg_nonneg.mpr h)
    rwa [neg_mul_neg] at this

/-- With an infinite entry the row's factor is zero, and so is the quotient the derivative takes. -/
theorem scale_infinite (x : Fin 1024 → EReal) (k : Fin 1024) (hk : x k = ⊤ ∨ x k = ⊥) :
    Ideal.div (∑ k, x k * x k) width + eps = ⊤ := by
  have h : ∑ k, x k * x k = ⊤ := by
    refine top_le_iff.mp (le_trans ?_ (Finset.single_le_sum (fun i _ => sq_nonneg' (x i)) (Finset.mem_univ k)))
    rcases hk with hk | hk <;> rw [hk] <;> simp
  obtain ⟨e, he, heq⟩ := eps_eq
  rw [h, width_eq, Ideal.div_coe (by norm_num), EReal.top_mul_coe_of_pos (by norm_num), heq, EReal.top_add_coe]

/-- The same gradient as differentiation writes it. -/
theorem back_eq (x d : Fin 1024 → EReal) (e : EReal) (j : Fin 1024) :
    e + d j * scale x
        + x j * Ideal.div ((∑ k, x k * d k) * (half * Ideal.div (scale x) (Ideal.div (∑ k, x k * x k) width + eps))) width
        + Ideal.div ((∑ k, x k * d k) * (half * Ideal.div (scale x) (Ideal.div (∑ k, x k * x k) width + eps))) width * x j
      = back x d e j := by
  unfold back
  by_cases hx : ∃ k, x k = ⊤ ∨ x k = ⊥
  · obtain ⟨k, hk⟩ := hx
    have hs := scale_infinite x k hk
    have h0 : scale x = 0 := by unfold scale; rw [hs]; rfl
    have hq : Ideal.div (0 : EReal) ⊤ = 0 := by rw [Ideal.div, if_neg (by simp), zero_mul]
    have hz : Ideal.div (0 : EReal) width = 0 := by rw [width_eq, Ideal.div_coe (by norm_num), zero_mul]
    rw [hs, h0, hq, mul_zero, mul_zero, mul_zero, hz]
    simp
  · push Not at hx
    obtain ⟨y, hy⟩ : ∃ y : Fin 1024 → ℝ, ∀ k, x k = (y k : EReal) :=
      ⟨fun k => (x k).toReal, fun k => (EReal.coe_toReal (hx k).1 (hx k).2).symm⟩
    obtain ⟨ε, hε, heps⟩ := eps_eq
    obtain ⟨s, hs, hS⟩ : ∃ s : ℝ, 0 < s ∧ Ideal.div (∑ k, x k * x k) width + eps = (s : EReal) := by
      refine ⟨(∑ k, y k * y k) * (1 / 1024) + ε,
        add_pos_of_nonneg_of_pos (mul_nonneg (Finset.sum_nonneg fun k _ => mul_self_nonneg _) (by norm_num)) hε, ?_⟩
      rw [width_eq, Ideal.div_coe (by norm_num), heps, EReal.coe_add, EReal.coe_mul, coe_sum]
      simp only [hy, EReal.coe_mul]
    have hr : scale x = (((Real.sqrt s)⁻¹ : ℝ) : EReal) := by
      unfold scale
      rw [hS]
      change (if s < 0 then (⊥ : EReal) else if s = 0 then ⊤ else (((Real.sqrt s)⁻¹ : ℝ) : EReal)) = _
      rw [if_neg (not_lt.mpr hs.le), if_neg hs.ne']
    obtain ⟨ρ, hρ, hρ0, hρs⟩ : ∃ ρ : ℝ, (Real.sqrt s)⁻¹ = ρ ∧ 0 ≤ ρ ∧ ρ * ρ = 1 / s :=
      ⟨_, rfl, inv_nonneg.mpr (Real.sqrt_nonneg s), by rw [← mul_inv, Real.mul_self_sqrt hs.le, one_div]⟩
    rw [hρ] at hr
    have hsum : ∑ k, d k * (x k * scale x) = (ρ : EReal) * ∑ k, x k * d k := by
      rw [mul_sum ρ hρ0, hr]
      exact Finset.sum_congr rfl fun k _ => by rw [← mul_assoc, mul_comm, mul_comm (d k)]
    rw [hsum, hS, hr, width_eq, half_eq, Ideal.div_coe (by norm_num), Ideal.div_coe hs.ne', Ideal.div_coe (by norm_num), hy j]
    generalize ∑ k, x k * d k = a
    rw [sub_eq_add_neg, EReal.left_distrib_of_nonneg_of_ne_top (by exact_mod_cast hρ0) (EReal.coe_ne_top ρ),
      ← add_assoc, add_assoc, mul_comm (d j)]
    congr 1
    rw [mul_comm _ ((y j : ℝ) : EReal), add_self]
    have h1 : (y j : EReal) * (a * ((-(1 / 2) : ℝ) * ((ρ : EReal) * ((1 / s : ℝ) : EReal))) * ((1 / 1024 : ℝ) : EReal)) * ((2 : ℝ) : EReal)
        = a * ((y j * (-(1 / 2) * (ρ * (1 / s))) * (1 / 1024) * 2 : ℝ) : EReal) := by
      simp only [EReal.coe_mul]; ac_rfl
    have h2 : (ρ : EReal) * -((y j : EReal) * (ρ : EReal) * ((ρ : EReal) * a * ((1 / 1024 : ℝ) : EReal)))
        = a * ((-(ρ * (y j * ρ * ρ * (1 / 1024))) : ℝ) : EReal) := by
      rw [mul_neg, EReal.coe_neg, mul_neg]
      simp only [EReal.coe_mul]; congr 1; ac_rfl
    rw [h1, h2]
    congr 2
    linear_combination (-(y j * ρ * (1 / 1024)) : ℝ) * (-hρs)

/-! ## The columns of a projection -/

/-- A sum over the columns, part by part. -/
theorem sum_parts {n0 n1 n2 n3 : ℕ} (h : n0 + n1 + n2 + n3 + 32 = 6176) (f : Fin 6176 → EReal) :
    ∑ a, f a = ∑ a : Fin n0, f ⟨a, by omega⟩ + ∑ a : Fin n1, f ⟨n0 + a, by omega⟩ + ∑ a : Fin n2, f ⟨n0 + n1 + a, by omega⟩
      + ∑ a : Fin n3, f ⟨n0 + n1 + n2 + a, by omega⟩ + ∑ a : Fin 32, f ⟨n0 + n1 + n2 + n3 + a, by omega⟩ := by
  rw [← (finCongr h).sum_comp, Fin.sum_univ_add, Fin.sum_univ_add, Fin.sum_univ_add, Fin.sum_univ_add]
  rfl

/-- Columns of zeros add nothing. -/
theorem sum_padded (f : Fin 128 → EReal) (g : Fin 32 → EReal) (h0 : ∀ a : Fin 128, ∀ h : (a : ℕ) < 32, f a = g ⟨a, h⟩)
    (h1 : ∀ a : Fin 128, ¬(a : ℕ) < 32 → f a = 0) : ∑ a, f a = ∑ a, g a := by
  rw [show ∑ a, f a = ∑ a : Fin (32 + 96), f a from rfl, Fin.sum_univ_add,
    Finset.sum_eq_zero (f := fun a : Fin 96 => f (Fin.natAdd 32 a)) (fun a _ => h1 _ (by simp)), add_zero]
  exact Finset.sum_congr rfl fun a _ => h0 _ (by simp)

/-- The gradient of a normalised row's entry: the gradients of the projection's columns against the weights. -/
def grad {n0 n1 n2 n3 : ℕ} (h : n0 + n1 + n2 + n3 + 32 = 6176) (w : FVec Ideal ⟨2, ![1024, 6176]⟩ .bf16)
    (d0 : FVec Ideal ⟨2, ![16384, n0]⟩ .bf16) (d1 : FVec Ideal ⟨2, ![16384, n1]⟩ .bf16)
    (d2 : FVec Ideal ⟨2, ![16384, n2]⟩ .bf16) (d3 : FVec Ideal ⟨2, ![16384, n3]⟩ .bf16)
    (d4 : FVec Ideal ⟨2, ![16384, 32]⟩ .f32) (i : Fin 16384) (k : Fin 1024) : EReal :=
  ∑ a : Fin n0, d0 (ix2 i a) * w (ix2 k ⟨a, by omega⟩) + ∑ a : Fin n1, d1 (ix2 i a) * w (ix2 k ⟨n0 + a, by omega⟩)
    + ∑ a : Fin n2, d2 (ix2 i a) * w (ix2 k ⟨n0 + n1 + a, by omega⟩)
    + ∑ a : Fin n3, d3 (ix2 i a) * w (ix2 k ⟨n0 + n1 + n2 + a, by omega⟩)
    + ∑ a : Fin 32, d4 (ix2 i a) * w (ix2 k ⟨n0 + n1 + n2 + n3 + a, by omega⟩)

/-- The gradient of the rows. -/
def dxArr (x : FVec Ideal ⟨2, ![16384, 1024]⟩ .f32) (nw : FVec Ideal ⟨2, ![1, 1024]⟩ .f32)
    (e : FVec Ideal ⟨2, ![16384, 1024]⟩ .f32) (g : Fin 16384 → Fin 1024 → EReal) : FVec Ideal ⟨2, ![16384, 1024]⟩ .f32 :=
  fun j => back (fun k => x (ix2 (j 0) k)) (fun k => g (j 0) k * nw (ix2 0 k)) (e (ix2 (j 0) (j 1))) (j 1)

/-- The gradient of the norm's weight. -/
def dwArr (x : FVec Ideal ⟨2, ![16384, 1024]⟩ .f32) (g : Fin 16384 → Fin 1024 → EReal) : FVec Ideal ⟨2, ![1, 1024]⟩ .f32 :=
  fun j => ∑ l : Fin 16384, g l (j 1) * (x (ix2 l (j 1)) * scale fun k => x (ix2 l k))

end Cert.Layer

end
-- ==== Proof.RowsS.lean ====
/- What the call of the projection's backward kernel computes at a grid point. -/
module

public import proofs.«01_k».proof.Proof.Gen.KernelSIdeal.Value
public import proofs.«01_k».proof.Proof.Layer
public import Idealize.ShloMosaic.Lib.Pipeline.ValueKit
public import Idealize.ShloMosaic.Lib.StableHlo.ReadAt

@[expose] public section

set_option maxRecDepth 16384

noncomputable section

namespace Cert.KernelSIdeal.Rows

open Idealize.ShloMosaic Idealize.ShloMosaic.TcCoe Idealize.ShloMosaic.Tactic Idealize.SL.Sem Cert.KernelSIdeal Cert.KernelSIdeal.Gen Cert.Layer
open Idealize.ShloMosaic.Pipeline (Dat)

/-! ## The body's values -/

theorem zeros (j : S1x1024.Idx) : k0_pay5 (F := Ideal) j = (0 : EReal) := by pointwise [k0_pay5]

theorem grads (d0 : FVec Ideal S512x2048 .bf16) (w0 : FVec Ideal S1024x2048 .bf16) (d1 : FVec Ideal S512x2048 .bf16)
    (w1 : FVec Ideal S1024x2048 .bf16) (d2 : FVec Ideal S512x1024 .bf16) (w2 : FVec Ideal S1024x1024 .bf16)
    (d3 : FVec Ideal S512x1024 .bf16) (w3 : FVec Ideal S1024x1024 .bf16) (d4 : FVec Ideal S512x128 .f32)
    (w4 : FVec Ideal S1024x128 .bf16) (j : S512x1024.Idx) :
    k0_pay6 (F := Ideal) d0 w0 d1 w1 d2 w2 d3 w3 d4 w4 j
      = (∑ a : Fin 2048, d0 (ix2 (j 0) a) * w0 (ix2 (j 1) a) + ∑ a : Fin 2048, d1 (ix2 (j 0) a) * w1 (ix2 (j 1) a)
        + ∑ a : Fin 1024, d2 (ix2 (j 0) a) * w2 (ix2 (j 1) a) + ∑ a : Fin 1024, d3 (ix2 (j 0) a) * w3 (ix2 (j 1) a)
        + ∑ a : Fin 128, d4 (ix2 (j 0) a) * w4 (ix2 (j 1) a) : EReal) := by
  pointwise [k0_pay6]

theorem weight (g : FVec Ideal S512x1024 .f32) (x : FVec Ideal S512x1024 .f32) (acc : FVec Ideal S1x1024 .f32)
    (j : S1x1024.Idx) :
    k0_pay3 (F := Ideal) g x acc j
      = acc j + ∑ s : Fin 512, g (ix2 s (j 1)) * (x (ix2 s (j 1)) * scale fun k => x (ix2 s k)) := by
  pointwise [k0_pay3, k0_pay2, k0_pay1, scale]

theorem rows (g : FVec Ideal S512x1024 .f32) (x : FVec Ideal S512x1024 .f32) (nw : FVec Ideal S1x1024 .f32)
    (e : FVec Ideal S512x1024 .f32) (j : S512x1024.Idx) :
    k0_pay4 (F := Ideal) g x nw e j
      = back (fun k => x (ix2 (j 0) k)) (fun k => g (ix2 (j 0) k) * nw (ix2 0 k)) (e (ix2 (j 0) (j 1))) (j 1) := by
  idx_vars j
  pointwise [k0_pay4, k0_pay2, k0_pay1, back, scale]

end Cert.KernelSIdeal.Rows

end
-- ==== Proof.CallS.lean ====
/- What the call of the projection's backward kernel leaves in its two result arrays. -/
module

public import proofs.«01_k».proof.Proof.RowsS

@[expose] public section

set_option maxRecDepth 16384

noncomputable section

namespace Cert.KernelSIdeal.Rows

open Idealize.ShloMosaic Idealize.ShloMosaic.TcCoe Idealize.ShloMosaic.Tactic Idealize.SL.Sem Cert.KernelSIdeal Cert.KernelSIdeal.Gen Cert.Layer
open Idealize.ShloMosaic.Pipeline (Dat)

variable (m : (ℓ : Loc nD τ sig) → Buf (Elt Ideal) ℓ) (ρ : Dev nD → PrngReg) (c : Dev nD)

/-! ## What the call reads -/

/-- The layer's rows. -/
abbrev X : FVec Ideal S16384x1024 .f32 := m ((c : Thread nD τ).loc main_arg0)

/-- The projection's weights. -/
abbrev W : FVec Ideal S1024x6176 .bf16 := m ((c : Thread nD τ).loc main_arg2)

theorem entry_w0 : (V m c main_v0 : FVec Ideal S1024x2048 .bf16) = fun j => W m c (ix2 (j 0) ⟨j 1, by have := (j 1).isLt; change (j 1 : ℕ) < 2048 at this; omega⟩) := by
  funext j
  idx_vars j
  show StableHlo.after (List.flatten [hostOps0, hostOps0_1, hostOps0_2, hostOps0_3]) (fun b => m (c, b)) (Proc.devRef .tc main_v0) (ix2 j0 j1) = _
  after_reads_at

theorem entry_w1 : (V m c main_v1 : FVec Ideal S1024x2048 .bf16) = fun j => W m c (ix2 (j 0) ⟨2048 + j 1, by have := (j 1).isLt; change (j 1 : ℕ) < 2048 at this; omega⟩) := by
  funext j
  idx_vars j
  show StableHlo.after (List.flatten [hostOps0, hostOps0_1, hostOps0_2, hostOps0_3]) (fun b => m (c, b)) (Proc.devRef .tc main_v1) (ix2 j0 j1) = _
  after_reads_at

theorem entry_w2 : (V m c main_v2 : FVec Ideal S1024x1024 .bf16) = fun j => W m c (ix2 (j 0) ⟨4096 + j 1, by have := (j 1).isLt; change (j 1 : ℕ) < 1024 at this; omega⟩) := by
  funext j
  idx_vars j
  show StableHlo.after (List.flatten [hostOps0, hostOps0_1, hostOps0_2, hostOps0_3]) (fun b => m (c, b)) (Proc.devRef .tc main_v2) (ix2 j0 j1) = _
  after_reads_at

theorem entry_w3 : (V m c main_v3 : FVec Ideal S1024x1024 .bf16) = fun j => W m c (ix2 (j 0) ⟨5120 + j 1, by have := (j 1).isLt; change (j 1 : ℕ) < 1024 at this; omega⟩) := by
  funext j
  idx_vars j
  show StableHlo.after (List.flatten [hostOps0, hostOps0_1, hostOps0_2, hostOps0_3]) (fun b => m (c, b)) (Proc.devRef .tc main_v3) (ix2 j0 j1) = _
  after_reads_at

theorem entry_w4 : (V m c main_v5 : FVec Ideal S1024x128 .bf16)
    = fun j => if h : (j 1 : ℕ) < 32 then W m c (ix2 (j 0) ⟨6144 + j 1, by omega⟩) else 0 := by
  funext j
  idx_vars j
  show StableHlo.after (List.flatten [hostOps0, hostOps0_1, hostOps0_2, hostOps0_3]) (fun b => m (c, b)) (Proc.devRef .tc main_v5) (ix2 j0 j1) = _
  after_reads_at
  rw [zero_word]

theorem entry_d4 : (V m c main_v6 : FVec Ideal S16384x128 .f32)
    = Weights.padded (m ((c : Thread nD τ).loc main_arg7)) := by
  funext j
  unfold Weights.padded
  idx_vars j
  show StableHlo.after (List.flatten [hostOps0, hostOps0_1, hostOps0_2, hostOps0_3]) (fun b => m (c, b)) (Proc.devRef .tc main_v6) (ix2 j0 j1) = _
  after_reads_at
  rw [Weights.word_zero]

/-- The blocks a grid point reads. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0]
    ∧ win0_10.index t = ![0, 0] ∧ win0_11.index t = ![0, 0] ∧ win0_12.index t = ![0, 0] ∧ win0_13.index t = ![t.val, 0]
    ∧ win0_14.index t = ![0, 0] :=
  (by decide +kernel : ∀ t : Fin grid0.N, _)

/-- The gradient of the normalised rows. -/
def G : Fin 16384 → Fin 1024 → EReal :=
  grad (n0 := 2048) (n1 := 2048) (n2 := 1024) (n3 := 1024) (by norm_num) (W m c) (m ((c : Thread nD τ).loc main_arg3))
    (m ((c : Thread nD τ).loc main_arg4)) (m ((c : Thread nD τ).loc main_arg5)) (m ((c : Thread nD τ).loc main_arg6))
    (m ((c : Thread nD τ).loc main_arg7))

/-! ## The blocks -/

section Blocks

variable (t : Fin cfg0.N) (i : Fin 512) (l : Fin 16384) (hl : (l : ℕ) = t.val * 512 + i)
include hl

theorem block_x (a : Fin 1024) : iblk m c 0 t (ix2 i a) = m ((c : Thread nD τ).loc main_arg0) (ix2 l a) := by
  rw [← V_main_arg0 m c]
  blk_point [iblk, idx t]

theorem block_e (a : Fin 1024) : iblk m c 2 t (ix2 i a) = m ((c : Thread nD τ).loc main_arg8) (ix2 l a) := by
  rw [← V_main_arg8 m c]
  blk_point [iblk, idx t]

theorem block_d0 (a : Fin 2048) : iblk m c 3 t (ix2 i a) = m ((c : Thread nD τ).loc main_arg3) (ix2 l a) := by
  rw [← V_main_arg3 m c]
  blk_point [iblk, idx t]

theorem block_d1 (a : Fin 2048) : iblk m c 4 t (ix2 i a) = m ((c : Thread nD τ).loc main_arg4) (ix2 l a) := by
  rw [← V_main_arg4 m c]
  blk_point [iblk, idx t]

theorem block_d2 (a : Fin 1024) : iblk m c 5 t (ix2 i a) = m ((c : Thread nD τ).loc main_arg5) (ix2 l a) := by
  rw [← V_main_arg5 m c]
  blk_point [iblk, idx t]

theorem block_d3 (a : Fin 1024) : iblk m c 6 t (ix2 i a) = m ((c : Thread nD τ).loc main_arg6) (ix2 l a) := by
  rw [← V_main_arg6 m c]
  blk_point [iblk, idx t]

theorem block_d4 (a : Fin 128) : iblk m c 7 t (ix2 i a) = Weights.padded (m ((c : Thread nD τ).loc main_arg7)) (ix2 l a) := by
  refine Eq.trans (b := (V m c main_v6 : FVec Ideal S16384x128 .f32) (ix2 l a)) ?_ (by rw [entry_d4])
  blk_point [iblk, idx t]

end Blocks

theorem block_n (t : Fin cfg0.N) (a : Fin 1024) : iblk m c 1 t (ix2 0 a) = m ((c : Thread nD τ).loc main_arg1) (ix2 0 a) := by
  rw [← V_main_arg1 m c]
  blk_point [iblk, idx t]

theorem block_w0 (t : Fin cfg0.N) (k : Fin 1024) (a : Fin 2048) : iblk m c 8 t (ix2 k a) = W m c (ix2 k ⟨a, by omega⟩) := by
  refine Eq.trans (b := (V m c main_v0 : FVec Ideal S1024x2048 .bf16) (ix2 k a)) ?_ (by rw [entry_w0]; rfl)
  blk_point [iblk, idx t]

theorem block_w1 (t : Fin cfg0.N) (k : Fin 1024) (a : Fin 2048) : iblk m c 9 t (ix2 k a) = W m c (ix2 k ⟨2048 + a, by omega⟩) := by
  refine Eq.trans (b := (V m c main_v1 : FVec Ideal S1024x2048 .bf16) (ix2 k a)) ?_ (by rw [entry_w1]; rfl)
  blk_point [iblk, idx t]

theorem block_w2 (t : Fin cfg0.N) (k : Fin 1024) (a : Fin 1024) : iblk m c 10 t (ix2 k a) = W m c (ix2 k ⟨4096 + a, by omega⟩) := by
  refine Eq.trans (b := (V m c main_v2 : FVec Ideal S1024x1024 .bf16) (ix2 k a)) ?_ (by rw [entry_w2]; rfl)
  blk_point [iblk, idx t]

theorem block_w3 (t : Fin cfg0.N) (k : Fin 1024) (a : Fin 1024) : iblk m c 11 t (ix2 k a) = W m c (ix2 k ⟨5120 + a, by omega⟩) := by
  refine Eq.trans (b := (V m c main_v3 : FVec Ideal S1024x1024 .bf16) (ix2 k a)) ?_ (by rw [entry_w3]; rfl)
  blk_point [iblk, idx t]

theorem block_w4 (t : Fin cfg0.N) (k : Fin 1024) (a : Fin 128) : iblk m c 12 t (ix2 k a)
    = if h : (a : ℕ) < 32 then W m c (ix2 k ⟨6144 + a, by omega⟩) else 0 := by
  refine Eq.trans (b := (V m c main_v5 : FVec Ideal S1024x128 .bf16) (ix2 k a)) ?_ (by rw [entry_w4]; rfl)
  blk_point [iblk, idx t]

theorem block (t : Fin cfg0.N) (i : Fin 512) (k : Fin 1024) (l : Fin 16384) (hl : (l : ℕ) = t.val * 512 + i) :
    k0_pay6 (F := Ideal) (iblk m c 3 t) (iblk m c 8 t) (iblk m c 4 t) (iblk m c 9 t) (iblk m c 5 t) (iblk m c 10 t)
      (iblk m c 6 t) (iblk m c 11 t) (iblk m c 7 t) (iblk m c 12 t) (ix2 i k) = G m c l k := by
  rw [grads]
  unfold G grad
  refine congrArg₂ (· + ·) (congrArg₂ (· + ·) (congrArg₂ (· + ·) (congrArg₂ (· + ·) ?_ ?_) ?_) ?_) ?_
  · exact Finset.sum_congr rfl fun a _ => congrArg₂ (fun p q : EReal => p * q) (block_d0 m c t i l hl a) (block_w0 m c t k a)
  · exact Finset.sum_congr rfl fun a _ => congrArg₂ (fun p q : EReal => p * q) (block_d1 m c t i l hl a) (block_w1 m c t k a)
  · exact Finset.sum_congr rfl fun a _ => congrArg₂ (fun p q : EReal => p * q) (block_d2 m c t i l hl a) (block_w2 m c t k a)
  · exact Finset.sum_congr rfl fun a _ => congrArg₂ (fun p q : EReal => p * q) (block_d3 m c t i l hl a) (block_w3 m c t k a)
  · refine sum_padded _ _ (fun a h => ?_) (fun a h => ?_)
    · refine congrArg₂ (fun p q : EReal => p * q) ((block_d4 m c t i l hl a).trans ?_) ((block_w4 m c t k a).trans ?_)
      · exact dif_pos h
      · exact dif_pos h
    · refine (congrArg₂ (fun p q : EReal => p * q) ((block_d4 m c t i l hl a).trans (dif_neg h)) ((block_w4 m c t k a).trans (dif_neg h))).trans ?_
      exact mul_zero _

/-! ## The result arrays -/

/-- Row `s` of the rows a point reads. -/
abbrev row (t : Fin cfg0.N) (s : Fin 512) : Fin 16384 := ⟨t.val * 512 + s, by have := t.isLt; change t.val < 32 at this; omega⟩

/-- What a point adds to the weight's gradient. -/
theorem step (t : Fin cfg0.N) (acc : FVec Ideal S1x1024 .f32) (j : S1x1024.Idx) :
    k0_pay3 (F := Ideal) (k0_pay6 (iblk m c 3 t) (iblk m c 8 t) (iblk m c 4 t) (iblk m c 9 t) (iblk m c 5 t)
      (iblk m c 10 t) (iblk m c 6 t) (iblk m c 11 t) (iblk m c 7 t) (iblk m c 12 t)) (iblk m c 0 t) acc j
      = acc j + ∑ s : Fin 512, G m c (row t s) (j 1) * (X m c (ix2 (row t s) (j 1)) * scale fun k => X m c (ix2 (row t s) k)) := by
  rw [weight]
  refine congrArg (acc j + ·) (Finset.sum_congr rfl fun s _ => ?_)
  refine congrArg₂ (fun p q : EReal => p * q) (block m c t s (j 1) (row t s) rfl)
    (congrArg₂ (fun p q : EReal => p * q) (block_x m c t s (row t s) rfl (j 1)) (congrArg scale ?_))
  funext k
  exact block_x m c t s (row t s) rfl k

theorem final_w : (dats m 0 c).arrAt 14 cfg0.N = dwArr (X m c) (G m c) := by
  refine (dats m 0 c).arrAt_eq_of_covers 14 _ (by decide +kernel) fun t hf y => ?_
  blk_simp
  rw [after0_14, Pipeline.eq_sum_fin_of_reset_step_apply_of_flush (fun n h => (outsAt0 m c n h).2) 32 (fun _ => 0) _
    (fun t h j => by rw [outsAt0_A m c t h]; frame_out; rw [step, zeros])
    (fun t h j => by rw [outsAt0_B m c t h]; frame_out; rw [step])
    t ((flush0_14 t).mp hf) _, zero_add]
  unfold dwArr
  refine Fin.sum_mul_add_congr fun s k hl => ?_
  have ht : t.val / 32 = 0 := by have := t.isLt; change t.val < 32 at this; omega
  have hr : row ⟨32 * (t.val / 32) + s, Pipeline.run_point_lt_of_flush t ((flush0_14 t).mp hf) s⟩ k = ⟨s.val * 512 + k.val, hl⟩ := by
    refine Fin.ext ?_
    show (32 * (t.val / 32) + s.val) * 512 + k.val = s.val * 512 + k.val
    rw [ht, mul_zero, zero_add]
  have hy : ((win0_14.blk t).view.emb y) 1 = y 1 := by
    refine Fin.ext ?_
    blk_simp [idx t]
  rw [hr, hy]

theorem placed (t : Fin cfg0.N) (y : S512x1024.Idx) :
    back (fun k => iblk m c 0 t (ix2 (y 0) k))
        (fun k => (k0_pay6 (F := Ideal) (iblk m c 3 t) (iblk m c 8 t) (iblk m c 4 t) (iblk m c 9 t) (iblk m c 5 t)
          (iblk m c 10 t) (iblk m c 6 t) (iblk m c 11 t) (iblk m c 7 t) (iblk m c 12 t) (ix2 (y 0) k) : EReal)
          * iblk m c 1 t (ix2 0 k)) (iblk m c 2 t (ix2 (y 0) (y 1))) (y 1)
      = dxArr (X m c) (m ((c : Thread nD τ).loc main_arg1)) (m ((c : Thread nD τ).loc main_arg8)) (G m c)
          (((View.whole main_v7_0).slice (win0_13.rect t)).emb y) := by
  have hy : ((View.whole main_v7_0).slice (win0_13.rect t)).emb y = ix2 (row t (y 0)) (y 1) := by
    idx_vars y
    blk_ext [idx t]
  rw [hy]
  have hx : (fun k => (iblk m c 0 t (ix2 (y 0) k) : EReal)) = fun k => X m c (ix2 (row t (y 0)) k) :=
    funext fun k => block_x m c t (y 0) (row t (y 0)) rfl k
  have hd : (fun k => (k0_pay6 (F := Ideal) (iblk m c 3 t) (iblk m c 8 t) (iblk m c 4 t) (iblk m c 9 t) (iblk m c 5 t)
          (iblk m c 10 t) (iblk m c 6 t) (iblk m c 11 t) (iblk m c 7 t) (iblk m c 12 t) (ix2 (y 0) k) : EReal)
          * iblk m c 1 t (ix2 0 k)) = fun k => G m c (row t (y 0)) k * m ((c : Thread nD τ).loc main_arg1) (ix2 0 k) :=
    funext fun k => congrArg₂ (fun p q : EReal => p * q) (block m c t (y 0) k (row t (y 0)) rfl) (block_n m c t k)
  exact (congr (congr (congrArg₂ back hx hd) (block_e m c t (y 0) (row t (y 0)) rfl (y 1))) rfl)

theorem final_x : (dats m 0 c).arrAt 13 cfg0.N = dxArr (X m c)
    (m ((c : Thread nD τ).loc main_arg1)) (m ((c : Thread nD τ).loc main_arg8)) (G m c) := by
  refine (dats m 0 c).arrAt_eq_of_covers 13 _ (by decide +kernel) fun t hf y => ?_
  blk_simp
  rw [after0_13]
  by_cases h0 : t.val % 32 = 0
  · rw [outsAt0_A m c t h0]; frame_out; rw [rows]
    exact placed m c t y
  · rw [outsAt0_B m c t h0]; frame_out; rw [rows]
    exact placed m c t y

/-- The run: the two gradients, and the arguments as they were. -/
theorem run_rows : θ_run (defs (F := Ideal)) (onTc (τ := τ) (main (F := Ideal))) ⟨m, fun _ => 0, ρ⟩ fun r => ∀ c : Dev nD,
      r.2.mem ((c.tc : Thread nD τ).loc main_v7_0) = dxArr (X m c) (m ((c : Thread nD τ).loc main_arg1)) (m ((c : Thread nD τ).loc main_arg8)) (G m c)
      ∧ r.2.mem ((c.tc : Thread nD τ).loc main_v7_1) = dwArr (X m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (final_x m c), (h c).2.1.trans (final_w m c), (h c).2.2⟩) (Value.run_blocks m ρ)

end Cert.KernelSIdeal.Rows

end
-- ==== Proof.SourceS.lean ====
/- The reference's gradients of the rows and of the norm's weight. -/
module

public import proofs.«01_k».proof.Proof.Gen.ReferenceSIdeal.Run
public import proofs.«01_k».proof.Proof.Layer

@[expose] public section

set_option maxRecDepth 16384

noncomputable section

namespace Cert.ReferenceSIdeal.Rows

open Idealize.ShloMosaic Idealize.ShloMosaic.TcCoe Idealize.SL.Sem Cert.ReferenceSIdeal Cert.ReferenceSIdeal.Gen Cert.Layer

variable (m : (ℓ : Loc nD τ sig) → Buf (Elt Ideal) ℓ) (ρ : Dev nD → PrngReg) (c : Dev nD)

/-- The gradient of the normalised rows. -/
def G : Fin 16384 → Fin 1024 → EReal :=
  grad (n0 := 2048) (n1 := 2048) (n2 := 1024) (n3 := 1024) (by norm_num) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7))

set_option maxHeartbeats 2000000 in
theorem product : (Host.dotGeneral (φ₁ := .f32) (φ₂ := .f32) dot_S16384x6176_S1024x6176_S16384x1024_1_1_0_0_n_n none ((concatenate S16384x6176 1 [⟨S16384x2048, (((extf .f32 (m ((c.tc : Thread nD τ).loc main_arg3) : FVec Ideal S16384x2048 .bf16) bitsLt_bf16_f32 : FVec Ideal S16384x2048 .f32)) : (⟨S16384x2048, .f32⟩ : BufTy).Contents (Elt Ideal))⟩, ⟨S16384x2048, (((extf .f32 (m ((c.tc : Thread nD τ).loc main_arg4) : FVec Ideal S16384x2048 .bf16) bitsLt_bf16_f32 : FVec Ideal S16384x2048 .f32)) : (⟨S16384x2048, .f32⟩ : BufTy).Contents (Elt Ideal))⟩, ⟨S16384x1024, (((extf .f32 (m ((c.tc : Thread nD τ).loc main_arg5) : FVec Ideal S16384x1024 .bf16) bitsLt_bf16_f32 : FVec Ideal S16384x1024 .f32)) : (⟨S16384x1024, .f32⟩ : BufTy).Contents (Elt Ideal))⟩, ⟨S16384x1024, (((extf .f32 (m ((c.tc : Thread nD τ).loc main_arg6) : FVec Ideal S16384x1024 .bf16) bitsLt_bf16_f32 : FVec Ideal S16384x1024 .f32)) : (⟨S16384x1024, .f32⟩ : BufTy).Contents (Elt Ideal))⟩, ⟨S16384x32, ((m ((c.tc : Thread nD τ).loc main_arg7)) : (⟨S16384x32, .f32⟩ : BufTy).Contents (Elt Ideal))⟩] concatenates_S16384x2048_S16384x2048_S16384x1024_S16384x1024_S16384x32_S16384x6176_d1 : (⟨S16384x6176, .f32⟩ : BufTy).Contents (Elt Ideal))) ((extf .f32 (m ((c.tc : Thread nD τ).loc main_arg2) : FVec Ideal S1024x6176 .bf16) bitsLt_bf16_f32 : FVec Ideal S1024x6176 .f32)) : FVec Ideal S16384x1024 .f32)
    = fun j => G m c (j 0) (j 1) := by
  funext j
  unfold G grad
  idx_vars j
  pointwise []
  rw [sum_parts (n0 := 2048) (n1 := 2048) (n2 := 1024) (n3 := 1024) (by norm_num)]
  refine congrArg₂ (· + ·) (congrArg₂ (· + ·) (congrArg₂ (· + ·) (congrArg₂ (· + ·) ?_ ?_) ?_) ?_) ?_
  · refine Finset.sum_congr rfl fun a _ => congrArg (· * _) ?_
    have ha := a.isLt
    dsimp only
    rw [dif_pos (by omega)]
  · refine Finset.sum_congr rfl fun a _ => congrArg (· * _) ?_
    have ha := a.isLt
    dsimp only
    rw [dif_neg (by omega), dif_pos (by omega)]
    exact Weights.same_column _ j0 (by show 2048 + (a : ℕ) - 2048 = (a : ℕ); omega)
  · refine Finset.sum_congr rfl fun a _ => congrArg (· * _) ?_
    have ha := a.isLt
    dsimp only
    rw [dif_neg (by omega), dif_neg (by omega), dif_pos (by omega)]
    exact Weights.same_column _ j0 (by show 2048 + 2048 + (a : ℕ) - 2048 - 2048 = (a : ℕ); omega)
  · refine Finset.sum_congr rfl fun a _ => congrArg (· * _) ?_
    have ha := a.isLt
    dsimp only
    rw [dif_neg (by omega), dif_neg (by omega), dif_neg (by omega), dif_pos (by omega)]
    exact Weights.same_column _ j0 (by show 2048 + 2048 + 1024 + (a : ℕ) - 2048 - 2048 - 1024 = (a : ℕ); omega)
  · refine Finset.sum_congr rfl fun a _ => congrArg (· * _) ?_
    have ha := a.isLt
    dsimp only
    rw [dif_neg (by omega), dif_neg (by omega), dif_neg (by omega), dif_neg (by omega)]
    exact Weights.same_column _ j0 (by show 2048 + 2048 + 1024 + 1024 + (a : ℕ) - 2048 - 2048 - 1024 - 1024 = (a : ℕ); omega)

set_option maxHeartbeats 2000000 in
theorem rows : (Value.res_main_v42 m c : FVec Ideal S16384x1024 .f32)
    = dxArr (m ((c.tc : Thread nD τ).loc main_arg0)) (m ((c.tc : Thread nD τ).loc main_arg1)) (m ((c.tc : Thread nD τ).loc main_arg8)) (G m c) := by
  unfold Value.res_main_v42
  rw [product m c]
  funext j
  unfold dxArr
  idx_vars j
  rw [← back_eq]
  pointwise [scale]
  simp only [Finset.univ_unique, Finset.sum_singleton]

/-- The run: the two gradients, and the arguments as they were. -/
theorem run_rows : θ_run (defs (F := Ideal)) (onTc (τ := τ) (main (F := Ideal))) ⟨m, fun _ => 0, ρ⟩ fun r => ∀ c : Dev nD,
      r.2.mem ((c.tc : Thread nD τ).loc main_v42) = dxArr (m ((c.tc : Thread nD τ).loc main_arg0)) (m ((c.tc : Thread nD τ).loc main_arg1)) (m ((c.tc : Thread nD τ).loc main_arg8)) (G m c)
      ∧ r.2.mem ((c.tc : Thread nD τ).loc main_v25) = dwArr (m ((c.tc : Thread nD τ).loc main_arg0)) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2⟩ := h c
  refine ⟨h0.trans (rows m c), h1.trans ?_, h2⟩
  rw [product m c]
  funext j
  idx_vars j
  pointwise [dwArr, scale]
  exact Finset.sum_congr rfl fun l _ => mul_comm _ _

end Cert.ReferenceSIdeal.Rows

end
-- ==== Proof.RowsX.lean ====
/- What the call of the projection's backward kernel computes at a grid point. -/
module

public import proofs.«01_k».proof.Proof.Gen.KernelXIdeal.Value
public import proofs.«01_k».proof.Proof.Layer
public import Idealize.ShloMosaic.Lib.Pipeline.ValueKit
public import Idealize.ShloMosaic.Lib.StableHlo.ReadAt

@[expose] public section

set_option maxRecDepth 16384

noncomputable section

namespace Cert.KernelXIdeal.Rows

open Idealize.ShloMosaic Idealize.ShloMosaic.TcCoe Idealize.ShloMosaic.Tactic Idealize.SL.Sem Cert.KernelXIdeal Cert.KernelXIdeal.Gen Cert.Layer
open Idealize.ShloMosaic.Pipeline (Dat)

/-! ## The body's values -/

theorem zeros (j : S1x1024.Idx) : k0_pay5 (F := Ideal) j = (0 : EReal) := by pointwise [k0_pay5]

theorem grads (d0 : FVec Ideal S512x1024 .bf16) (w0 : FVec Ideal S1024x1024 .bf16) (d1 : FVec Ideal S512x1024 .bf16)
    (w1 : FVec Ideal S1024x1024 .bf16) (d2 : FVec Ideal S512x2048 .bf16) (w2 : FVec Ideal S1024x2048 .bf16)
    (d3 : FVec Ideal S512x2048 .bf16) (w3 : FVec Ideal S1024x2048 .bf16) (d4 : FVec Ideal S512x128 .f32)
    (w4 : FVec Ideal S1024x128 .bf16) (j : S512x1024.Idx) :
    k0_pay6 (F := Ideal) d0 w0 d1 w1 d2 w2 d3 w3 d4 w4 j
      = (∑ a : Fin 1024, d0 (ix2 (j 0) a) * w0 (ix2 (j 1) a) + ∑ a : Fin 1024, d1 (ix2 (j 0) a) * w1 (ix2 (j 1) a)
        + ∑ a : Fin 2048, d2 (ix2 (j 0) a) * w2 (ix2 (j 1) a) + ∑ a : Fin 2048, d3 (ix2 (j 0) a) * w3 (ix2 (j 1) a)
        + ∑ a : Fin 128, d4 (ix2 (j 0) a) * w4 (ix2 (j 1) a) : EReal) := by
  pointwise [k0_pay6]

theorem weight (g : FVec Ideal S512x1024 .f32) (x : FVec Ideal S512x1024 .f32) (acc : FVec Ideal S1x1024 .f32)
    (j : S1x1024.Idx) :
    k0_pay3 (F := Ideal) g x acc j
      = acc j + ∑ s : Fin 512, g (ix2 s (j 1)) * (x (ix2 s (j 1)) * scale fun k => x (ix2 s k)) := by
  pointwise [k0_pay3, k0_pay2, k0_pay1, scale]

theorem rows (g : FVec Ideal S512x1024 .f32) (x : FVec Ideal S512x1024 .f32) (nw : FVec Ideal S1x1024 .f32)
    (e : FVec Ideal S512x1024 .f32) (j : S512x1024.Idx) :
    k0_pay4 (F := Ideal) g x nw e j
      = back (fun k => x (ix2 (j 0) k)) (fun k => g (ix2 (j 0) k) * nw (ix2 0 k)) (e (ix2 (j 0) (j 1))) (j 1) := by
  idx_vars j
  pointwise [k0_pay4, k0_pay2, k0_pay1, back, scale]

end Cert.KernelXIdeal.Rows

end
-- ==== Proof.CallX.lean ====
/- What the call of the projection's backward kernel leaves in its two result arrays. -/
module

public import proofs.«01_k».proof.Proof.RowsX

@[expose] public section

set_option maxRecDepth 16384

noncomputable section

namespace Cert.KernelXIdeal.Rows

open Idealize.ShloMosaic Idealize.ShloMosaic.TcCoe Idealize.ShloMosaic.Tactic Idealize.SL.Sem Cert.KernelXIdeal Cert.KernelXIdeal.Gen Cert.Layer
open Idealize.ShloMosaic.Pipeline (Dat)

variable (m : (ℓ : Loc nD τ sig) → Buf (Elt Ideal) ℓ) (ρ : Dev nD → PrngReg) (c : Dev nD)

/-! ## What the call reads -/

/-- The layer's rows. -/
abbrev X : FVec Ideal S16384x1024 .f32 := m ((c : Thread nD τ).loc main_arg0)

/-- The projection's weights. -/
abbrev W : FVec Ideal S1024x6176 .bf16 := m ((c : Thread nD τ).loc main_arg2)

theorem entry_w0 : (V m c main_v0 : FVec Ideal S1024x1024 .bf16) = fun j => W m c (ix2 (j 0) ⟨j 1, by have := (j 1).isLt; change (j 1 : ℕ) < 1024 at this; omega⟩) := by
  funext j
  idx_vars j
  show StableHlo.after (List.flatten [hostOps0, hostOps0_1, hostOps0_2, hostOps0_3]) (fun b => m (c, b)) (Proc.devRef .tc main_v0) (ix2 j0 j1) = _
  after_reads_at

theorem entry_w1 : (V m c main_v1 : FVec Ideal S1024x1024 .bf16) = fun j => W m c (ix2 (j 0) ⟨1024 + j 1, by have := (j 1).isLt; change (j 1 : ℕ) < 1024 at this; omega⟩) := by
  funext j
  idx_vars j
  show StableHlo.after (List.flatten [hostOps0, hostOps0_1, hostOps0_2, hostOps0_3]) (fun b => m (c, b)) (Proc.devRef .tc main_v1) (ix2 j0 j1) = _
  after_reads_at

theorem entry_w2 : (V m c main_v2 : FVec Ideal S1024x2048 .bf16) = fun j => W m c (ix2 (j 0) ⟨2048 + j 1, by have := (j 1).isLt; change (j 1 : ℕ) < 2048 at this; omega⟩) := by
  funext j
  idx_vars j
  show StableHlo.after (List.flatten [hostOps0, hostOps0_1, hostOps0_2, hostOps0_3]) (fun b => m (c, b)) (Proc.devRef .tc main_v2) (ix2 j0 j1) = _
  after_reads_at

theorem entry_w3 : (V m c main_v3 : FVec Ideal S1024x2048 .bf16) = fun j => W m c (ix2 (j 0) ⟨4096 + j 1, by have := (j 1).isLt; change (j 1 : ℕ) < 2048 at this; omega⟩) := by
  funext j
  idx_vars j
  show StableHlo.after (List.flatten [hostOps0, hostOps0_1, hostOps0_2, hostOps0_3]) (fun b => m (c, b)) (Proc.devRef .tc main_v3) (ix2 j0 j1) = _
  after_reads_at

theorem entry_w4 : (V m c main_v5 : FVec Ideal S1024x128 .bf16)
    = fun j => if h : (j 1 : ℕ) < 32 then W m c (ix2 (j 0) ⟨6144 + j 1, by omega⟩) else 0 := by
  funext j
  idx_vars j
  show StableHlo.after (List.flatten [hostOps0, hostOps0_1, hostOps0_2, hostOps0_3]) (fun b => m (c, b)) (Proc.devRef .tc main_v5) (ix2 j0 j1) = _
  after_reads_at
  rw [zero_word]

theorem entry_d4 : (V m c main_v6 : FVec Ideal S16384x128 .f32)
    = Weights.padded (m ((c : Thread nD τ).loc main_arg7)) := by
  funext j
  unfold Weights.padded
  idx_vars j
  show StableHlo.after (List.flatten [hostOps0, hostOps0_1, hostOps0_2, hostOps0_3]) (fun b => m (c, b)) (Proc.devRef .tc main_v6) (ix2 j0 j1) = _
  after_reads_at
  rw [Weights.word_zero]

/-- The blocks a grid point reads. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0]
    ∧ win0_10.index t = ![0, 0] ∧ win0_11.index t = ![0, 0] ∧ win0_12.index t = ![0, 0] ∧ win0_13.index t = ![t.val, 0]
    ∧ win0_14.index t = ![0, 0] :=
  (by decide +kernel : ∀ t : Fin grid0.N, _)

/-- The gradient of the normalised rows. -/
def G : Fin 16384 → Fin 1024 → EReal :=
  grad (n0 := 1024) (n1 := 1024) (n2 := 2048) (n3 := 2048) (by norm_num) (W m c) (m ((c : Thread nD τ).loc main_arg3))
    (m ((c : Thread nD τ).loc main_arg4)) (m ((c : Thread nD τ).loc main_arg5)) (m ((c : Thread nD τ).loc main_arg6))
    (m ((c : Thread nD τ).loc main_arg7))

/-! ## The blocks -/

section Blocks

variable (t : Fin cfg0.N) (i : Fin 512) (l : Fin 16384) (hl : (l : ℕ) = t.val * 512 + i)
include hl

theorem block_x (a : Fin 1024) : iblk m c 0 t (ix2 i a) = m ((c : Thread nD τ).loc main_arg0) (ix2 l a) := by
  rw [← V_main_arg0 m c]
  blk_point [iblk, idx t]

theorem block_e (a : Fin 1024) : iblk m c 2 t (ix2 i a) = m ((c : Thread nD τ).loc main_arg8) (ix2 l a) := by
  rw [← V_main_arg8 m c]
  blk_point [iblk, idx t]

theorem block_d0 (a : Fin 1024) : iblk m c 3 t (ix2 i a) = m ((c : Thread nD τ).loc main_arg3) (ix2 l a) := by
  rw [← V_main_arg3 m c]
  blk_point [iblk, idx t]

theorem block_d1 (a : Fin 1024) : iblk m c 4 t (ix2 i a) = m ((c : Thread nD τ).loc main_arg4) (ix2 l a) := by
  rw [← V_main_arg4 m c]
  blk_point [iblk, idx t]

theorem block_d2 (a : Fin 2048) : iblk m c 5 t (ix2 i a) = m ((c : Thread nD τ).loc main_arg5) (ix2 l a) := by
  rw [← V_main_arg5 m c]
  blk_point [iblk, idx t]

theorem block_d3 (a : Fin 2048) : iblk m c 6 t (ix2 i a) = m ((c : Thread nD τ).loc main_arg6) (ix2 l a) := by
  rw [← V_main_arg6 m c]
  blk_point [iblk, idx t]

theorem block_d4 (a : Fin 128) : iblk m c 7 t (ix2 i a) = Weights.padded (m ((c : Thread nD τ).loc main_arg7)) (ix2 l a) := by
  refine Eq.trans (b := (V m c main_v6 : FVec Ideal S16384x128 .f32) (ix2 l a)) ?_ (by rw [entry_d4])
  blk_point [iblk, idx t]

end Blocks

theorem block_n (t : Fin cfg0.N) (a : Fin 1024) : iblk m c 1 t (ix2 0 a) = m ((c : Thread nD τ).loc main_arg1) (ix2 0 a) := by
  rw [← V_main_arg1 m c]
  blk_point [iblk, idx t]

theorem block_w0 (t : Fin cfg0.N) (k : Fin 1024) (a : Fin 1024) : iblk m c 8 t (ix2 k a) = W m c (ix2 k ⟨a, by omega⟩) := by
  refine Eq.trans (b := (V m c main_v0 : FVec Ideal S1024x1024 .bf16) (ix2 k a)) ?_ (by rw [entry_w0]; rfl)
  blk_point [iblk, idx t]

theorem block_w1 (t : Fin cfg0.N) (k : Fin 1024) (a : Fin 1024) : iblk m c 9 t (ix2 k a) = W m c (ix2 k ⟨1024 + a, by omega⟩) := by
  refine Eq.trans (b := (V m c main_v1 : FVec Ideal S1024x1024 .bf16) (ix2 k a)) ?_ (by rw [entry_w1]; rfl)
  blk_point [iblk, idx t]

theorem block_w2 (t : Fin cfg0.N) (k : Fin 1024) (a : Fin 2048) : iblk m c 10 t (ix2 k a) = W m c (ix2 k ⟨2048 + a, by omega⟩) := by
  refine Eq.trans (b := (V m c main_v2 : FVec Ideal S1024x2048 .bf16) (ix2 k a)) ?_ (by rw [entry_w2]; rfl)
  blk_point [iblk, idx t]

theorem block_w3 (t : Fin cfg0.N) (k : Fin 1024) (a : Fin 2048) : iblk m c 11 t (ix2 k a) = W m c (ix2 k ⟨4096 + a, by omega⟩) := by
  refine Eq.trans (b := (V m c main_v3 : FVec Ideal S1024x2048 .bf16) (ix2 k a)) ?_ (by rw [entry_w3]; rfl)
  blk_point [iblk, idx t]

theorem block_w4 (t : Fin cfg0.N) (k : Fin 1024) (a : Fin 128) : iblk m c 12 t (ix2 k a)
    = if h : (a : ℕ) < 32 then W m c (ix2 k ⟨6144 + a, by omega⟩) else 0 := by
  refine Eq.trans (b := (V m c main_v5 : FVec Ideal S1024x128 .bf16) (ix2 k a)) ?_ (by rw [entry_w4]; rfl)
  blk_point [iblk, idx t]

theorem block (t : Fin cfg0.N) (i : Fin 512) (k : Fin 1024) (l : Fin 16384) (hl : (l : ℕ) = t.val * 512 + i) :
    k0_pay6 (F := Ideal) (iblk m c 3 t) (iblk m c 8 t) (iblk m c 4 t) (iblk m c 9 t) (iblk m c 5 t) (iblk m c 10 t)
      (iblk m c 6 t) (iblk m c 11 t) (iblk m c 7 t) (iblk m c 12 t) (ix2 i k) = G m c l k := by
  rw [grads]
  unfold G grad
  refine congrArg₂ (· + ·) (congrArg₂ (· + ·) (congrArg₂ (· + ·) (congrArg₂ (· + ·) ?_ ?_) ?_) ?_) ?_
  · exact Finset.sum_congr rfl fun a _ => congrArg₂ (fun p q : EReal => p * q) (block_d0 m c t i l hl a) (block_w0 m c t k a)
  · exact Finset.sum_congr rfl fun a _ => congrArg₂ (fun p q : EReal => p * q) (block_d1 m c t i l hl a) (block_w1 m c t k a)
  · exact Finset.sum_congr rfl fun a _ => congrArg₂ (fun p q : EReal => p * q) (block_d2 m c t i l hl a) (block_w2 m c t k a)
  · exact Finset.sum_congr rfl fun a _ => congrArg₂ (fun p q : EReal => p * q) (block_d3 m c t i l hl a) (block_w3 m c t k a)
  · refine sum_padded _ _ (fun a h => ?_) (fun a h => ?_)
    · refine congrArg₂ (fun p q : EReal => p * q) ((block_d4 m c t i l hl a).trans ?_) ((block_w4 m c t k a).trans ?_)
      · exact dif_pos h
      · exact dif_pos h
    · refine (congrArg₂ (fun p q : EReal => p * q) ((block_d4 m c t i l hl a).trans (dif_neg h)) ((block_w4 m c t k a).trans (dif_neg h))).trans ?_
      exact mul_zero _

/-! ## The result arrays -/

/-- Row `s` of the rows a point reads. -/
abbrev row (t : Fin cfg0.N) (s : Fin 512) : Fin 16384 := ⟨t.val * 512 + s, by have := t.isLt; change t.val < 32 at this; omega⟩

/-- What a point adds to the weight's gradient. -/
theorem step (t : Fin cfg0.N) (acc : FVec Ideal S1x1024 .f32) (j : S1x1024.Idx) :
    k0_pay3 (F := Ideal) (k0_pay6 (iblk m c 3 t) (iblk m c 8 t) (iblk m c 4 t) (iblk m c 9 t) (iblk m c 5 t)
      (iblk m c 10 t) (iblk m c 6 t) (iblk m c 11 t) (iblk m c 7 t) (iblk m c 12 t)) (iblk m c 0 t) acc j
      = acc j + ∑ s : Fin 512, G m c (row t s) (j 1) * (X m c (ix2 (row t s) (j 1)) * scale fun k => X m c (ix2 (row t s) k)) := by
  rw [weight]
  refine congrArg (acc j + ·) (Finset.sum_congr rfl fun s _ => ?_)
  refine congrArg₂ (fun p q : EReal => p * q) (block m c t s (j 1) (row t s) rfl)
    (congrArg₂ (fun p q : EReal => p * q) (block_x m c t s (row t s) rfl (j 1)) (congrArg scale ?_))
  funext k
  exact block_x m c t s (row t s) rfl k

theorem final_w : (dats m 0 c).arrAt 14 cfg0.N = dwArr (X m c) (G m c) := by
  refine (dats m 0 c).arrAt_eq_of_covers 14 _ (by decide +kernel) fun t hf y => ?_
  blk_simp
  rw [after0_14, Pipeline.eq_sum_fin_of_reset_step_apply_of_flush (fun n h => (outsAt0 m c n h).2) 32 (fun _ => 0) _
    (fun t h j => by rw [outsAt0_A m c t h]; frame_out; rw [step, zeros])
    (fun t h j => by rw [outsAt0_B m c t h]; frame_out; rw [step])
    t ((flush0_14 t).mp hf) _, zero_add]
  unfold dwArr
  refine Fin.sum_mul_add_congr fun s k hl => ?_
  have ht : t.val / 32 = 0 := by have := t.isLt; change t.val < 32 at this; omega
  have hr : row ⟨32 * (t.val / 32) + s, Pipeline.run_point_lt_of_flush t ((flush0_14 t).mp hf) s⟩ k = ⟨s.val * 512 + k.val, hl⟩ := by
    refine Fin.ext ?_
    show (32 * (t.val / 32) + s.val) * 512 + k.val = s.val * 512 + k.val
    rw [ht, mul_zero, zero_add]
  have hy : ((win0_14.blk t).view.emb y) 1 = y 1 := by
    refine Fin.ext ?_
    blk_simp [idx t]
  rw [hr, hy]

theorem placed (t : Fin cfg0.N) (y : S512x1024.Idx) :
    back (fun k => iblk m c 0 t (ix2 (y 0) k))
        (fun k => (k0_pay6 (F := Ideal) (iblk m c 3 t) (iblk m c 8 t) (iblk m c 4 t) (iblk m c 9 t) (iblk m c 5 t)
          (iblk m c 10 t) (iblk m c 6 t) (iblk m c 11 t) (iblk m c 7 t) (iblk m c 12 t) (ix2 (y 0) k) : EReal)
          * iblk m c 1 t (ix2 0 k)) (iblk m c 2 t (ix2 (y 0) (y 1))) (y 1)
      = dxArr (X m c) (m ((c : Thread nD τ).loc main_arg1)) (m ((c : Thread nD τ).loc main_arg8)) (G m c)
          (((View.whole main_v7_0).slice (win0_13.rect t)).emb y) := by
  have hy : ((View.whole main_v7_0).slice (win0_13.rect t)).emb y = ix2 (row t (y 0)) (y 1) := by
    idx_vars y
    blk_ext [idx t]
  rw [hy]
  have hx : (fun k => (iblk m c 0 t (ix2 (y 0) k) : EReal)) = fun k => X m c (ix2 (row t (y 0)) k) :=
    funext fun k => block_x m c t (y 0) (row t (y 0)) rfl k
  have hd : (fun k => (k0_pay6 (F := Ideal) (iblk m c 3 t) (iblk m c 8 t) (iblk m c 4 t) (iblk m c 9 t) (iblk m c 5 t)
          (iblk m c 10 t) (iblk m c 6 t) (iblk m c 11 t) (iblk m c 7 t) (iblk m c 12 t) (ix2 (y 0) k) : EReal)
          * iblk m c 1 t (ix2 0 k)) = fun k => G m c (row t (y 0)) k * m ((c : Thread nD τ).loc main_arg1) (ix2 0 k) :=
    funext fun k => congrArg₂ (fun p q : EReal => p * q) (block m c t (y 0) k (row t (y 0)) rfl) (block_n m c t k)
  exact (congr (congr (congrArg₂ back hx hd) (block_e m c t (y 0) (row t (y 0)) rfl (y 1))) rfl)

theorem final_x : (dats m 0 c).arrAt 13 cfg0.N = dxArr (X m c)
    (m ((c : Thread nD τ).loc main_arg1)) (m ((c : Thread nD τ).loc main_arg8)) (G m c) := by
  refine (dats m 0 c).arrAt_eq_of_covers 13 _ (by decide +kernel) fun t hf y => ?_
  blk_simp
  rw [after0_13]
  by_cases h0 : t.val % 32 = 0
  · rw [outsAt0_A m c t h0]; frame_out; rw [rows]
    exact placed m c t y
  · rw [outsAt0_B m c t h0]; frame_out; rw [rows]
    exact placed m c t y

/-- The run: the two gradients, and the arguments as they were. -/
theorem run_rows : θ_run (defs (F := Ideal)) (onTc (τ := τ) (main (F := Ideal))) ⟨m, fun _ => 0, ρ⟩ fun r => ∀ c : Dev nD,
      r.2.mem ((c.tc : Thread nD τ).loc main_v7_0) = dxArr (X m c) (m ((c : Thread nD τ).loc main_arg1)) (m ((c : Thread nD τ).loc main_arg8)) (G m c)
      ∧ r.2.mem ((c.tc : Thread nD τ).loc main_v7_1) = dwArr (X m c) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (final_x m c), (h c).2.1.trans (final_w m c), (h c).2.2⟩) (Value.run_blocks m ρ)

end Cert.KernelXIdeal.Rows

end
-- ==== Proof.SourceX.lean ====
/- The reference's gradients of the rows and of the norm's weight. -/
module

public import proofs.«01_k».proof.Proof.Gen.ReferenceXIdeal.Run
public import proofs.«01_k».proof.Proof.Layer

@[expose] public section

set_option maxRecDepth 16384

noncomputable section

namespace Cert.ReferenceXIdeal.Rows

open Idealize.ShloMosaic Idealize.ShloMosaic.TcCoe Idealize.SL.Sem Cert.ReferenceXIdeal Cert.ReferenceXIdeal.Gen Cert.Layer

variable (m : (ℓ : Loc nD τ sig) → Buf (Elt Ideal) ℓ) (ρ : Dev nD → PrngReg) (c : Dev nD)

/-- The gradient of the normalised rows. -/
def G : Fin 16384 → Fin 1024 → EReal :=
  grad (n0 := 1024) (n1 := 1024) (n2 := 2048) (n3 := 2048) (by norm_num) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7))

set_option maxHeartbeats 2000000 in
theorem product : (Host.dotGeneral (φ₁ := .f32) (φ₂ := .f32) dot_S16384x6176_S1024x6176_S16384x1024_1_1_0_0_n_n none ((concatenate S16384x6176 1 [⟨S16384x1024, (((extf .f32 (m ((c.tc : Thread nD τ).loc main_arg3) : FVec Ideal S16384x1024 .bf16) bitsLt_bf16_f32 : FVec Ideal S16384x1024 .f32)) : (⟨S16384x1024, .f32⟩ : BufTy).Contents (Elt Ideal))⟩, ⟨S16384x1024, (((extf .f32 (m ((c.tc : Thread nD τ).loc main_arg4) : FVec Ideal S16384x1024 .bf16) bitsLt_bf16_f32 : FVec Ideal S16384x1024 .f32)) : (⟨S16384x1024, .f32⟩ : BufTy).Contents (Elt Ideal))⟩, ⟨S16384x2048, (((extf .f32 (m ((c.tc : Thread nD τ).loc main_arg5) : FVec Ideal S16384x2048 .bf16) bitsLt_bf16_f32 : FVec Ideal S16384x2048 .f32)) : (⟨S16384x2048, .f32⟩ : BufTy).Contents (Elt Ideal))⟩, ⟨S16384x2048, (((extf .f32 (m ((c.tc : Thread nD τ).loc main_arg6) : FVec Ideal S16384x2048 .bf16) bitsLt_bf16_f32 : FVec Ideal S16384x2048 .f32)) : (⟨S16384x2048, .f32⟩ : BufTy).Contents (Elt Ideal))⟩, ⟨S16384x32, ((m ((c.tc : Thread nD τ).loc main_arg7)) : (⟨S16384x32, .f32⟩ : BufTy).Contents (Elt Ideal))⟩] concatenates_S16384x1024_S16384x1024_S16384x2048_S16384x2048_S16384x32_S16384x6176_d1 : (⟨S16384x6176, .f32⟩ : BufTy).Contents (Elt Ideal))) ((extf .f32 (m ((c.tc : Thread nD τ).loc main_arg2) : FVec Ideal S1024x6176 .bf16) bitsLt_bf16_f32 : FVec Ideal S1024x6176 .f32)) : FVec Ideal S16384x1024 .f32)
    = fun j => G m c (j 0) (j 1) := by
  funext j
  unfold G grad
  idx_vars j
  pointwise []
  rw [sum_parts (n0 := 1024) (n1 := 1024) (n2 := 2048) (n3 := 2048) (by norm_num)]
  refine congrArg₂ (· + ·) (congrArg₂ (· + ·) (congrArg₂ (· + ·) (congrArg₂ (· + ·) ?_ ?_) ?_) ?_) ?_
  · refine Finset.sum_congr rfl fun a _ => congrArg (· * _) ?_
    have ha := a.isLt
    dsimp only
    rw [dif_pos (by omega)]
  · refine Finset.sum_congr rfl fun a _ => congrArg (· * _) ?_
    have ha := a.isLt
    dsimp only
    rw [dif_neg (by omega), dif_pos (by omega)]
    exact Weights.same_column _ j0 (by show 1024 + (a : ℕ) - 1024 = (a : ℕ); omega)
  · refine Finset.sum_congr rfl fun a _ => congrArg (· * _) ?_
    have ha := a.isLt
    dsimp only
    rw [dif_neg (by omega), dif_neg (by omega), dif_pos (by omega)]
    exact Weights.same_column _ j0 (by show 1024 + 1024 + (a : ℕ) - 1024 - 1024 = (a : ℕ); omega)
  · refine Finset.sum_congr rfl fun a _ => congrArg (· * _) ?_
    have ha := a.isLt
    dsimp only
    rw [dif_neg (by omega), dif_neg (by omega), dif_neg (by omega), dif_pos (by omega)]
    exact Weights.same_column _ j0 (by show 1024 + 1024 + 2048 + (a : ℕ) - 1024 - 1024 - 2048 = (a : ℕ); omega)
  · refine Finset.sum_congr rfl fun a _ => congrArg (· * _) ?_
    have ha := a.isLt
    dsimp only
    rw [dif_neg (by omega), dif_neg (by omega), dif_neg (by omega), dif_neg (by omega)]
    exact Weights.same_column _ j0 (by show 1024 + 1024 + 2048 + 2048 + (a : ℕ) - 1024 - 1024 - 2048 - 2048 = (a : ℕ); omega)

set_option maxHeartbeats 2000000 in
theorem rows : (Value.res_main_v42 m c : FVec Ideal S16384x1024 .f32)
    = dxArr (m ((c.tc : Thread nD τ).loc main_arg0)) (m ((c.tc : Thread nD τ).loc main_arg1)) (m ((c.tc : Thread nD τ).loc main_arg8)) (G m c) := by
  unfold Value.res_main_v42
  rw [product m c]
  funext j
  unfold dxArr
  idx_vars j
  rw [← back_eq]
  pointwise [scale]
  simp only [Finset.univ_unique, Finset.sum_singleton]

/-- The run: the two gradients, and the arguments as they were. -/
theorem run_rows : θ_run (defs (F := Ideal)) (onTc (τ := τ) (main (F := Ideal))) ⟨m, fun _ => 0, ρ⟩ fun r => ∀ c : Dev nD,
      r.2.mem ((c.tc : Thread nD τ).loc main_v42) = dxArr (m ((c.tc : Thread nD τ).loc main_arg0)) (m ((c.tc : Thread nD τ).loc main_arg1)) (m ((c.tc : Thread nD τ).loc main_arg8)) (G m c)
      ∧ r.2.mem ((c.tc : Thread nD τ).loc main_v25) = dwArr (m ((c.tc : Thread nD τ).loc main_arg0)) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Value.run m ρ)
  obtain ⟨h0, h1, h2⟩ := h c
  refine ⟨h0.trans (rows m c), h1.trans ?_, h2⟩
  rw [product m c]
  funext j
  idx_vars j
  pointwise [dwArr, scale]
  exact Finset.sum_congr rfl fun l _ => mul_comm _ _

end Cert.ReferenceXIdeal.Rows

end
-- ==== Proof.Forward.lean ====
/- The gated, normalised heads of a layer's output and its projection back onto the rows. -/
module

public import proofs.«01_k».proof.Proof.Layer
public import Mathlib.Analysis.SpecialFunctions.Trigonometric.Basic

@[expose] public section

noncomputable section

namespace Cert.Forward

open Idealize.ShloMosaic Cert.Layer

/-- One half. -/
abbrev mid : EReal := Ideal.ofBits .f32 0x3F000000#32

/-- One. -/
abbrev one : EReal := Ideal.ofBits .f32 0x3F800000#32

theorem mid_eq : mid = (((1 / 2) : ℝ) : EReal) := by
  simp [Ideal.ofBits, Ideal.ieee, -EReal.coe_mul]; norm_num

theorem one_eq : one = 1 := by
  simp [Ideal.ofBits, Ideal.ieee, -EReal.coe_mul]

/-- The logistic function of a real, through the hyperbolic tangent of its half. -/
theorem real_sigmoid (r : ℝ) : 1 / 2 * Real.tanh (1 / 2 * r) + 1 / 2 = 1 * (1 + Real.exp (-r))⁻¹ := by
  have h : Real.exp (-r) = Real.exp (-(1 / 2 * r)) * Real.exp (-(1 / 2 * r)) := by
    rw [← Real.exp_add]; congr 1; ring
  have e : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, h]
  generalize Real.exp (1 / 2 * r) = a at *
  generalize Real.exp (-(1 / 2 * r)) = b at *
  have ha : a = b⁻¹ := eq_inv_of_mul_eq_one_left e
  subst ha
  field_simp
  ring

/-- The logistic function through the hyperbolic tangent, at any value. -/
theorem sigmoid (x : EReal) :
    mid * Ideal.tanh (mid * x) + mid = Ideal.div one (one + Ideal.exp (-x)) := by
  rw [mid_eq, one_eq]
  induction x with
  | bot =>
    rw [EReal.coe_mul_bot_of_pos (by norm_num), EReal.neg_bot]
    change (((1 / 2) : ℝ) : EReal) * (-1) + _ = Ideal.div 1 (1 + ⊤)
    have h : (1 : EReal) + ⊤ = ⊤ := by rfl
    rw [h, Ideal.div, if_neg (by simp), EReal.inv_top, mul_zero]
    have h1 : (-1 : EReal) = ((-1 : ℝ) : EReal) := by norm_num
    rw [h1, ← EReal.coe_mul, ← EReal.coe_add]
    norm_num
  | top =>
    rw [EReal.coe_mul_top_of_pos (by norm_num), EReal.neg_top]
    change (((1 / 2) : ℝ) : EReal) * 1 + _ = Ideal.div 1 (1 + 0)
    rw [add_zero, Ideal.div, if_neg one_ne_zero, mul_one, ← EReal.coe_add]
    have h1 : (1 : EReal) = ((1 : ℝ) : EReal) := by norm_num
    rw [h1, ← EReal.coe_inv, ← EReal.coe_mul]
    norm_num
  | coe r =>
    rw [← EReal.coe_mul, ← EReal.coe_neg]
    change (((1 / 2) : ℝ) : EReal) * ((Real.tanh (1 / 2 * r) : ℝ) : EReal) + _ = Ideal.div 1 (1 + ((Real.exp (-r) : ℝ) : EReal))
    have h1 : (1 : EReal) = ((1 : ℝ) : EReal) := by norm_num
    have hp := Real.exp_pos (-r)
    rw [h1, ← EReal.coe_add, Ideal.div, if_neg (by rw [← EReal.coe_zero, EReal.coe_eq_coe_iff]; positivity),
      ← EReal.coe_inv, ← EReal.coe_mul, ← EReal.coe_mul, ← EReal.coe_add, real_sigmoid]

/-- A value times its logistic function. -/
def silu (x : EReal) : EReal := x * Ideal.div one (one + Ideal.exp (-x))

/-- The same through the hyperbolic tangent. -/
def gate (x : EReal) : EReal := x * (mid * Ideal.tanh (mid * x) + mid)

theorem gate_eq (x : EReal) : gate x = silu x := by rw [gate, silu, sigmoid]

/-- The width of a head. -/
abbrev dim : EReal := Ideal.ofBits .f32 0x43000000#32

/-- The reciprocal root of a head's mean square. -/
def factor (x : Fin 128 → EReal) : EReal := Ideal.rsqrt (Ideal.div (∑ k, x k * x k) dim + eps)

/-- An entry of a normalised, weighted and gated head. -/
def cell (x : Fin 128 → EReal) (w z : EReal) (k : Fin 128) : EReal := x k * factor x * w * gate z

/-- The normalised, weighted and gated entry of column `a` of a row. -/
def mixed {r : ℕ} (o z : FVec Ideal ⟨2, ![r, 2048]⟩ .f32) (w : FVec Ideal ⟨2, ![1, 128]⟩ .f32) (i : Fin r) (a : Fin 2048) : EReal :=
  cell (fun k => o (ix2 i ⟨a / 128 * 128 + k, by omega⟩)) (w (ix2 0 ⟨a % 128, Nat.mod_lt _ (by norm_num)⟩)) (z (ix2 i a))
    ⟨a % 128, Nat.mod_lt _ (by norm_num)⟩

/-- A sum over the columns, block by block. -/
theorem sum_blocks (f : Fin 2048 → EReal) :
    ∑ a, f a = ∑ a : Fin 512, f ⟨a, by omega⟩ + ∑ a : Fin 512, f ⟨512 + a, by omega⟩ + ∑ a : Fin 512, f ⟨1024 + a, by omega⟩
      + ∑ a : Fin 512, f ⟨1536 + a, by omega⟩ := by
  rw [show ∑ a, f a = ∑ a : Fin (512 + 512 + 512 + 512), f a from rfl, Fin.sum_univ_add, Fin.sum_univ_add, Fin.sum_univ_add]
  rfl

/-- The rows with the projected heads added. -/
def outArr {r : ℕ} (o z : FVec Ideal ⟨2, ![r, 2048]⟩ .f32) (w : FVec Ideal ⟨2, ![1, 128]⟩ .f32)
    (p : FVec Ideal ⟨2, ![2048, 1024]⟩ .bf16) (x : FVec Ideal ⟨2, ![r, 1024]⟩ .f32) : FVec Ideal ⟨2, ![r, 1024]⟩ .f32 :=
  fun j => x (ix2 (j 0) (j 1)) + ∑ a : Fin 2048, mixed o z w (j 0) a * p (ix2 a (j 1))

end Cert.Forward

end
-- ==== Proof.CallO.lean ====
/- What the call of the output's forward kernel leaves in its result array. -/
module

public import proofs.«01_k».proof.Proof.Gen.KernelOIdeal.Value
public import proofs.«01_k».proof.Proof.Forward
public import Idealize.ShloMosaic.Lib.Pipeline.ValueKit
public import Idealize.ShloMosaic.Lib.StableHlo.ReadAt

@[expose] public section

set_option maxRecDepth 16384

noncomputable section

namespace Cert.KernelOIdeal.Rows

open Idealize.ShloMosaic Idealize.ShloMosaic.TcCoe Idealize.ShloMosaic.Tactic Idealize.SL.Sem Cert.KernelOIdeal Cert.KernelOIdeal.Gen Cert.Layer Cert.Forward
open Idealize.ShloMosaic.Pipeline (Dat)

variable (m : (ℓ : Loc nD τ sig) → Buf (Elt Ideal) ℓ) (ρ : Dev nD → PrngReg) (c : Dev nD)

/-! ## A head -/

variable (o z : FVec Ideal S512x128 .f32) (w : FVec Ideal S1x128 .f32) (j : S512x128.Idx)

theorem head0 : k0_pay2 (F := Ideal) o z w j = cell (fun k => o (ix2 (j 0) k)) (w (ix2 0 (j 1))) (z (ix2 (j 0) (j 1))) (j 1) := by
  idx_vars j
  pointwise [k0_pay2, cell, factor, gate]

theorem head1 : k0_pay4 (F := Ideal) o z w (k0_pay3 o) j = cell (fun k => o (ix2 (j 0) k)) (w (ix2 0 (j 1))) (z (ix2 (j 0) (j 1))) (j 1) := by
  idx_vars j
  pointwise [k0_pay4, k0_pay3, cell, factor, gate]

theorem head2 : k0_pay8 (F := Ideal) z (k0_pay5 o w) (k0_pay6 z) k0_pay7 j = cell (fun k => o (ix2 (j 0) k)) (w (ix2 0 (j 1))) (z (ix2 (j 0) (j 1))) (j 1) := by
  idx_vars j
  pointwise [k0_pay8, k0_pay5, k0_pay6, k0_pay7, cell, factor, gate]

theorem head3 : k0_pay9 (F := Ideal) o z w j = cell (fun k => o (ix2 (j 0) k)) (w (ix2 0 (j 1))) (z (ix2 (j 0) (j 1))) (j 1) := by
  idx_vars j
  pointwise [k0_pay9, cell, factor, gate]

theorem head4 : k0_pay10 (F := Ideal) o z w j = cell (fun k => o (ix2 (j 0) k)) (w (ix2 0 (j 1))) (z (ix2 (j 0) (j 1))) (j 1) := by
  idx_vars j
  pointwise [k0_pay10, cell, factor, gate]

theorem head5 : k0_pay12 (F := Ideal) o z w (k0_pay11 o) j = cell (fun k => o (ix2 (j 0) k)) (w (ix2 0 (j 1))) (z (ix2 (j 0) (j 1))) (j 1) := by
  idx_vars j
  pointwise [k0_pay12, k0_pay11, cell, factor, gate]

theorem head6 : k0_pay14 (F := Ideal) (k0_pay13 o z w) j = cell (fun k => o (ix2 (j 0) k)) (w (ix2 0 (j 1))) (z (ix2 (j 0) (j 1))) (j 1) := by
  idx_vars j
  pointwise [k0_pay14, k0_pay13, cell, factor, gate]

theorem head7 : k0_pay15 (F := Ideal) o z w j = cell (fun k => o (ix2 (j 0) k)) (w (ix2 0 (j 1))) (z (ix2 (j 0) (j 1))) (j 1) := by
  idx_vars j
  pointwise [k0_pay15, cell, factor, gate]

theorem head8 : k0_pay17 (F := Ideal) o z w j = cell (fun k => o (ix2 (j 0) k)) (w (ix2 0 (j 1))) (z (ix2 (j 0) (j 1))) (j 1) := by
  idx_vars j
  pointwise [k0_pay17, cell, factor, gate]

theorem head9 : k0_pay19 (F := Ideal) o z w (k0_pay18 o) j = cell (fun k => o (ix2 (j 0) k)) (w (ix2 0 (j 1))) (z (ix2 (j 0) (j 1))) (j 1) := by
  idx_vars j
  pointwise [k0_pay19, k0_pay18, cell, factor, gate]

theorem head10 : k0_pay21 (F := Ideal) (k0_pay20 o z w) j = cell (fun k => o (ix2 (j 0) k)) (w (ix2 0 (j 1))) (z (ix2 (j 0) (j 1))) (j 1) := by
  idx_vars j
  pointwise [k0_pay21, k0_pay20, cell, factor, gate]

theorem head11 : k0_pay22 (F := Ideal) o z w j = cell (fun k => o (ix2 (j 0) k)) (w (ix2 0 (j 1))) (z (ix2 (j 0) (j 1))) (j 1) := by
  idx_vars j
  pointwise [k0_pay22, cell, factor, gate]

theorem head12 : k0_pay24 (F := Ideal) o z w j = cell (fun k => o (ix2 (j 0) k)) (w (ix2 0 (j 1))) (z (ix2 (j 0) (j 1))) (j 1) := by
  idx_vars j
  pointwise [k0_pay24, cell, factor, gate]

theorem head13 : k0_pay26 (F := Ideal) o z w (k0_pay25 o) j = cell (fun k => o (ix2 (j 0) k)) (w (ix2 0 (j 1))) (z (ix2 (j 0) (j 1))) (j 1) := by
  idx_vars j
  pointwise [k0_pay26, k0_pay25, cell, factor, gate]

theorem head14 : k0_pay28 (F := Ideal) (k0_pay27 o z w) j = cell (fun k => o (ix2 (j 0) k)) (w (ix2 0 (j 1))) (z (ix2 (j 0) (j 1))) (j 1) := by
  idx_vars j
  pointwise [k0_pay28, k0_pay27, cell, factor, gate]

theorem head15 : k0_pay29 (F := Ideal) o z w j = cell (fun k => o (ix2 (j 0) k)) (w (ix2 0 (j 1))) (z (ix2 (j 0) (j 1))) (j 1) := by
  idx_vars j
  pointwise [k0_pay29, cell, factor, gate]

/-! ## A block of rows -/

section Blocks

variable (o z : FVec Ideal S512x2048 .f32) (w : FVec Ideal S1x128 .f32)

/-- The block's entries as the stores leave them. -/
def heads (j : S512x2048.Idx) : EReal := mixed o z w (j 0) (j 1)

theorem same {r n : ℕ} (f : FVec Ideal ⟨2, ![r, n]⟩ .f32) (i j : Shape.Idx ⟨2, ![r, n]⟩) (h0 : (i 0 : ℕ) = j 0) (h1 : (i 1 : ℕ) = j 1) :
    f i = f j := by
  congr 1
  funext a
  match a with
  | 0 => exact Fin.ext h0
  | 1 => exact Fin.ext h1

theorem placed {off : ℕ} (hoff : 128 ∣ off) (inb) (x : S512x128.Idx) :
    cell (fun k => View.ld (Val := Elt Ideal) (e' := .f32) o (Rect.unit (s := S512x2048) ![0, off] ![512, 128] inb) (ix2 (x 0) k)) (w (ix2 0 (x 1)))
        (View.ld (Val := Elt Ideal) (e' := .f32) z (Rect.unit (s := S512x2048) ![0, off] ![512, 128] inb) (ix2 (x 0) (x 1))) (x 1)
      = heads o z w ((Rect.unit (s := S512x2048) ![0, off] ![512, 128] inb).emb x) := by
  have h0 : (((Rect.unit (s := S512x2048) ![0, off] ![512, 128] inb).emb x) 0 : ℕ) = x 0 :=
    (ValueKit.rect_emb_unit_val _ _ inb x 0).trans (Nat.zero_add _)
  have h1 : (((Rect.unit (s := S512x2048) ![0, off] ![512, 128] inb).emb x) 1 : ℕ) = off + x 1 :=
    ValueKit.rect_emb_unit_val _ _ inb x 1
  have hx : (x 1 : ℕ) < 128 := (x 1).isLt
  unfold heads mixed
  generalize (Rect.unit (s := S512x2048) ![0, off] ![512, 128] inb).emb x = i at h0 h1 ⊢
  have e : (⟨(i 1 : ℕ) % 128, Nat.mod_lt _ (by norm_num)⟩ : Fin 128) = x 1 := Fin.ext (by show (i 1 : ℕ) % 128 = _; omega)
  rw [e]
  refine congrArg₂ (fun p q => cell p (w (ix2 0 (x 1))) q (x 1)) (funext fun k => ?_) ?_
  · refine same o _ _ ?_ ?_
    · refine (ValueKit.rect_emb_unit_val _ _ inb (ix2 (x 0) k : S512x128.Idx) 0).trans ((Nat.zero_add _).trans h0.symm)
    · refine (ValueKit.rect_emb_unit_val _ _ inb (ix2 (x 0) k : S512x128.Idx) 1).trans ?_
      show off + (k : ℕ) = (i 1 : ℕ) / 128 * 128 + k
      omega
  · refine same z _ _ ?_ ?_
    · refine (ValueKit.rect_emb_unit_val _ _ inb (ix2 (x 0) (x 1) : S512x128.Idx) 0).trans ((Nat.zero_add _).trans h0.symm)
    · exact (ValueKit.rect_emb_unit_val _ _ inb (ix2 (x 0) (x 1) : S512x128.Idx) 1).trans h1.symm

/-- A column of the block lies in the head that holds it. -/
theorem inside {off : ℕ} (inb) (y : S512x2048.Idx) (h : off ≤ (y 1 : ℕ)) (h' : (y 1 : ℕ) < off + 128) :
    y ∈ (Rect.unit (s := S512x2048) ![0, off] ![512, 128] inb).set := by
  refine Rect.mem_set_unit.mpr fun a => ?_
  match a with
  | 0 => exact ⟨Nat.zero_le _, by have := (y 0).isLt; show (y 0 : ℕ) < 0 + 512; exact (Nat.zero_add 512).symm ▸ this⟩
  | 1 => exact ⟨h, h'⟩

/-- What a load of 512 columns reads. -/
theorem load (L : List (View.Piece (Elt Ideal) S512x2048 .bf16)) {off : ℕ} (inb)
    (hL : ∀ p ∈ L, ∀ x : p.1.shape.Idx, p.2 x = heads o z w (p.1.emb x))
    (hc : ∀ y : S512x2048.Idx, off ≤ (y 1 : ℕ) → (y 1 : ℕ) < off + 512 → ∃ p ∈ L, y ∈ p.1.set)
    (i : Fin 512) (a : Fin 512) (b : Fin 2048) (hb : (b : ℕ) = off + a) (V : View sig .tc .vmem S512x2048 .bf16) :
    V.readCov L (Rect.unit (s := S512x2048) ![0, off] ![512, 512] inb).toLoadRect (ix2 i a) = mixed o z w i b := by
  rw [View.readCov_eq_canon']
  have h0 : (((Rect.unit (s := S512x2048) ![0, off] ![512, 512] inb).emb (ix2 i a)) 0 : ℕ) = i :=
    (ValueKit.rect_emb_unit_val _ _ inb (ix2 i a) 0).trans (Nat.zero_add _)
  have h1 : (((Rect.unit (s := S512x2048) ![0, off] ![512, 512] inb).emb (ix2 i a)) 1 : ℕ) = off + a :=
    ValueKit.rect_emb_unit_val _ _ inb (ix2 i a) 1
  refine (View.canon_apply_of_pieces (heads o z w) L hL _ (hc _ ?_ ?_)).trans ?_
  · exact h1.symm ▸ Nat.le_add_right _ _
  · exact h1.symm ▸ Nat.add_lt_add_left a.isLt _
  · exact congrArg₂ (mixed o z w) (Fin.ext h0) (Fin.ext (h1.trans hb.symm))

end Blocks

/-! ## A product -/

theorem add0 (acc : FVec Ideal S512x1024 .f32) (y : FVec Ideal S512x512 .bf16) (w : FVec Ideal S512x1024 .bf16) (j : S512x1024.Idx) :
    k0_pay16 (F := Ideal) acc y w j = acc j + ∑ a : Fin 512, y (ix2 (j 0) a) * w (ix2 a (j 1)) := by
  pointwise [k0_pay16]

theorem add1 (acc : FVec Ideal S512x1024 .f32) (y : FVec Ideal S512x512 .bf16) (w : FVec Ideal S512x1024 .bf16) (j : S512x1024.Idx) :
    k0_pay23 (F := Ideal) acc y w j = acc j + ∑ a : Fin 512, y (ix2 (j 0) a) * w (ix2 a (j 1)) := by
  pointwise [k0_pay23]

theorem add2 (acc : FVec Ideal S512x1024 .f32) (y : FVec Ideal S512x512 .bf16) (w : FVec Ideal S512x1024 .bf16) (j : S512x1024.Idx) :
    k0_pay30 (F := Ideal) acc y w j = acc j + ∑ a : Fin 512, y (ix2 (j 0) a) * w (ix2 a (j 1)) := by
  pointwise [k0_pay30]

theorem add3 (acc : FVec Ideal S512x1024 .f32) (y : FVec Ideal S512x512 .bf16) (w : FVec Ideal S512x1024 .bf16) (j : S512x1024.Idx) :
    k0_pay1 (F := Ideal) acc y w j = acc j + ∑ a : Fin 512, y (ix2 (j 0) a) * w (ix2 a (j 1)) := by
  pointwise [k0_pay1]

/-! ## The point -/

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

section Rows

variable (t : Fin cfg0.N) (i : Fin 512) (l : Fin 16384) (hl : (l : ℕ) = t.val * 512 + i)
include hl

theorem block_o (a : Fin 2048) : iblk m c 0 t (ix2 i a) = m ((c : Thread nD τ).loc main_arg0) (ix2 l a) := by
  rw [← V_main_arg0 m c]
  blk_point [iblk, idx t]

theorem block_z (a : Fin 2048) : iblk m c 1 t (ix2 i a) = m ((c : Thread nD τ).loc main_arg1) (ix2 l a) := by
  rw [← V_main_arg1 m c]
  blk_point [iblk, idx t]

theorem block_x (a : Fin 1024) : iblk m c 4 t (ix2 i a) = m ((c : Thread nD τ).loc main_arg4) (ix2 l a) := by
  rw [← V_main_arg4 m c]
  blk_point [iblk, idx t]

theorem block_n (a : Fin 128) : iblk m c 2 t (ix2 0 a) = m ((c : Thread nD τ).loc main_arg2) (ix2 0 a) := by
  rw [← V_main_arg2 m c]
  blk_point [iblk, idx t]

theorem block (a : Fin 2048) : mixed (iblk m c 0 t) (iblk m c 1 t) (iblk m c 2 t) i a
    = mixed (m ((c : Thread nD τ).loc main_arg0)) (m ((c : Thread nD τ).loc main_arg1)) (m ((c : Thread nD τ).loc main_arg2)) l a := by
  unfold mixed
  rw [block_z m c t i l hl, block_n m c t i l hl]
  exact congrArg (fun p => cell p _ _ _) (funext fun k => block_o m c t i l hl _)

end Rows

theorem block_w (t : Fin cfg0.N) {off : ℕ} (inb) (a : Fin 512) (k : Fin 1024) (b : Fin 2048) (hb : (b : ℕ) = off + a) :
    View.ld (iblk m c 3 t) (Rect.unit (s := S2048x1024) ![off, 0] ![512, 1024] inb) (ix2 a k)
      = m ((c : Thread nD τ).loc main_arg3) (ix2 b k) := by
  rw [← V_main_arg3 m c]
  blk_point [iblk, idx t]

set_option maxHeartbeats 2000000 in
theorem final : (dats m 0 c).arrAt 5 cfg0.N = outArr (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  unfold outsAt0
  frame_out
  rw [add3, add2, add1, add0]
  obtain ⟨l, hl⟩ : ∃ l : Fin 16384, (l : ℕ) = t.val * 512 + y 0 :=
    ⟨⟨t.val * 512 + y 0, by have := t.isLt; change t.val < 32 at this; have := (y 0).isLt; change (y 0 : ℕ) < 512 at this; omega⟩, rfl⟩
  refine Eq.trans ?_ (b := outArr (m ((c : Thread nD τ).loc main_arg0)) (m ((c : Thread nD τ).loc main_arg1))
    (m ((c : Thread nD τ).loc main_arg2)) (m ((c : Thread nD τ).loc main_arg3)) (m ((c : Thread nD τ).loc main_arg4)) (ix2 l (y 1))) ?_
  · unfold outArr
    rw [sum_blocks, ← add_assoc, ← add_assoc, ← add_assoc]
    refine congrArg₂ (· + ·) (congrArg₂ (· + ·) (congrArg₂ (· + ·) (congrArg₂ (· + ·) ?_ ?_) ?_) ?_) ?_
    · refine Eq.trans ?_ (block_x m c t (y 0) l hl (y 1))
      exact same _ _ _ rfl rfl
    · refine Finset.sum_congr rfl fun a _ => congrArg₂ (fun p q : EReal => p * q) ?_ ?_
      · refine Eq.trans (load (iblk m c 0 t) (iblk m c 1 t) (iblk m c 2 t) _ _ ?_ ?_ (y 0) a ⟨a, by omega⟩ (Nat.zero_add _).symm _) (block m c t (y 0) l hl _)
        · simp only [List.forall_mem_cons, List.not_mem_nil, false_imp_iff, implies_true, and_true]
          exact ⟨fun x => (head7 _ _ _ x).trans (placed _ _ _ (by norm_num) _ x), fun x => (head6 _ _ _ x).trans (placed _ _ _ (by norm_num) _ x), fun x => (head5 _ _ _ x).trans (placed _ _ _ (by norm_num) _ x), fun x => (head4 _ _ _ x).trans (placed _ _ _ (by norm_num) _ x), fun x => (head3 _ _ _ x).trans (placed _ _ _ (by norm_num) _ x), fun x => (head2 _ _ _ x).trans (placed _ _ _ (by norm_num) _ x), fun x => (head1 _ _ _ x).trans (placed _ _ _ (by norm_num) _ x), fun x => (head0 _ _ _ x).trans (placed _ _ _ (by norm_num) _ x)⟩
        · intro v h h'
          rcases (by omega : (384 ≤ (v 1 : ℕ) ∧ (v 1 : ℕ) < 384 + 128) ∨ (256 ≤ (v 1 : ℕ) ∧ (v 1 : ℕ) < 256 + 128) ∨ (128 ≤ (v 1 : ℕ) ∧ (v 1 : ℕ) < 128 + 128) ∨ (0 ≤ (v 1 : ℕ) ∧ (v 1 : ℕ) < 0 + 128)) with hv | hv | hv | hv
          · exact ⟨_, List.mem_cons_of_mem _ (List.mem_cons_of_mem _ (List.mem_cons_of_mem _ (List.mem_cons_of_mem _ List.mem_cons_self))), inside inb_S512x2048_S512x128_0_384 v hv.1 hv.2⟩
          · exact ⟨_, List.mem_cons_of_mem _ (List.mem_cons_of_mem _ (List.mem_cons_of_mem _ (List.mem_cons_of_mem _ (List.mem_cons_of_mem _ List.mem_cons_self)))), inside inb_S512x2048_S512x128_0_256 v hv.1 hv.2⟩
          · exact ⟨_, List.mem_cons_of_mem _ (List.mem_cons_of_mem _ (List.mem_cons_of_mem _ (List.mem_cons_of_mem _ (List.mem_cons_of_mem _ (List.mem_cons_of_mem _ List.mem_cons_self))))), inside inb_S512x2048_S512x128_0_128 v hv.1 hv.2⟩
          · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), inside inb_S512x2048_S512x128_0_0 v hv.1 hv.2⟩
      · exact block_w m c t _ a (y 1) ⟨a, by omega⟩ (Nat.zero_add _).symm
    · refine Finset.sum_congr rfl fun a _ => congrArg₂ (fun p q : EReal => p * q) ?_ ?_
      · refine Eq.trans (load (iblk m c 0 t) (iblk m c 1 t) (iblk m c 2 t) _ _ ?_ ?_ (y 0) a ⟨512 + a, by omega⟩ rfl _) (block m c t (y 0) l hl _)
        · simp only [List.forall_mem_cons, List.not_mem_nil, false_imp_iff, implies_true, and_true]
          exact ⟨fun x => (head11 _ _ _ x).trans (placed _ _ _ (by norm_num) _ x), fun x => (head10 _ _ _ x).trans (placed _ _ _ (by norm_num) _ x), fun x => (head9 _ _ _ x).trans (placed _ _ _ (by norm_num) _ x), fun x => (head8 _ _ _ x).trans (placed _ _ _ (by norm_num) _ x), fun x => (head7 _ _ _ x).trans (placed _ _ _ (by norm_num) _ x), fun x => (head6 _ _ _ x).trans (placed _ _ _ (by norm_num) _ x), fun x => (head5 _ _ _ x).trans (placed _ _ _ (by norm_num) _ x), fun x => (head4 _ _ _ x).trans (placed _ _ _ (by norm_num) _ x), fun x => (head3 _ _ _ x).trans (placed _ _ _ (by norm_num) _ x), fun x => (head2 _ _ _ x).trans (placed _ _ _ (by norm_num) _ x), fun x => (head1 _ _ _ x).trans (placed _ _ _ (by norm_num) _ x), fun x => (head0 _ _ _ x).trans (placed _ _ _ (by norm_num) _ x)⟩
        · intro v h h'
          rcases (by omega : (896 ≤ (v 1 : ℕ) ∧ (v 1 : ℕ) < 896 + 128) ∨ (768 ≤ (v 1 : ℕ) ∧ (v 1 : ℕ) < 768 + 128) ∨ (640 ≤ (v 1 : ℕ) ∧ (v 1 : ℕ) < 640 + 128) ∨ (512 ≤ (v 1 : ℕ) ∧ (v 1 : ℕ) < 512 + 128)) with hv | hv | hv | hv
          · exact ⟨_, List.mem_cons_of_mem _ (List.mem_cons_of_mem _ (List.mem_cons_of_mem _ (List.mem_cons_of_mem _ List.mem_cons_self))), inside inb_S512x2048_S512x128_0_896 v hv.1 hv.2⟩
          · exact ⟨_, List.mem_cons_of_mem _ (List.mem_cons_of_mem _ (List.mem_cons_of_mem _ (List.mem_cons_of_mem _ (List.mem_cons_of_mem _ List.mem_cons_self)))), inside inb_S512x2048_S512x128_0_768 v hv.1 hv.2⟩
          · exact ⟨_, List.mem_cons_of_mem _ (List.mem_cons_of_mem _ (List.mem_cons_of_mem _ (List.mem_cons_of_mem _ (List.mem_cons_of_mem _ (List.mem_cons_of_mem _ List.mem_cons_self))))), inside inb_S512x2048_S512x128_0_640 v hv.1 hv.2⟩
          · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), inside inb_S512x2048_S512x128_0_512 v hv.1 hv.2⟩
      · exact block_w m c t _ a (y 1) ⟨512 + a, by omega⟩ rfl
    · refine Finset.sum_congr rfl fun a _ => congrArg₂ (fun p q : EReal => p * q) ?_ ?_
      · refine Eq.trans (load (iblk m c 0 t) (iblk m c 1 t) (iblk m c 2 t) _ _ ?_ ?_ (y 0) a ⟨1024 + a, by omega⟩ rfl _) (block m c t (y 0) l hl _)
        · simp only [List.forall_mem_cons, List.not_mem_nil, false_imp_iff, implies_true, and_true]
          exact ⟨fun x => (head15 _ _ _ x).trans (placed _ _ _ (by norm_num) _ x), fun x => (head14 _ _ _ x).trans (placed _ _ _ (by norm_num) _ x), fun x => (head13 _ _ _ x).trans (placed _ _ _ (by norm_num) _ x), fun x => (head12 _ _ _ x).trans (placed _ _ _ (by norm_num) _ x), fun x => (head11 _ _ _ x).trans (placed _ _ _ (by norm_num) _ x), fun x => (head10 _ _ _ x).trans (placed _ _ _ (by norm_num) _ x), fun x => (head9 _ _ _ x).trans (placed _ _ _ (by norm_num) _ x), fun x => (head8 _ _ _ x).trans (placed _ _ _ (by norm_num) _ x), fun x => (head7 _ _ _ x).trans (placed _ _ _ (by norm_num) _ x), fun x => (head6 _ _ _ x).trans (placed _ _ _ (by norm_num) _ x), fun x => (head5 _ _ _ x).trans (placed _ _ _ (by norm_num) _ x), fun x => (head4 _ _ _ x).trans (placed _ _ _ (by norm_num) _ x), fun x => (head3 _ _ _ x).trans (placed _ _ _ (by norm_num) _ x), fun x => (head2 _ _ _ x).trans (placed _ _ _ (by norm_num) _ x), fun x => (head1 _ _ _ x).trans (placed _ _ _ (by norm_num) _ x), fun x => (head0 _ _ _ x).trans (placed _ _ _ (by norm_num) _ x)⟩
        · intro v h h'
          rcases (by omega : (1408 ≤ (v 1 : ℕ) ∧ (v 1 : ℕ) < 1408 + 128) ∨ (1280 ≤ (v 1 : ℕ) ∧ (v 1 : ℕ) < 1280 + 128) ∨ (1152 ≤ (v 1 : ℕ) ∧ (v 1 : ℕ) < 1152 + 128) ∨ (1024 ≤ (v 1 : ℕ) ∧ (v 1 : ℕ) < 1024 + 128)) with hv | hv | hv | hv
          · exact ⟨_, List.mem_cons_of_mem _ (List.mem_cons_of_mem _ (List.mem_cons_of_mem _ (List.mem_cons_of_mem _ List.mem_cons_self))), inside inb_S512x2048_S512x128_0_1408 v hv.1 hv.2⟩
          · exact ⟨_, List.mem_cons_of_mem _ (List.mem_cons_of_mem _ (List.mem_cons_of_mem _ (List.mem_cons_of_mem _ (List.mem_cons_of_mem _ List.mem_cons_self)))), inside inb_S512x2048_S512x128_0_1280 v hv.1 hv.2⟩
          · exact ⟨_, List.mem_cons_of_mem _ (List.mem_cons_of_mem _ (List.mem_cons_of_mem _ (List.mem_cons_of_mem _ (List.mem_cons_of_mem _ (List.mem_cons_of_mem _ List.mem_cons_self))))), inside inb_S512x2048_S512x128_0_1152 v hv.1 hv.2⟩
          · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), inside inb_S512x2048_S512x128_0_1024 v hv.1 hv.2⟩
      · exact block_w m c t _ a (y 1) ⟨1024 + a, by omega⟩ rfl
    · refine Finset.sum_congr rfl fun a _ => congrArg₂ (fun p q : EReal => p * q) ?_ ?_
      · refine Eq.trans (load (iblk m c 0 t) (iblk m c 1 t) (iblk m c 2 t) _ _ ?_ ?_ (y 0) a ⟨1536 + a, by omega⟩ rfl _) (block m c t (y 0) l hl _)
        · simp only [List.forall_mem_cons, List.not_mem_nil, false_imp_iff, implies_true, and_true]
          exact ⟨fun x => (head15 _ _ _ x).trans (placed _ _ _ (by norm_num) _ x), fun x => (head14 _ _ _ x).trans (placed _ _ _ (by norm_num) _ x), fun x => (head13 _ _ _ x).trans (placed _ _ _ (by norm_num) _ x), fun x => (head12 _ _ _ x).trans (placed _ _ _ (by norm_num) _ x), fun x => (head11 _ _ _ x).trans (placed _ _ _ (by norm_num) _ x), fun x => (head10 _ _ _ x).trans (placed _ _ _ (by norm_num) _ x), fun x => (head9 _ _ _ x).trans (placed _ _ _ (by norm_num) _ x), fun x => (head8 _ _ _ x).trans (placed _ _ _ (by norm_num) _ x), fun x => (head7 _ _ _ x).trans (placed _ _ _ (by norm_num) _ x), fun x => (head6 _ _ _ x).trans (placed _ _ _ (by norm_num) _ x), fun x => (head5 _ _ _ x).trans (placed _ _ _ (by norm_num) _ x), fun x => (head4 _ _ _ x).trans (placed _ _ _ (by norm_num) _ x), fun x => (head3 _ _ _ x).trans (placed _ _ _ (by norm_num) _ x), fun x => (head2 _ _ _ x).trans (placed _ _ _ (by norm_num) _ x), fun x => (head1 _ _ _ x).trans (placed _ _ _ (by norm_num) _ x), fun x => (head0 _ _ _ x).trans (placed _ _ _ (by norm_num) _ x)⟩
        · intro v h h'
          rcases (by omega : (1920 ≤ (v 1 : ℕ) ∧ (v 1 : ℕ) < 1920 + 128) ∨ (1792 ≤ (v 1 : ℕ) ∧ (v 1 : ℕ) < 1792 + 128) ∨ (1664 ≤ (v 1 : ℕ) ∧ (v 1 : ℕ) < 1664 + 128) ∨ (1536 ≤ (v 1 : ℕ) ∧ (v 1 : ℕ) < 1536 + 128)) with hv | hv | hv | hv
          · exact ⟨_, List.mem_cons_self, inside inb_S512x2048_S512x128_0_1920 v hv.1 hv.2⟩
          · exact ⟨_, List.mem_cons_of_mem _ List.mem_cons_self, inside inb_S512x2048_S512x128_0_1792 v hv.1 hv.2⟩
          · exact ⟨_, List.mem_cons_of_mem _ (List.mem_cons_of_mem _ List.mem_cons_self), inside inb_S512x2048_S512x128_0_1664 v hv.1 hv.2⟩
          · exact ⟨_, List.mem_cons_of_mem _ (List.mem_cons_of_mem _ (List.mem_cons_of_mem _ List.mem_cons_self)), inside inb_S512x2048_S512x128_0_1536 v hv.1 hv.2⟩
      · exact block_w m c t _ a (y 1) ⟨1536 + a, by omega⟩ rfl
  · refine same _ _ _ ?_ ?_
    · blk_simp [idx t]
      omega
    · blk_simp [idx t]

theorem run_rows : θ_run (defs (F := Ideal)) (onTc (τ := τ) (main (F := Ideal))) ⟨m, fun _ => 0, ρ⟩ fun r => ∀ c : Dev nD,
      r.2.mem ((c : Thread nD τ).loc main_v0) = outArr (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelOIdeal.Rows

end
-- ==== Proof.Loss.lean ====
/- The gated, normalised groups of a layer's output, their projection, and the loss on the rows with its two gradients. -/
module

public import proofs.«01_k».proof.Proof.Forward

@[expose] public section

noncomputable section

namespace Cert.Loss

open Idealize.ShloMosaic Cert.Layer Cert.Forward

/-! ## Constants -/

/-- The width of a group. -/
abbrev size : EReal := Ideal.ofBits .f32 0x43800000#32

/-- One over the width of a row. -/
abbrev share : EReal := Ideal.ofBits .f32 0x3A800000#32

/-- One half over the width of a row. -/
abbrev midShare : EReal := Ideal.ofBits .f32 0x3A000000#32

/-- Two. -/
abbrev two : EReal := Ideal.ofBits .f32 0x40000000#32

theorem share_eq : share = ((1 / 1024 : ℝ) : EReal) := by
  simp [Ideal.ofBits, Ideal.ieee, -EReal.coe_mul]; norm_num

theorem midShare_eq : midShare = ((1 / 2048 : ℝ) : EReal) := by
  simp [Ideal.ofBits, Ideal.ieee, -EReal.coe_mul]; norm_num

theorem two_eq : two = ((2 : ℝ) : EReal) := by
  simp [Ideal.ofBits, Ideal.ieee, -EReal.coe_mul]; norm_num

/-! ## The groups -/

/-- The reciprocal root of a group's mean square. -/
def factor (u : Fin 256 → EReal) : EReal := Ideal.rsqrt (Ideal.div (∑ k, u k * u k) size + eps)

/-- An entry of a gated, normalised and weighted group. -/
def cell (x z : Fin 256 → EReal) (w : EReal) (k : Fin 256) : EReal :=
  x k * gate (z k) * factor (fun k => x k * gate (z k)) * w

/-- The group of column `a`. -/
abbrev column (a : Fin 2048) (k : Fin 256) : Fin 2048 := ⟨a / 256 * 256 + k, by omega⟩

/-- The column's place in its group. -/
abbrev place (a : Fin 2048) : Fin 256 := ⟨a % 256, Nat.mod_lt _ (by norm_num)⟩

/-- The gated, normalised and weighted entry of column `a` of a row. -/
def mixed {r : ℕ} (o z : FVec Ideal ⟨2, ![r, 2048]⟩ .f32) (w : FVec Ideal ⟨2, ![1, 2048]⟩ .f32) (i : Fin r) (a : Fin 2048) : EReal :=
  cell (fun k => o (ix2 i (column a k))) (fun k => z (ix2 i (column a k))) (w (ix2 0 a)) (place a)

/-- An entry of the rows with the projected groups added. -/
def out {r : ℕ} (o z : FVec Ideal ⟨2, ![r, 2048]⟩ .f32) (w : FVec Ideal ⟨2, ![1, 2048]⟩ .f32)
    (p : FVec Ideal ⟨2, ![2048, 1024]⟩ .bf16) (x : FVec Ideal ⟨2, ![r, 1024]⟩ .f32) (i : Fin r) (k : Fin 1024) : EReal :=
  x (ix2 i k) + ∑ a : Fin 2048, mixed o z w i a * p (ix2 a k)

/-! ## The loss -/

/-- The difference of an entry of a normalised row and its target. -/
def diff (x : Fin 1024 → EReal) (w t : EReal) (k : Fin 1024) : EReal := x k * scale x * w - t

/-- The gradient of the rows. -/
def dxArr (R : Fin 16384 → Fin 1024 → EReal) (w : FVec Ideal ⟨1, ![1024]⟩ .f32) (t : FVec Ideal ⟨2, ![16384, 1024]⟩ .f32) :
    FVec Ideal ⟨2, ![16384, 1024]⟩ .f32 :=
  fun j => back (R (j 0)) (fun k => diff (R (j 0)) (w (ix1 k)) (t (ix2 (j 0) k)) k * share * w (ix1 k)) 0 (j 1)

/-- The gradient of the last norm's weight. -/
def dwArr (R : Fin 16384 → Fin 1024 → EReal) (w : FVec Ideal ⟨1, ![1024]⟩ .f32) (t : FVec Ideal ⟨2, ![16384, 1024]⟩ .f32) :
    FVec Ideal ⟨2, ![1, 1024]⟩ .f32 :=
  fun j => ∑ l : Fin 16384, diff (R l) (w (ix1 (j 1))) (t (ix2 l (j 1))) (j 1) * share * (R l (j 1) * scale (R l))

/-- The loss. -/
def lossArr (R : Fin 16384 → Fin 1024 → EReal) (w : FVec Ideal ⟨1, ![1024]⟩ .f32) (t : FVec Ideal ⟨2, ![16384, 1024]⟩ .f32) :
    FVec Ideal ⟨2, ![1, 1]⟩ .f32 :=
  fun _ => midShare * ∑ k : Fin 1024, ∑ l : Fin 16384,
    diff (R l) (w (ix1 k)) (t (ix2 l k)) k * diff (R l) (w (ix1 k)) (t (ix2 l k)) k

/-- The factor of a difference, as differentiation writes it. -/
theorem weight_eq (d : EReal) : Ideal.div (mid * one) width * (two * d) = d * share := by
  rw [mid_eq, one_eq, mul_one, two_eq, share_eq, width_eq, Ideal.div_coe (by norm_num), ← EReal.coe_mul, ← mul_assoc, ← EReal.coe_mul,
    mul_comm]
  congr 2
  norm_num

/-- A finite factor that is not negative goes into a sum. -/
theorem mul_sum' {n : ℕ} (r : ℝ) (hr : 0 ≤ r) (f : Fin n → EReal) : (r : EReal) * ∑ k, f k = ∑ k, (r : EReal) * f k := by
  induction (Finset.univ : Finset (Fin n)) using Finset.induction_on with
  | empty => simp
  | insert a s h ih =>
    rw [Finset.sum_insert h, Finset.sum_insert h,
      EReal.left_distrib_of_nonneg_of_ne_top (by exact_mod_cast hr) (EReal.coe_ne_top r), ih]

/-- The half of the sum of the rows' means. -/
theorem loss_eq (f : Fin 16384 → Fin 1024 → EReal) :
    mid * ∑ l, Ideal.div (∑ k, f l k) width = midShare * ∑ k, ∑ l, f l k := by
  rw [Finset.sum_comm, mid_eq, midShare_eq, mul_sum' _ (by norm_num), mul_sum' _ (by norm_num)]
  refine Finset.sum_congr rfl fun l _ => ?_
  rw [width_eq, Ideal.div_coe (by norm_num), mul_comm _ (((1 / 1024 : ℝ)) : EReal), ← mul_assoc, ← EReal.coe_mul]
  congr 2
  norm_num

end Cert.Loss

end
-- ==== Proof.CallL.lean ====
/- What the call of the output's forward kernel with the loss leaves in its three result arrays. -/
module

public import proofs.«01_k».proof.Proof.Gen.KernelLIdeal.Value
public import proofs.«01_k».proof.Proof.Loss
public import Idealize.ShloMosaic.Lib.Pipeline.ValueKit
public import Idealize.ShloMosaic.Lib.StableHlo.ReadAt

@[expose] public section

set_option maxRecDepth 16384

noncomputable section

namespace Cert.KernelLIdeal.Rows

open Idealize.ShloMosaic Idealize.ShloMosaic.TcCoe Idealize.ShloMosaic.Tactic Idealize.SL.Sem Cert.KernelLIdeal Cert.KernelLIdeal.Gen Cert.Layer Cert.Forward Cert.Loss
open Idealize.ShloMosaic.Pipeline (Dat)

variable (m : (ℓ : Loc nD τ sig) → Buf (Elt Ideal) ℓ) (ρ : Dev nD → PrngReg) (c : Dev nD)

/-! ## A group -/

section Heads

variable (o z : FVec Ideal S512x256 .f32) (w : FVec Ideal S1x256 .f32) (j : S512x256.Idx)

theorem head0 : k0_pay6 (F := Ideal) o z w j
    = Loss.cell (fun k => o (ix2 (j 0) k)) (fun k => z (ix2 (j 0) k)) (w (ix2 0 (j 1))) (j 1) := by
  idx_vars j
  pointwise [k0_pay6, Loss.cell, Loss.factor, gate]

theorem head1 : k0_pay8 (F := Ideal) o z w (k0_pay7 z) j
    = Loss.cell (fun k => o (ix2 (j 0) k)) (fun k => z (ix2 (j 0) k)) (w (ix2 0 (j 1))) (j 1) := by
  idx_vars j
  pointwise [k0_pay8, k0_pay7, Loss.cell, Loss.factor, gate]

theorem head2 : k0_pay12 (F := Ideal) w (k0_pay9 o z) (k0_pay10 o z) k0_pay11 j
    = Loss.cell (fun k => o (ix2 (j 0) k)) (fun k => z (ix2 (j 0) k)) (w (ix2 0 (j 1))) (j 1) := by
  idx_vars j
  pointwise [k0_pay12, k0_pay9, k0_pay10, k0_pay11, Loss.cell, Loss.factor, gate]

theorem head3 : k0_pay13 (F := Ideal) o z w j
    = Loss.cell (fun k => o (ix2 (j 0) k)) (fun k => z (ix2 (j 0) k)) (w (ix2 0 (j 1))) (j 1) := by
  idx_vars j
  pointwise [k0_pay13, Loss.cell, Loss.factor, gate]

theorem head4 : k0_pay15 (F := Ideal) o z w j
    = Loss.cell (fun k => o (ix2 (j 0) k)) (fun k => z (ix2 (j 0) k)) (w (ix2 0 (j 1))) (j 1) := by
  idx_vars j
  pointwise [k0_pay15, Loss.cell, Loss.factor, gate]

theorem head5 : k0_pay17 (F := Ideal) o z w (k0_pay16 z) j
    = Loss.cell (fun k => o (ix2 (j 0) k)) (fun k => z (ix2 (j 0) k)) (w (ix2 0 (j 1))) (j 1) := by
  idx_vars j
  pointwise [k0_pay17, k0_pay16, Loss.cell, Loss.factor, gate]

theorem head6 : k0_pay20 (F := Ideal) o w (k0_pay19 z) j
    = Loss.cell (fun k => o (ix2 (j 0) k)) (fun k => z (ix2 (j 0) k)) (w (ix2 0 (j 1))) (j 1) := by
  idx_vars j
  pointwise [k0_pay20, k0_pay19, Loss.cell, Loss.factor, gate]

theorem head7 : k0_pay22 (F := Ideal) (k0_pay21 o z w) j
    = Loss.cell (fun k => o (ix2 (j 0) k)) (fun k => z (ix2 (j 0) k)) (w (ix2 0 (j 1))) (j 1) := by
  idx_vars j
  pointwise [k0_pay22, k0_pay21, Loss.cell, Loss.factor, gate]

end Heads

/-! ## A block of rows -/

section Blocks

variable (o z : FVec Ideal S512x2048 .f32) (w : FVec Ideal S1x2048 .f32)

/-- The block's entries as the stores leave them. -/
def heads (j : S512x2048.Idx) : EReal := Loss.mixed o z w (j 0) (j 1)

theorem same {r n : ℕ} (f : FVec Ideal ⟨2, ![r, n]⟩ .f32) (i j : Shape.Idx ⟨2, ![r, n]⟩) (h0 : (i 0 : ℕ) = j 0) (h1 : (i 1 : ℕ) = j 1) :
    f i = f j := by
  congr 1
  funext a
  match a with
  | 0 => exact Fin.ext h0
  | 1 => exact Fin.ext h1

theorem placed {off : ℕ} (hoff : 256 ∣ off) (inb) (inw) (x : S512x256.Idx) :
    Loss.cell (fun k => View.ld (Val := Elt Ideal) (e' := .f32) o (Rect.unit (s := S512x2048) ![0, off] ![512, 256] inb) (ix2 (x 0) k))
        (fun k => View.ld (Val := Elt Ideal) (e' := .f32) z (Rect.unit (s := S512x2048) ![0, off] ![512, 256] inb) (ix2 (x 0) k))
        (View.ld (Val := Elt Ideal) (e' := .f32) w (Rect.unit (s := S1x2048) ![0, off] ![1, 256] inw) (ix2 0 (x 1))) (x 1)
      = heads o z w ((Rect.unit (s := S512x2048) ![0, off] ![512, 256] inb).emb x) := by
  have h0 : (((Rect.unit (s := S512x2048) ![0, off] ![512, 256] inb).emb x) 0 : ℕ) = x 0 :=
    (ValueKit.rect_emb_unit_val _ _ inb x 0).trans (Nat.zero_add _)
  have h1 : (((Rect.unit (s := S512x2048) ![0, off] ![512, 256] inb).emb x) 1 : ℕ) = off + x 1 :=
    ValueKit.rect_emb_unit_val _ _ inb x 1
  have hx : (x 1 : ℕ) < 256 := (x 1).isLt
  unfold heads Loss.mixed
  generalize (Rect.unit (s := S512x2048) ![0, off] ![512, 256] inb).emb x = i at h0 h1 ⊢
  have e : Loss.place (i 1) = x 1 := Fin.ext (by show (i 1 : ℕ) % 256 = _; omega)
  have hc : ∀ k : Fin 256, off + (k : ℕ) = Loss.column (i 1) k := fun k => by show off + (k : ℕ) = (i 1 : ℕ) / 256 * 256 + k; omega
  have ho : ∀ (f : FVec Ideal S512x2048 .f32) (k : Fin 256),
      View.ld (Val := Elt Ideal) (e' := .f32) f (Rect.unit (s := S512x2048) ![0, off] ![512, 256] inb) (ix2 (x 0) k)
        = f (ix2 (i 0) (Loss.column (i 1) k)) := fun f k => by
    refine same f _ _ ?_ ?_
    · exact (ValueKit.rect_emb_unit_val _ _ inb (ix2 (x 0) k : S512x256.Idx) 0).trans ((Nat.zero_add _).trans h0.symm)
    · exact (ValueKit.rect_emb_unit_val _ _ inb (ix2 (x 0) k : S512x256.Idx) 1).trans (hc k)
  have hw : View.ld (Val := Elt Ideal) (e' := .f32) w (Rect.unit (s := S1x2048) ![0, off] ![1, 256] inw) (ix2 0 (x 1)) = w (ix2 0 (i 1)) := by
    refine same w _ _ ?_ ?_
    · exact (ValueKit.rect_emb_unit_val _ _ inw (ix2 0 (x 1) : S1x256.Idx) 0).trans (Nat.zero_add _)
    · exact (ValueKit.rect_emb_unit_val _ _ inw (ix2 0 (x 1) : S1x256.Idx) 1).trans h1.symm
  rw [e]
  exact congr (congr (congrArg₂ Loss.cell (funext fun k => ho o k) (funext fun k => ho z k)) hw) rfl

/-- A column of the block lies in the group that holds it. -/
theorem inside {off : ℕ} (inb) (y : S512x2048.Idx) (h : off ≤ (y 1 : ℕ)) (h' : (y 1 : ℕ) < off + 256) :
    y ∈ (Rect.unit (s := S512x2048) ![0, off] ![512, 256] inb).set := by
  refine Rect.mem_set_unit.mpr fun a => ?_
  match a with
  | 0 => exact ⟨Nat.zero_le _, by have := (y 0).isLt; show (y 0 : ℕ) < 0 + 512; exact (Nat.zero_add 512).symm ▸ this⟩
  | 1 => exact ⟨h, h'⟩

/-- What a load of 512 columns reads. -/
theorem load (L : List (View.Piece (Elt Ideal) S512x2048 .bf16)) {off : ℕ} (inb)
    (hL : ∀ p ∈ L, ∀ x : p.1.shape.Idx, p.2 x = heads o z w (p.1.emb x))
    (hc : ∀ y : S512x2048.Idx, off ≤ (y 1 : ℕ) → (y 1 : ℕ) < off + 512 → ∃ p ∈ L, y ∈ p.1.set)
    (i : Fin 512) (a : Fin 512) (b : Fin 2048) (hb : (b : ℕ) = off + a) (V : View sig .tc .vmem S512x2048 .bf16) :
    V.readCov L (Rect.unit (s := S512x2048) ![0, off] ![512, 512] inb).toLoadRect (ix2 i a) = Loss.mixed o z w i b := by
  rw [View.readCov_eq_canon']
  have h0 : (((Rect.unit (s := S512x2048) ![0, off] ![512, 512] inb).emb (ix2 i a)) 0 : ℕ) = i :=
    (ValueKit.rect_emb_unit_val _ _ inb (ix2 i a) 0).trans (Nat.zero_add _)
  have h1 : (((Rect.unit (s := S512x2048) ![0, off] ![512, 512] inb).emb (ix2 i a)) 1 : ℕ) = off + a :=
    ValueKit.rect_emb_unit_val _ _ inb (ix2 i a) 1
  refine (View.canon_apply_of_pieces (heads o z w) L hL _ (hc _ ?_ ?_)).trans ?_
  · exact h1.symm ▸ Nat.le_add_right _ _
  · exact h1.symm ▸ Nat.add_lt_add_left a.isLt _
  · exact congrArg₂ (Loss.mixed o z w) (Fin.ext h0) (Fin.ext (h1.trans hb.symm))

end Blocks

/-! ## The rows and what is computed of them -/

section Tail

variable (x : FVec Ideal S512x1024 .f32) (y0 y1 y2 y3 : FVec Ideal S512x512 .bf16) (w0 w1 w2 w3 : FVec Ideal S512x1024 .bf16)

/-- The rows with the four products added. -/
def tot (j : S512x1024.Idx) : EReal :=
  x j + ∑ a : Fin 512, y0 (ix2 (j 0) a) * w0 (ix2 a (j 1)) + ∑ a : Fin 512, y1 (ix2 (j 0) a) * w1 (ix2 a (j 1))
    + ∑ a : Fin 512, y2 (ix2 (j 0) a) * w2 (ix2 a (j 1)) + ∑ a : Fin 512, y3 (ix2 (j 0) a) * w3 (ix2 a (j 1))

theorem tot_apply (j : S512x1024.Idx) :
    k0_pay23 (F := Ideal) (k0_pay18 (k0_pay14 x y0 w0) y1 w1) y2 w2 y3 w3 j = tot x y0 y1 y2 y3 w0 w1 w2 w3 j := by
  pointwise [k0_pay23, k0_pay18, k0_pay14, tot]

theorem tot_fun :
    k0_pay23 (F := Ideal) (k0_pay18 (k0_pay14 x y0 w0) y1 w1) y2 w2 y3 w3 = tot x y0 y1 y2 y3 w0 w1 w2 w3 :=
  funext fun j => tot_apply x y0 y1 y2 y3 w0 w1 w2 w3 j

variable (t : FVec Ideal S512x1024 .f32) (fw : FVec Ideal S1x1024 .f32)

/-- A row of the block. -/
abbrev line (X : S512x1024.Idx → EReal) (i : Fin 512) (k : Fin 1024) : EReal := X (ix2 i k)

/-- The gradient of the block's rows `X`. -/
def rowsAt (X : S512x1024.Idx → EReal) (fw : FVec Ideal S1x1024 .f32) (t : FVec Ideal S512x1024 .f32) (j : S512x1024.Idx) : EReal :=
  back (line X (j 0)) (fun k => diff (line X (j 0)) (fw (ix2 0 k)) (t (ix2 (j 0) k)) k * share * fw (ix2 0 k)) 0 (j 1)

/-- What the block's rows add to the gradient of the last norm's weight. -/
def weightAt (X : S512x1024.Idx → EReal) (fw : FVec Ideal S1x1024 .f32) (t : FVec Ideal S512x1024 .f32) (j : S1x1024.Idx) : EReal :=
  ∑ s : Fin 512, diff (line X s) (fw (ix2 0 (j 1))) (t (ix2 s (j 1))) (j 1) * share * (line X s (j 1) * scale (line X s))

/-- What the block's rows add to the columns' squares. -/
def squaresAt (X : S512x1024.Idx → EReal) (fw : FVec Ideal S1x1024 .f32) (t : FVec Ideal S512x1024 .f32) (j : S1x1024.Idx) : EReal :=
  ∑ s : Fin 512, diff (line X s) (fw (ix2 0 (j 1))) (t (ix2 s (j 1))) (j 1) * diff (line X s) (fw (ix2 0 (j 1))) (t (ix2 s (j 1))) (j 1)

theorem grad_x (j : S512x1024.Idx) : k0_pay4 (F := Ideal) (k0_pay26 (k0_pay18 (k0_pay14 x y0 w0) y1 w1) y2 w2 y3 w3)
      (k0_pay27 (k0_pay18 (k0_pay14 x y0 w0) y1 w1) y2 w2 y3 w3) (k0_pay28 (k0_pay18 (k0_pay14 x y0 w0) y1 w1) y2 w2 y3 w3 fw t) fw j
    = rowsAt (tot x y0 y1 y2 y3 w0 w1 w2 w3) fw t j := by
  idx_vars j
  unfold k0_pay28 k0_pay27 k0_pay26
  rw [tot_fun]
  unfold rowsAt back
  rw [zero_add]
  generalize tot x y0 y1 y2 y3 w0 w1 w2 w3 = X
  pointwise [k0_pay4, k0_pay2, scale, diff, line]

theorem grad_w (acc : FVec Ideal S1x1024 .f32) (j : S1x1024.Idx) :
    k0_pay3 (F := Ideal) (k0_pay27 (k0_pay18 (k0_pay14 x y0 w0) y1 w1) y2 w2 y3 w3) (k0_pay28 (k0_pay18 (k0_pay14 x y0 w0) y1 w1) y2 w2 y3 w3 fw t) acc j
    = acc j + weightAt (tot x y0 y1 y2 y3 w0 w1 w2 w3) fw t j := by
  idx_vars j
  unfold k0_pay28 k0_pay27 k0_pay26
  rw [tot_fun]
  generalize tot x y0 y1 y2 y3 w0 w1 w2 w3 = X
  pointwise [k0_pay3, k0_pay2, scale, diff, line, weightAt]

theorem squares (acc : FVec Ideal S1x1024 .f32) (j : S1x1024.Idx) :
    k0_pay1 (F := Ideal) acc (k0_pay29 (k0_pay18 (k0_pay14 x y0 w0) y1 w1) y2 w2 y3 w3 fw t) j
    = acc j + squaresAt (tot x y0 y1 y2 y3 w0 w1 w2 w3) fw t j := by
  idx_vars j
  unfold k0_pay29 k0_pay28 k0_pay27 k0_pay26
  rw [tot_fun]
  generalize tot x y0 y1 y2 y3 w0 w1 w2 w3 = X
  pointwise [k0_pay1, scale, diff, line, squaresAt]

theorem total (acc : FVec Ideal S1x1024 .f32) (j : S1x1.Idx) : k0_pay5 (F := Ideal) acc j = midShare * ∑ k : Fin 1024, acc (ix2 0 k) := by
  idx_vars j
  pointwise [k0_pay5]

theorem zeros (j : S1x1024.Idx) : k0_pay24 (F := Ideal) j = (0 : EReal) := by pointwise [k0_pay24]

theorem zeros' (j : S1x1024.Idx) : k0_pay25 (F := Ideal) j = (0 : EReal) := by pointwise [k0_pay25]

end Tail

/-! ## The point -/

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

/-- Row `s` of the rows a point reads. -/
abbrev row (t : Fin cfg0.N) (s : Fin 512) : Fin 16384 := ⟨t.val * 512 + s, by have := t.isLt; change t.val < 32 at this; omega⟩

/-- The rows with the projected groups added. -/
def R : Fin 16384 → Fin 1024 → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

theorem entry_w : (V m c main_v0 : FVec Ideal S1x1024 .f32) = fun j => m ((c : Thread nD τ).loc main_arg5) (ix1 (j 1)) := by
  funext j
  idx_vars j
  show StableHlo.after (List.flatten [hostOps0]) (fun b => m (c, b)) (Proc.devRef .tc main_v0) (ix2 j0 j1) = _
  after_reads_at

section Rows

variable (t : Fin cfg0.N) (i : Fin 512)

theorem block_o (a : Fin 2048) : iblk m c 0 t (ix2 i a) = m ((c : Thread nD τ).loc main_arg0) (ix2 (row t i) a) := by
  rw [← V_main_arg0 m c]
  blk_point [iblk, idx t]

theorem block_z (a : Fin 2048) : iblk m c 1 t (ix2 i a) = m ((c : Thread nD τ).loc main_arg1) (ix2 (row t i) a) := by
  rw [← V_main_arg1 m c]
  blk_point [iblk, idx t]

theorem block_x (a : Fin 1024) : iblk m c 4 t (ix2 i a) = m ((c : Thread nD τ).loc main_arg4) (ix2 (row t i) a) := by
  rw [← V_main_arg4 m c]
  blk_point [iblk, idx t]

theorem block_t (a : Fin 1024) : iblk m c 6 t (ix2 i a) = m ((c : Thread nD τ).loc main_arg6) (ix2 (row t i) a) := by
  rw [← V_main_arg6 m c]
  blk_point [iblk, idx t]

theorem block_n (a : Fin 2048) : iblk m c 2 t (ix2 0 a) = m ((c : Thread nD τ).loc main_arg2) (ix2 0 a) := by
  rw [← V_main_arg2 m c]
  blk_point [iblk, idx t]

theorem block_f (a : Fin 1024) : iblk m c 5 t (ix2 0 a) = m ((c : Thread nD τ).loc main_arg5) (ix1 a) := by
  refine Eq.trans (b := (V m c main_v0 : FVec Ideal S1x1024 .f32) (ix2 0 a)) ?_ (by rw [entry_w]; rfl)
  blk_point [iblk, idx t]

theorem block (a : Fin 2048) : Loss.mixed (iblk m c 0 t) (iblk m c 1 t) (iblk m c 2 t) i a
    = Loss.mixed (m ((c : Thread nD τ).loc main_arg0)) (m ((c : Thread nD τ).loc main_arg1)) (m ((c : Thread nD τ).loc main_arg2)) (row t i) a := by
  unfold Loss.mixed
  exact congr (congr (congrArg₂ Loss.cell (funext fun k => block_o m c t i _) (funext fun k => block_z m c t i _)) (block_n m c t a)) rfl

theorem block_w {off : ℕ} (inb) (a : Fin 512) (k : Fin 1024) (b : Fin 2048) (hb : (b : ℕ) = off + a) :
    View.ld (iblk m c 3 t) (Rect.unit (s := S2048x1024) ![off, 0] ![512, 1024] inb) (ix2 a k)
      = m ((c : Thread nD τ).loc main_arg3) (ix2 b k) := by
  rw [← V_main_arg3 m c]
  blk_point [iblk, idx t]

/-- The rows of a point, from what its loads read. -/
theorem tot_eq {y0 y1 y2 y3 : FVec Ideal S512x512 .bf16} {i0 i1 i2 i3}
    (h0 : ∀ i a : Fin 512, y0 (ix2 i a) = Loss.mixed (iblk m c 0 t) (iblk m c 1 t) (iblk m c 2 t) i ⟨a, by omega⟩)
    (h1 : ∀ i a : Fin 512, y1 (ix2 i a) = Loss.mixed (iblk m c 0 t) (iblk m c 1 t) (iblk m c 2 t) i ⟨512 + a, by omega⟩)
    (h2 : ∀ i a : Fin 512, y2 (ix2 i a) = Loss.mixed (iblk m c 0 t) (iblk m c 1 t) (iblk m c 2 t) i ⟨1024 + a, by omega⟩)
    (h3 : ∀ i a : Fin 512, y3 (ix2 i a) = Loss.mixed (iblk m c 0 t) (iblk m c 1 t) (iblk m c 2 t) i ⟨1536 + a, by omega⟩) :
    tot (iblk m c 4 t) y0 y1 y2 y3
        (View.ld (Val := Elt Ideal) (e' := .bf16) (iblk m c 3 t) (Rect.unit (s := S2048x1024) ![0, 0] ![512, 1024] i0))
        (View.ld (Val := Elt Ideal) (e' := .bf16) (iblk m c 3 t) (Rect.unit (s := S2048x1024) ![512, 0] ![512, 1024] i1))
        (View.ld (Val := Elt Ideal) (e' := .bf16) (iblk m c 3 t) (Rect.unit (s := S2048x1024) ![1024, 0] ![512, 1024] i2))
        (View.ld (Val := Elt Ideal) (e' := .bf16) (iblk m c 3 t) (Rect.unit (s := S2048x1024) ![1536, 0] ![512, 1024] i3))
      = fun j => R m c (row t (j 0)) (j 1) := by
  funext j
  idx_vars j
  unfold tot R out
  rw [sum_blocks, ← add_assoc, ← add_assoc, ← add_assoc]
  refine congrArg₂ (· + ·) (congrArg₂ (· + ·) (congrArg₂ (· + ·) (congrArg₂ (· + ·) ?_ ?_) ?_) ?_) ?_
  · exact block_x m c t j0 j1
  · exact Finset.sum_congr rfl fun a _ => congrArg₂ (fun p q : EReal => p * q) ((h0 j0 a).trans (block m c t j0 _)) (block_w m c t _ a j1 ⟨a, by omega⟩ (Nat.zero_add _).symm)
  · exact Finset.sum_congr rfl fun a _ => congrArg₂ (fun p q : EReal => p * q) ((h1 j0 a).trans (block m c t j0 _)) (block_w m c t _ a j1 ⟨512 + a, by omega⟩ rfl)
  · exact Finset.sum_congr rfl fun a _ => congrArg₂ (fun p q : EReal => p * q) ((h2 j0 a).trans (block m c t j0 _)) (block_w m c t _ a j1 ⟨1024 + a, by omega⟩ rfl)
  · exact Finset.sum_congr rfl fun a _ => congrArg₂ (fun p q : EReal => p * q) ((h3 j0 a).trans (block m c t j0 _)) (block_w m c t _ a j1 ⟨1536 + a, by omega⟩ rfl)

end Rows

/-! ## The result arrays -/

/-- What a point adds to the gradient of the last norm's weight. -/
def addW (t : Fin cfg0.N) (j : S1x1024.Idx) : EReal :=
  ∑ s : Fin 512, diff (R m c (row t s)) (m ((c : Thread nD τ).loc main_arg5) (ix1 (j 1))) (m ((c : Thread nD τ).loc main_arg6) (ix2 (row t s) (j 1))) (j 1) * share
    * (R m c (row t s) (j 1) * scale (R m c (row t s)))

/-- What a point adds to the columns' squares. -/
def addS (t : Fin cfg0.N) (j : S1x1024.Idx) : EReal :=
  ∑ s : Fin 512, diff (R m c (row t s)) (m ((c : Thread nD τ).loc main_arg5) (ix1 (j 1))) (m ((c : Thread nD τ).loc main_arg6) (ix2 (row t s) (j 1))) (j 1)
    * diff (R m c (row t s)) (m ((c : Thread nD τ).loc main_arg5) (ix1 (j 1))) (m ((c : Thread nD τ).loc main_arg6) (ix2 (row t s) (j 1))) (j 1)

theorem addW_eq (t : Fin cfg0.N) (j : S1x1024.Idx) :
    weightAt (fun j => R m c (row t (j 0)) (j 1)) (iblk m c 5 t) (iblk m c 6 t) j = addW m c t j := by
  idx_vars j
  exact Finset.sum_congr rfl fun s _ => congrArg₂ (fun p q : EReal => diff (R m c (row t s)) p q j1 * share * (R m c (row t s) j1 * scale (R m c (row t s))))
    (block_f m c t j1) (block_t m c t s j1)

theorem addS_eq (t : Fin cfg0.N) (j : S1x1024.Idx) :
    squaresAt (fun j => R m c (row t (j 0)) (j 1)) (iblk m c 5 t) (iblk m c 6 t) j = addS m c t j := by
  idx_vars j
  exact Finset.sum_congr rfl fun s _ => congrArg₂ (fun p q : EReal => diff (R m c (row t s)) p q j1 * diff (R m c (row t s)) p q j1) (block_f m c t j1) (block_t m c t s j1)

theorem rows_eq (t : Fin cfg0.N) (j : S512x1024.Idx) :
    rowsAt (fun j => R m c (row t (j 0)) (j 1)) (iblk m c 5 t) (iblk m c 6 t) j
      = Loss.dxArr (R m c) (m ((c : Thread nD τ).loc main_arg5)) (m ((c : Thread nD τ).loc main_arg6)) (ix2 (row t (j 0)) (j 1)) := by
  idx_vars j
  exact congrArg (fun f : Fin 1024 → EReal => back (R m c (row t j0)) f 0 j1) (funext fun k =>
    congrArg₂ (fun p q : EReal => diff (R m c (row t j0)) p q k * share * p) (block_f m c t k) (block_t m c t j0 k))

set_option maxHeartbeats 2000000 in
theorem addW_A (t : Fin cfg0.N) (h0 : t.val % 32 = 0) (j : S1x1024.Idx) :
    (outsAt0 m c t.val t.isLt).2.1 j = (0 : EReal) + addW m c t j := by
  rw [outsAt0_A m c t h0 (by omega)]
  frame_out
  rw [grad_w, zeros, tot_eq m c t, addW_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem addW_B (t : Fin cfg0.N) (h0 : ¬t.val % 32 = 0) (h1 : ¬t.val % 32 = 31) (j : S1x1024.Idx) :
    (outsAt0 m c t.val t.isLt).2.1 j = ((outsAt0 m c (t.val - 1) (Nat.lt_of_le_of_lt (Nat.sub_le _ _) t.isLt)).2.1 j : EReal) + addW m c t j := by
  rw [outsAt0_B m c t h0 h1]
  frame_out
  rw [grad_w, tot_eq m c t, addW_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem addW_C (t : Fin cfg0.N) (h0 : ¬t.val % 32 = 0) (h1 : t.val % 32 = 31) (j : S1x1024.Idx) :
    (outsAt0 m c t.val t.isLt).2.1 j = ((outsAt0 m c (t.val - 1) (Nat.lt_of_le_of_lt (Nat.sub_le _ _) t.isLt)).2.1 j : EReal) + addW m c t j := by
  rw [outsAt0_C m c t h0 h1]
  frame_out
  rw [grad_w, tot_eq m c t, addW_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem addS_A (t : Fin cfg0.N) (h0 : t.val % 32 = 0) (j : S1x1024.Idx) :
    (outsAt0 m c t.val t.isLt).2.2.2 j = (0 : EReal) + addS m c t j := by
  rw [outsAt0_A m c t h0 (by omega)]
  frame_out
  rw [squares, zeros', tot_eq m c t, addS_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem addS_B (t : Fin cfg0.N) (h0 : ¬t.val % 32 = 0) (h1 : ¬t.val % 32 = 31) (j : S1x1024.Idx) :
    (outsAt0 m c t.val t.isLt).2.2.2 j = ((outsAt0 m c (t.val - 1) (Nat.lt_of_le_of_lt (Nat.sub_le _ _) t.isLt)).2.2.2 j : EReal) + addS m c t j := by
  rw [outsAt0_B m c t h0 h1]
  frame_out
  rw [squares, tot_eq m c t, addS_eq m c t]
  · exact congrArg (fun p : EReal => p + addS m c t j) (congrFun (Memref.IsWhole.read_unread (Memref.isWhole_whole cc0_scratch1) _) j)
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem addS_C (t : Fin cfg0.N) (h0 : ¬t.val % 32 = 0) (h1 : t.val % 32 = 31) (j : S1x1024.Idx) :
    (outsAt0 m c t.val t.isLt).2.2.2 j = ((outsAt0 m c (t.val - 1) (Nat.lt_of_le_of_lt (Nat.sub_le _ _) t.isLt)).2.2.2 j : EReal) + addS m c t j := by
  rw [outsAt0_C m c t h0 h1]
  frame_out
  rw [squares, tot_eq m c t, addS_eq m c t]
  · exact congrArg (fun p : EReal => p + addS m c t j) (congrFun (Memref.IsWhole.read_unread (Memref.isWhole_whole cc0_scratch1) _) j)
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem rows_A (t : Fin cfg0.N) (h0 : t.val % 32 = 0) (y : S512x1024.Idx) :
    (outsAt0 m c t.val t.isLt).1 y
      = Loss.dxArr (R m c) (m ((c : Thread nD τ).loc main_arg5)) (m ((c : Thread nD τ).loc main_arg6)) (ix2 (row t (y 0)) (y 1)) := by
  rw [outsAt0_A m c t h0 (by omega)]
  frame_out
  rw [grad_x, tot_eq m c t, rows_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem rows_B (t : Fin cfg0.N) (h0 : ¬t.val % 32 = 0) (h1 : ¬t.val % 32 = 31) (y : S512x1024.Idx) :
    (outsAt0 m c t.val t.isLt).1 y
      = Loss.dxArr (R m c) (m ((c : Thread nD τ).loc main_arg5)) (m ((c : Thread nD τ).loc main_arg6)) (ix2 (row t (y 0)) (y 1)) := by
  rw [outsAt0_B m c t h0 h1]
  frame_out
  rw [grad_x, tot_eq m c t, rows_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

set_option maxHeartbeats 2000000 in
theorem rows_C (t : Fin cfg0.N) (h0 : ¬t.val % 32 = 0) (h1 : t.val % 32 = 31) (y : S512x1024.Idx) :
    (outsAt0 m c t.val t.isLt).1 y
      = Loss.dxArr (R m c) (m ((c : Thread nD τ).loc main_arg5)) (m ((c : Thread nD τ).loc main_arg6)) (ix2 (row t (y 0)) (y 1)) := by
  rw [outsAt0_C m c t h0 h1]
  frame_out
  rw [grad_x, tot_eq m c t, rows_eq m c t]
  · intro i a
    refine load (iblk m c 0 t) (iblk m c 1 t) (iblk m c 2 t) _ _ ?_ ?_ i a _ (Nat.zero_add _).symm _
    · simp only [List.forall_mem_cons, List.not_mem_nil, false_imp_iff, implies_true, and_true]
      exact ⟨fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (256 ≤ (v 1 : ℕ) ∧ (v 1 : ℕ) < 256 + 256) ∨ (0 ≤ (v 1 : ℕ) ∧ (v 1 : ℕ) < 0 + 256)) with hv | hv
      · exact ⟨_, (List.mem_cons_of_mem _ (List.mem_cons_of_mem _ List.mem_cons_self)), inside inb_S512x2048_S512x256_0_256 v hv.1 hv.2⟩
      · exact ⟨_, (List.mem_cons_of_mem _ (List.mem_cons_of_mem _ (List.mem_cons_of_mem _ List.mem_cons_self))), inside inb_S512x2048_S512x256_0_0 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (768 ≤ (v 1 : ℕ) ∧ (v 1 : ℕ) < 768 + 256) ∨ (512 ≤ (v 1 : ℕ) ∧ (v 1 : ℕ) < 512 + 256)) with hv | hv
      · exact ⟨_, (List.mem_cons_of_mem _ (List.mem_cons_of_mem _ List.mem_cons_self)), inside inb_S512x2048_S512x256_0_768 v hv.1 hv.2⟩
      · exact ⟨_, (List.mem_cons_of_mem _ (List.mem_cons_of_mem _ (List.mem_cons_of_mem _ List.mem_cons_self))), inside inb_S512x2048_S512x256_0_512 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1280 ≤ (v 1 : ℕ) ∧ (v 1 : ℕ) < 1280 + 256) ∨ (1024 ≤ (v 1 : ℕ) ∧ (v 1 : ℕ) < 1024 + 256)) with hv | hv
      · exact ⟨_, (List.mem_cons_of_mem _ (List.mem_cons_of_mem _ List.mem_cons_self)), inside inb_S512x2048_S512x256_0_1280 v hv.1 hv.2⟩
      · exact ⟨_, (List.mem_cons_of_mem _ (List.mem_cons_of_mem _ (List.mem_cons_of_mem _ List.mem_cons_self))), inside inb_S512x2048_S512x256_0_1024 v hv.1 hv.2⟩
  · intro i a
    refine load (iblk m c 0 t) (iblk m c 1 t) (iblk m c 2 t) _ _ ?_ ?_ i a _ rfl _
    · simp only [List.forall_mem_cons, List.not_mem_nil, false_imp_iff, implies_true, and_true]
      exact ⟨fun x => (head7 _ _ _ x).trans (placed _ _ _ (by norm_num) _ _ x), fun x => (head6 _ _ _ x).trans (placed _ _ _ (by norm_num) _ _ x), fun x => (head5 _ _ _ x).trans (placed _ _ _ (by norm_num) _ _ x), fun x => (head4 _ _ _ x).trans (placed _ _ _ (by norm_num) _ _ x), fun x => (head3 _ _ _ x).trans (placed _ _ _ (by norm_num) _ _ x), fun x => (head2 _ _ _ x).trans (placed _ _ _ (by norm_num) _ _ x), fun x => (head1 _ _ _ x).trans (placed _ _ _ (by norm_num) _ _ x), fun x => (head0 _ _ _ x).trans (placed _ _ _ (by norm_num) _ _ x)⟩
    · intro v h h'
      rcases (by omega : (1792 ≤ (v 1 : ℕ) ∧ (v 1 : ℕ) < 1792 + 256) ∨ (1536 ≤ (v 1 : ℕ) ∧ (v 1 : ℕ) < 1536 + 256)) with hv | hv
      · exact ⟨_, List.mem_cons_self, inside inb_S512x2048_S512x256_0_1792 v hv.1 hv.2⟩
      · exact ⟨_, (List.mem_cons_of_mem _ List.mem_cons_self), inside inb_S512x2048_S512x256_0_1536 v hv.1 hv.2⟩

theorem final_x : (dats m 0 c).arrAt 7 cfg0.N
    = Loss.dxArr (R m c) (m ((c : Thread nD τ).loc main_arg5)) (m ((c : Thread nD τ).loc main_arg6)) := by
  refine (dats m 0 c).arrAt_eq_of_covers 7 _ (by decide +kernel) fun t hf y => ?_
  have hy : ((View.whole main_v1_0).slice (win0_7.rect t)).emb y = ix2 (row t (y 0)) (y 1) := by
    idx_vars y
    blk_ext [idx t]
  blk_simp
  rw [after0_7]
  refine Eq.trans ?_ (congrArg _ hy.symm)
  by_cases h0 : t.val % 32 = 0
  · exact rows_A m c t h0 y
  · by_cases h1 : t.val % 32 = 31
    · exact rows_C m c t h0 h1 y
    · exact rows_B m c t h0 h1 y

/-- The points' sums make one sum over the rows. -/
theorem gather (t : Fin cfg0.N) (h : t.val % 32 = 32 - 1) (f : Fin 16384 → EReal)
    (hs : ∀ s : Fin 32, 32 * (t.val / 32) + s.val < cfg0.N) :
    ∑ s : Fin 32, ∑ k : Fin 512, f (row ⟨32 * (t.val / 32) + s.val, hs s⟩ k) = ∑ l, f l := by
  refine Fin.sum_mul_add_congr (f := f) fun s k hl => ?_
  have ht : t.val / 32 = 0 := by have := t.isLt; change t.val < 32 at this; omega
  refine congrArg f (Fin.ext ?_)
  show (32 * (t.val / 32) + s.val) * 512 + k.val = s.val * 512 + k.val
  rw [ht, mul_zero, zero_add]

theorem final_w : (dats m 0 c).arrAt 8 cfg0.N
    = Loss.dwArr (R m c) (m ((c : Thread nD τ).loc main_arg5)) (m ((c : Thread nD τ).loc main_arg6)) := by
  refine (dats m 0 c).arrAt_eq_of_covers 8 _ (by decide +kernel) fun t hf y => ?_
  blk_simp
  rw [after0_8, Pipeline.eq_sum_fin_of_reset_step_apply_of_flush (fun n h => (outsAt0 m c n h).2.1) 32 (fun _ => 0) (addW m c)
    (fun t h j => addW_A m c t h j)
    (fun t h j => by
      by_cases h1 : t.val % 32 = 31
      · exact addW_C m c t h h1 j
      · exact addW_B m c t h h1 j)
    t ((flush0_8 t).mp hf) _, zero_add]
  have hy : ((win0_8.blk t).view.emb y) 1 = y 1 := by
    refine Fin.ext ?_
    blk_simp [idx t]
  unfold Loss.dwArr addW
  rw [hy]
  exact gather t ((flush0_8 t).mp hf) (fun l => diff (R m c l) (m ((c : Thread nD τ).loc main_arg5) (ix1 (y 1))) (m ((c : Thread nD τ).loc main_arg6) (ix2 l (y 1))) (y 1) * share
    * (R m c l (y 1) * scale (R m c l))) (fun s => by have h := t.isLt; have := s.isLt; change t.val < 32 at h; change _ < 32; omega)

theorem last (t : Fin cfg0.N) (h0 : ¬t.val % 32 = 0) (h1 : t.val % 32 = 31) :
    (outsAt0 m c t.val t.isLt).2.2.1 = k0_pay5 (F := Ideal) ((outsAt0 m c t.val t.isLt).2.2.2) := by
  rw [outsAt0_C m c t h0 h1]
  frame_out

theorem final_l : (dats m 0 c).arrAt 9 cfg0.N
    = lossArr (R m c) (m ((c : Thread nD τ).loc main_arg5)) (m ((c : Thread nD τ).loc main_arg6)) := by
  refine (dats m 0 c).arrAt_eq_of_covers 9 _ (by decide +kernel) fun t hf y => ?_
  blk_simp
  have h31 : t.val % 32 = 31 := (flush0_9 t).mp hf
  rw [after0_9, last m c t (by omega) h31, total]
  unfold lossArr
  refine congrArg (fun p : EReal => midShare * p) (Finset.sum_congr rfl fun k _ => ?_)
  rw [Pipeline.eq_sum_fin_of_reset_step_apply_of_flush (fun n h => (outsAt0 m c n h).2.2.2) 32 (fun _ => 0) (addS m c)
    (fun t h j => addS_A m c t h j)
    (fun t h j => by
      by_cases h1 : t.val % 32 = 31
      · exact addS_C m c t h h1 j
      · exact addS_B m c t h h1 j)
    t h31 _, zero_add]
  exact gather t h31 (fun l => diff (R m c l) (m ((c : Thread nD τ).loc main_arg5) (ix1 k)) (m ((c : Thread nD τ).loc main_arg6) (ix2 l k)) k
    * diff (R m c l) (m ((c : Thread nD τ).loc main_arg5) (ix1 k)) (m ((c : Thread nD τ).loc main_arg6) (ix2 l k)) k)
    (fun s => by have h := t.isLt; have := s.isLt; change t.val < 32 at h; change _ < 32; omega)

/-- The run: the loss and its two gradients, and the arguments as they were. -/
theorem run_rows : θ_run (defs (F := Ideal)) (onTc (τ := τ) (main (F := Ideal))) ⟨m, fun _ => 0, ρ⟩ fun r => ∀ c : Dev nD,
      r.2.mem ((c : Thread nD τ).loc main_v1_0) = Loss.dxArr (R m c) (m ((c : Thread nD τ).loc main_arg5)) (m ((c : Thread nD τ).loc main_arg6))
      ∧ r.2.mem ((c : Thread nD τ).loc main_v1_1) = Loss.dwArr (R m c) (m ((c : Thread nD τ).loc main_arg5)) (m ((c : Thread nD τ).loc main_arg6))
      ∧ r.2.mem ((c : Thread nD τ).loc main_v1_2) = lossArr (R m c) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_x m c), (h c).2.1.trans (final_w m c), (h c).2.2.1.trans (final_l m c), (h c).2.2.2⟩)
    (Value.run_blocks m ρ)

end Cert.KernelLIdeal.Rows

end
-- ==== Proof.SourceO.lean ====
/- The reference's normalised, gated and projected heads. -/
module

public import proofs.«01_k».proof.Proof.Gen.ReferenceOIdeal.Run
public import proofs.«01_k».proof.Proof.Forward

@[expose] public section

set_option maxRecDepth 16384

noncomputable section

namespace Cert.ReferenceOIdeal.Rows

open Idealize.ShloMosaic Idealize.ShloMosaic.TcCoe Idealize.SL.Sem Cert.ReferenceOIdeal Cert.ReferenceOIdeal.Gen Cert.Layer Cert.Forward

variable (m : (ℓ : Loc nD τ sig) → Buf (Elt Ideal) ℓ) (ρ : Dev nD → PrngReg) (c : Dev nD)

set_option maxHeartbeats 2000000 in
/-- The run: the rows with the projected heads added, and the arguments as they were. -/
theorem run_rows : θ_run (defs (F := Ideal)) (onTc (τ := τ) (main (F := Ideal))) ⟨m, fun _ => 0, ρ⟩ fun r => ∀ c : Dev nD,
      r.2.mem ((c.tc : Thread nD τ).loc main_v20) = outArr (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1⟩ := h c
  refine ⟨h0.trans ?_, h1⟩
  funext j
  idx_vars j
  unfold outArr
  pointwise [mixed, cell]
  refine congrArg₂ (fun p q : EReal => p + q) rfl (Finset.sum_congr rfl fun a _ => congrArg₂ (fun p q : EReal => p * q) ?_ rfl)
  rw [gate_eq, silu, one_eq]
  have e : ∀ h, (⟨(a : ℕ) / 128 * 128 + (a : ℕ) % 128, h⟩ : Fin 2048) = a := fun h => Fin.ext (Nat.div_add_mod' _ _)
  rw [e]
  rfl

end Cert.ReferenceOIdeal.Rows

end
-- ==== Proof.SourceL.lean ====
/- The reference's loss and its gradients of the rows and of the last norm's weight. -/
module

public import proofs.«01_k».proof.Proof.Gen.ReferenceLIdeal.Run
public import proofs.«01_k».proof.Proof.Loss

@[expose] public section

set_option maxRecDepth 16384

noncomputable section

namespace Cert.ReferenceLIdeal.Rows

open Idealize.ShloMosaic Idealize.ShloMosaic.TcCoe Idealize.SL.Sem Cert.ReferenceLIdeal Cert.ReferenceLIdeal.Gen Cert.Layer Cert.Forward Cert.Loss

variable (m : (ℓ : Loc nD τ sig) → Buf (Elt Ideal) ℓ) (ρ : Dev nD → PrngReg) (c : Dev nD)

/-- The rows with the projected groups added. -/
def R : Fin 16384 → Fin 1024 → EReal :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

section Stages

variable (o z g y : FVec Ideal S16384x2048 .f32) (w : FVec Ideal S1x2048 .f32) (p : FVec Ideal S2048x1024 .bf16) (x : FVec Ideal S16384x1024 .f32)

/-- The gated rows. -/
def gated : FVec Ideal S16384x2048 .f32 := fun j => o j * gate (z j)

theorem gated_eq : (mulf o (mulf z (Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))))
    : FVec Ideal S16384x2048 .f32) = gated o z := by
  funext j
  idx_vars j
  unfold gated
  rw [gate_eq, silu, one_eq]
  pointwise

/-- The normalised and weighted groups. -/
def normed : FVec Ideal S16384x2048 .f32 := fun j =>
  g j * Loss.factor (fun k => g (ix2 (j 0) (Loss.column (j 1) k))) * w (ix2 0 (j 1))

theorem normed_eq : (shapeCast S16384x2048 (mulf (mulf (shapeCast S16384x8x256 g shapeCasts_S16384x2048_S16384x8x256) (broadcastInDim S16384x8x256 ![0, 1, 2] bcast_S16384x8x1_S16384x8x256_0_1_2 (Host.rsqrt (addf (Host.divf (broadcastInDim S16384x8x1 ![0, 1] bcast_S16384x8_S16384x8x1_0_1 (Host.reduceAdd (mulf (shapeCast S16384x8x256 g shapeCasts_S16384x2048_S16384x8x256) (shapeCast S16384x8x256 g shapeCasts_S16384x2048_S16384x8x256)) (constant S_ .f32 0x00000000#32) reducesTo_S16384x8x256_S16384x8_d2 h_S_)) (broadcastInDim S16384x8x1 ![] bcast_S_S16384x8x1 (constant S_ .f32 0x43800000#32))) (broadcastInDim S16384x8x1 ![] bcast_S_S16384x8x1 (constant S_ .f32 0x358637BD#32)))))) (broadcastInDim S16384x8x256 ![0, 1, 2] bcast_S1x8x256_S16384x8x256_0_1_2 (broadcastInDim S1x8x256 ![1, 2] bcast_S8x256_S1x8x256_1_2 (shapeCast S8x256 w shapeCasts_S1x2048_S8x256)))) shapeCasts_S16384x8x256_S16384x2048
    : FVec Ideal S16384x2048 .f32) = normed g w := by
  funext j
  idx_vars j
  unfold normed Loss.factor
  pointwise

theorem added : (addf x (Host.dotGeneral dot_S16384x2048_S2048x1024_S16384x1024_1_0_0_1_n_n none y (extf .f32 p bitsLt_bf16_f32)) : FVec Ideal S16384x1024 .f32)
    = fun j => x j + ∑ a : Fin 2048, y (ix2 (j 0) a) * p (ix2 a (j 1)) := by
  funext j
  idx_vars j
  pointwise

end Stages

set_option maxHeartbeats 2000000 in
theorem projected : (addf (m ((c.tc : Thread nD τ).loc main_arg4)) (Host.dotGeneral dot_S16384x2048_S2048x1024_S16384x1024_1_0_0_1_n_n none (shapeCast _ (mulf (mulf (shapeCast _ (mulf (m ((c.tc : Thread nD τ).loc main_arg0)) (mulf (m ((c.tc : Thread nD τ).loc main_arg1)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (m ((c.tc : Thread nD τ).loc main_arg1)))))))) shapeCasts_S16384x2048_S16384x8x256) (broadcastInDim S16384x8x256 ![0, 1, 2] bcast_S16384x8x1_S16384x8x256_0_1_2 (Host.rsqrt (addf (Host.divf (broadcastInDim S16384x8x1 ![0, 1] bcast_S16384x8_S16384x8x1_0_1 (Host.reduceAdd (mulf (shapeCast _ (mulf (m ((c.tc : Thread nD τ).loc main_arg0)) (mulf (m ((c.tc : Thread nD τ).loc main_arg1)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (m ((c.tc : Thread nD τ).loc main_arg1)))))))) shapeCasts_S16384x2048_S16384x8x256) (shapeCast _ (mulf (m ((c.tc : Thread nD τ).loc main_arg0)) (mulf (m ((c.tc : Thread nD τ).loc main_arg1)) (Host.divf (broadcastInDim S16384x2048 ![] bcast_S_S16384x2048 (constant S_ .f32 0x3F800000#32)) (addf (broadcastInDim S16384x2048 ![] bcast_S_S16384x2048 (constant S_ .f32 0x3F800000#32)) (Host.exp (Host.negf (m ((c.tc : Thread nD τ).loc main_arg1)))))))) shapeCasts_S16384x2048_S16384x8x256)) (constant S_ .f32 0x00000000#32) reducesTo_S16384x8x256_S16384x8_d2 h_S_)) (broadcastInDim S16384x8x1 ![] bcast_S_S16384x8x1 (constant S_ .f32 0x43800000#32))) (broadcastInDim S16384x8x1 ![] bcast_S_S16384x8x1 (constant S_ .f32 0x358637BD#32)))))) (broadcastInDim S16384x8x256 ![0, 1, 2] bcast_S1x8x256_S16384x8x256_0_1_2 (broadcastInDim S1x8x256 ![1, 2] bcast_S8x256_S1x8x256_1_2 (shapeCast _ (m ((c.tc : Thread nD τ).loc main_arg2)) shapeCasts_S1x2048_S8x256)))) shapeCasts_S16384x8x256_S16384x2048) (extf .f32 (m ((c.tc : Thread nD τ).loc main_arg3)) bitsLt_bf16_f32)) : FVec Ideal S16384x1024 .f32) = fun j => R m c (j 0) (j 1) := by
  rw [gated_eq, normed_eq, added]
  funext j
  idx_vars j
  unfold R out
  refine congrArg (fun q : EReal => _ + q) (Finset.sum_congr rfl fun a _ => congrArg (fun q : EReal => q * _) ?_)
  unfold normed gated Loss.mixed Loss.cell
  have e : Loss.column a (Loss.place a) = a := Fin.ext (Nat.div_add_mod' _ _)
  beta_reduce
  rw [e]
  rfl

set_option maxHeartbeats 2000000 in
theorem rows : (Value.res_main_v71 m c : FVec Ideal S16384x1024 .f32)
    = Loss.dxArr (R m c) (m ((c.tc : Thread nD τ).loc main_arg5)) (m ((c.tc : Thread nD τ).loc main_arg6)) := by
  unfold Value.res_main_v71
  rw [projected m c]
  funext j
  unfold Loss.dxArr
  idx_vars j
  rw [← back_eq, zero_add]
  simp only [← weight_eq, one_eq]
  pointwise [scale, diff]
  simp only [Finset.univ_unique, Finset.sum_singleton]

set_option maxHeartbeats 2000000 in
theorem weights : (Value.res_main_v72 m c : FVec Ideal S1x1024 .f32)
    = Loss.dwArr (R m c) (m ((c.tc : Thread nD τ).loc main_arg5)) (m ((c.tc : Thread nD τ).loc main_arg6)) := by
  unfold Value.res_main_v72
  rw [projected m c]
  funext j
  unfold Loss.dwArr
  idx_vars j
  simp only [← weight_eq, one_eq]
  pointwise [scale, diff]
  simp only [Finset.univ_unique, Finset.sum_singleton]
  exact congrArg (fun f : Fin 16384 → EReal => ∑ l, f l) (funext fun l => EReal.mul_comm _ _)

set_option maxHeartbeats 2000000 in
theorem loss : (Value.res_main_v73 m c : FVec Ideal S1x1 .f32)
    = lossArr (R m c) (m ((c.tc : Thread nD τ).loc main_arg5)) (m ((c.tc : Thread nD τ).loc main_arg6)) := by
  unfold Value.res_main_v73
  rw [projected m c]
  funext j
  unfold lossArr
  idx_vars j
  rw [← loss_eq]
  pointwise [scale, diff]

/-- The run: the loss and its two gradients, and the arguments as they were. -/
theorem run_rows : θ_run (defs (F := Ideal)) (onTc (τ := τ) (main (F := Ideal))) ⟨m, fun _ => 0, ρ⟩ fun r => ∀ c : Dev nD,
      r.2.mem ((c.tc : Thread nD τ).loc main_v71) = Loss.dxArr (R m c) (m ((c.tc : Thread nD τ).loc main_arg5)) (m ((c.tc : Thread nD τ).loc main_arg6))
      ∧ r.2.mem ((c.tc : Thread nD τ).loc main_v72) = Loss.dwArr (R m c) (m ((c.tc : Thread nD τ).loc main_arg5)) (m ((c.tc : Thread nD τ).loc main_arg6))
      ∧ r.2.mem ((c.tc : Thread nD τ).loc main_v73) = lossArr (R m c) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨h0, h1, h2, h3⟩ := h c
  exact ⟨h0.trans (rows m c), h1.trans (weights m c), h2.trans (loss m c), h3⟩

end Cert.ReferenceLIdeal.Rows

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Gen.KernelW
public import proofs.«01_k».proof.Proof.Gen.KernelW.Frame
public import proofs.«01_k».proof.Proof.Gen.KernelWIdeal
public import proofs.«01_k».proof.Proof.Gen.KernelWIdeal.Frame
public import proofs.«01_k».proof.Proof.Gen.ReferenceWIdeal
public import proofs.«01_k».proof.Proof.Gen.ReferenceWIdeal.Run
public import proofs.«01_k».proof.Proof.Gen.KernelG
public import proofs.«01_k».proof.Proof.Gen.KernelG.Frame
public import proofs.«01_k».proof.Proof.Gen.KernelGIdeal
public import proofs.«01_k».proof.Proof.Gen.KernelGIdeal.Frame
public import proofs.«01_k».proof.Proof.Gen.ReferenceGIdeal
public import proofs.«01_k».proof.Proof.Gen.ReferenceGIdeal.Run
public import proofs.«01_k».proof.Proof.Gen.KernelS
public import proofs.«01_k».proof.Proof.Gen.KernelS.Frame
public import proofs.«01_k».proof.Proof.Gen.KernelSIdeal
public import proofs.«01_k».proof.Proof.Gen.KernelSIdeal.Frame
public import proofs.«01_k».proof.Proof.Gen.KernelSIdeal.Value
public import proofs.«01_k».proof.Proof.Gen.ReferenceSIdeal
public import proofs.«01_k».proof.Proof.Gen.ReferenceSIdeal.Run
public import proofs.«01_k».proof.Proof.Gen.KernelX
public import proofs.«01_k».proof.Proof.Gen.KernelX.Frame
public import proofs.«01_k».proof.Proof.Gen.KernelXIdeal
public import proofs.«01_k».proof.Proof.Gen.KernelXIdeal.Frame
public import proofs.«01_k».proof.Proof.Gen.KernelXIdeal.Value
public import proofs.«01_k».proof.Proof.Gen.ReferenceXIdeal
public import proofs.«01_k».proof.Proof.Gen.ReferenceXIdeal.Run
public import proofs.«01_k».proof.Proof.Gen.KernelO
public import proofs.«01_k».proof.Proof.Gen.KernelO.Frame
public import proofs.«01_k».proof.Proof.Gen.KernelOIdeal
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.KernelL
public import proofs.«01_k».proof.Proof.Gen.KernelL.Frame
public import proofs.«01_k».proof.Proof.Gen.KernelLIdeal
public import proofs.«01_k».proof.Proof.Gen.KernelLIdeal.Frame
public import proofs.«01_k».proof.Proof.Gen.KernelLIdeal.Value
public import proofs.«01_k».proof.Proof.Gen.ReferenceLIdeal
public import proofs.«01_k».proof.Proof.Gen.ReferenceLIdeal.Run
public import proofs.«01_k».proof.Proof.Same
public import proofs.«01_k».proof.Proof.Result
public import proofs.«01_k».proof.Proof.Scanned
public import proofs.«01_k».proof.Proof.Finite
public import proofs.«01_k».proof.Proof.FinalW
public import proofs.«01_k».proof.Proof.RefW
public import proofs.«01_k».proof.Proof.FinalG
public import proofs.«01_k».proof.Proof.RefG
public import proofs.«01_k».proof.Proof.CallS
public import proofs.«01_k».proof.Proof.SourceS
public import proofs.«01_k».proof.Proof.CallX
public import proofs.«01_k».proof.Proof.SourceX
public import proofs.«01_k».proof.Proof.CallO
public import proofs.«01_k».proof.Proof.CallL
public import proofs.«01_k».proof.Proof.SourceO
public import proofs.«01_k».proof.Proof.SourceL

@[expose] public section

noncomputable section

namespace Cert.Proof

open Idealize.ShloMosaic Idealize.SL.Sem Cert.Chunked

/-- The kernel leaves its arguments and every counter as they were, over machine words. -/
theorem frame_kernel : Cert.quiescent_Kernel := fun m ρ _ => by
  rw [Cert.Same.tables]
  exact Cert.KernelIdeal.Bwd.run_frame (F := Bits) m ρ

/-- The same over the extended reals. -/
theorem frame_kernelIdeal : Cert.quiescent_KernelIdeal := fun m ρ _ => Cert.KernelIdeal.Bwd.run_frame (F := Ideal) m ρ

/-- The same, under the precondition. -/
theorem frame_kernelIdeal_finite : Cert.quiescent_KernelIdeal_pre_finite :=
  fun m ρ _ => Cert.KernelIdeal.Bwd.run_frame (F := Ideal) m ρ

/-- The reference leaves its arguments as they were; it has no counter. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run m ρ)

/-- The same, under the precondition. -/
theorem frame_reference_finite : Cert.quiescent_ReferenceIdeal_pre_finite := fun m ρ _ =>
  (θ_run Cert.ReferenceIdeal.defs _ _).mono
    (fun r h => ⟨fun c => (h c).2.2.2, sem_eq_zero_of_no_sems (by decide) r.2⟩) (Cert.ReferenceIdeal.Value.run m ρ)

/-- Kernel and reference end with the same three gradients: those of the recurrence read off the arguments. -/
theorem same_gradients : Cert.algebraic_KernelIdeal_ReferenceIdeal_pre_finite := by
  intro m g m' g' hpre hagree
  have hdata : ∀ c, Cert.ReferenceIdeal.Scan.data m' c = Cert.KernelIdeal.Bwd.data m c := fun c => by
    obtain ⟨h0, h1, h2, h3, h4, h5, h6, h7⟩ := hagree c
    unfold Cert.ReferenceIdeal.Scan.data Cert.KernelIdeal.Bwd.data
    rw [h0, h1, h2, h3, h4, h5, h6, h7]
  have hfin : ∀ c, (Cert.ReferenceIdeal.Scan.data m' c).Finite := fun c => by
    rw [hdata c]; exact finite_of_pre _ _ _ _ _ _ _ _ (hpre c)
  refine ⟨fun c => dvArr (Cert.KernelIdeal.Bwd.data m c), fun c => dkArr (Cert.KernelIdeal.Bwd.data m c),
    fun c => dgArr (Cert.KernelIdeal.Bwd.data m c), ?_, ?_⟩
  · exact (θ_run Cert.KernelIdeal.defs _ _).mono (fun r h c =>
      ⟨(h c).1.1.trans (Cert.KernelIdeal.Bwd.final8 m c), (h c).1.2.1.trans (Cert.KernelIdeal.Bwd.final9 m c),
        (h c).1.2.2.trans (Cert.KernelIdeal.Bwd.final10 m c), (h c).2⟩) (Cert.KernelIdeal.Bwd.run_arrays m g)
  · exact (θ_run Cert.ReferenceIdeal.defs _ _).mono (fun r h c =>
      ⟨(h c).1.1.trans (by rw [hdata c]), (h c).1.2.1.trans (by rw [hdata c]), (h c).1.2.2.trans (by rw [hdata c]), (h c).2⟩)
      (Cert.ReferenceIdeal.Scan.run_arrays m' g' hfin)

/-- The products for the weights of the state-space mixer: arguments and counters are as they were, over machine words. -/
theorem frame_kernelW : Cert.quiescent_KernelW := fun m ρ _ => Cert.KernelW.Gen.frame m ρ

/-- The same over the extended reals. -/
theorem frame_kernelWIdeal : Cert.quiescent_KernelWIdeal := fun m ρ _ => Cert.KernelWIdeal.Gen.frame m ρ

/-- Their reference leaves its arguments as they were; it has no counter. -/
theorem frame_referenceW : Cert.quiescent_ReferenceWIdeal := fun m ρ _ =>
  (θ_run Cert.ReferenceWIdeal.defs _ _).mono
    (fun r h => ⟨fun c => (h c).2.2.2.2.2.2, sem_eq_zero_of_no_sems (by decide) r.2⟩) (Cert.ReferenceWIdeal.Value.run m ρ)

/-- Products and reference end with the same six gradients of the state-space mixer's weights. -/
theorem same_weightsW : Cert.algebraic_KernelWIdeal_ReferenceWIdeal := by
  intro m g m' g' _ hagree
  refine ⟨_, _, _, _, _, _, Cert.KernelWIdeal.Grad.run_products m g, ?_⟩
  refine (θ_run Cert.ReferenceWIdeal.defs _ _).mono (fun r h c => ?_) (Cert.ReferenceWIdeal.Grad.run_products m' g')
  obtain ⟨a0, a1, a2, a3, a4, a5, a6, a7, a8⟩ := hagree c
  obtain ⟨h0, h1, h2, h3, h4, h5, h6⟩ := h c
  exact ⟨h0.trans (by rw [a0, a1, a2]), h1.trans (by rw [a0, a1, a3]), h2.trans (by rw [a0, a1, a4]),
    h3.trans (by rw [a0, a1, a5]), h4.trans (by rw [a0, a1, a6]), h5.trans (by rw [a7, a8]), h6⟩

/-- The products for the weights of the delta rule's mixer: arguments and counters are as they were, over machine words. -/
theorem frame_kernelG : Cert.quiescent_KernelG := fun m ρ _ => Cert.KernelG.Gen.frame m ρ

/-- The same over the extended reals. -/
theorem frame_kernelGIdeal : Cert.quiescent_KernelGIdeal := fun m ρ _ => Cert.KernelGIdeal.Gen.frame m ρ

/-- Their reference leaves its arguments as they were; it has no counter. -/
theorem frame_referenceG : Cert.quiescent_ReferenceGIdeal := fun m ρ _ =>
  (θ_run Cert.ReferenceGIdeal.defs _ _).mono
    (fun r h => ⟨fun c => (h c).2.2.2.2.2.2, sem_eq_zero_of_no_sems (by decide) r.2⟩) (Cert.ReferenceGIdeal.Value.run m ρ)

/-- Products and reference end with the same six gradients of the delta rule's mixer's weights. -/
theorem same_weightsG : Cert.algebraic_KernelGIdeal_ReferenceGIdeal := by
  intro m g m' g' _ hagree
  refine ⟨_, _, _, _, _, _, Cert.KernelGIdeal.Grad.run_products m g, ?_⟩
  refine (θ_run Cert.ReferenceGIdeal.defs _ _).mono (fun r h c => ?_) (Cert.ReferenceGIdeal.Grad.run_products m' g')
  obtain ⟨a0, a1, a2, a3, a4, a5, a6, a7, a8⟩ := hagree c
  obtain ⟨h0, h1, h2, h3, h4, h5, h6⟩ := h c
  exact ⟨h0.trans (by rw [a0, a1, a2]), h1.trans (by rw [a0, a1, a3]), h2.trans (by rw [a0, a1, a4]),
    h3.trans (by rw [a0, a1, a5]), h4.trans (by rw [a0, a1, a6]), h5.trans (by rw [a7, a8]), h6⟩

/-- The gradient through the state-space mixer's input projection: arguments and counters are as they were, over machine words. -/
theorem frame_kernelS : Cert.quiescent_KernelS := fun m ρ _ => Cert.KernelS.Gen.frame m ρ

/-- The same over the extended reals. -/
theorem frame_kernelSIdeal : Cert.quiescent_KernelSIdeal := fun m ρ _ => Cert.KernelSIdeal.Gen.frame m ρ

/-- Its reference leaves its arguments as they were; it has no counter. -/
theorem frame_referenceS : Cert.quiescent_ReferenceSIdeal := fun m ρ _ =>
  (θ_run Cert.ReferenceSIdeal.defs _ _).mono
    (fun r h => ⟨fun c => (h c).2.2, sem_eq_zero_of_no_sems (by decide) r.2⟩) (Cert.ReferenceSIdeal.Value.run m ρ)

/-- Kernel and reference end with the same gradients of the rows and of the norm's weight. -/
theorem same_rowsS : Cert.algebraic_KernelSIdeal_ReferenceSIdeal := by
  intro m g m' g' _ hagree
  refine ⟨_, _, Cert.KernelSIdeal.Rows.run_rows m g, ?_⟩
  refine (θ_run Cert.ReferenceSIdeal.defs _ _).mono (fun r h c => ?_) (Cert.ReferenceSIdeal.Rows.run_rows m' g')
  obtain ⟨a0, a1, a2, a3, a4, a5, a6, a7, a8⟩ := hagree c
  obtain ⟨h0, h1, h2⟩ := h c
  have hG : Cert.ReferenceSIdeal.Rows.G m' c = Cert.KernelSIdeal.Rows.G m c := by
    unfold Cert.ReferenceSIdeal.Rows.G Cert.KernelSIdeal.Rows.G
    rw [a2, a3, a4, a5, a6, a7]
  exact ⟨h0.trans (by rw [hG, a0, a1, a8]), h1.trans (by rw [hG, a0]), h2⟩

/-- The gradient through the delta rule's mixer's input projection: arguments and counters are as they were, over machine words. -/
theorem frame_kernelX : Cert.quiescent_KernelX := fun m ρ _ => Cert.KernelX.Gen.frame m ρ

/-- The same over the extended reals. -/
theorem frame_kernelXIdeal : Cert.quiescent_KernelXIdeal := fun m ρ _ => Cert.KernelXIdeal.Gen.frame m ρ

/-- Its reference leaves its arguments as they were; it has no counter. -/
theorem frame_referenceX : Cert.quiescent_ReferenceXIdeal := fun m ρ _ =>
  (θ_run Cert.ReferenceXIdeal.defs _ _).mono
    (fun r h => ⟨fun c => (h c).2.2, sem_eq_zero_of_no_sems (by decide) r.2⟩) (Cert.ReferenceXIdeal.Value.run m ρ)

/-- Kernel and reference end with the same gradients of the rows and of the norm's weight. -/
theorem same_rowsX : Cert.algebraic_KernelXIdeal_ReferenceXIdeal := by
  intro m g m' g' _ hagree
  refine ⟨_, _, Cert.KernelXIdeal.Rows.run_rows m g, ?_⟩
  refine (θ_run Cert.ReferenceXIdeal.defs _ _).mono (fun r h c => ?_) (Cert.ReferenceXIdeal.Rows.run_rows m' g')
  obtain ⟨a0, a1, a2, a3, a4, a5, a6, a7, a8⟩ := hagree c
  obtain ⟨h0, h1, h2⟩ := h c
  have hG : Cert.ReferenceXIdeal.Rows.G m' c = Cert.KernelXIdeal.Rows.G m c := by
    unfold Cert.ReferenceXIdeal.Rows.G Cert.KernelXIdeal.Rows.G
    rw [a2, a3, a4, a5, a6, a7]
  exact ⟨h0.trans (by rw [hG, a0, a1, a8]), h1.trans (by rw [hG, a0]), h2⟩

/-- The delta rule's mixer's output projection: arguments and counters are as they were, over machine words. -/
theorem frame_kernelO : Cert.quiescent_KernelO := fun m ρ _ => Cert.KernelO.Gen.frame m ρ

/-- The same over the extended reals. -/
theorem frame_kernelOIdeal : Cert.quiescent_KernelOIdeal := fun m ρ _ => Cert.KernelOIdeal.Gen.frame m ρ

/-- Its reference leaves its arguments as they were; it has no counter. -/
theorem frame_referenceO : Cert.quiescent_ReferenceOIdeal := fun m ρ _ =>
  (θ_run Cert.ReferenceOIdeal.defs _ _).mono
    (fun r h => ⟨fun c => (h c).2, sem_eq_zero_of_no_sems (by decide) r.2⟩) (Cert.ReferenceOIdeal.Value.run m ρ)

/-- Kernel and reference end with the same rows. -/
theorem same_rowsO : Cert.algebraic_KernelOIdeal_ReferenceOIdeal := by
  intro m g m' g' _ hagree
  refine ⟨_, Cert.KernelOIdeal.Rows.run_rows m g, ?_⟩
  refine (θ_run Cert.ReferenceOIdeal.defs _ _).mono (fun r h c => ?_) (Cert.ReferenceOIdeal.Rows.run_rows m' g')
  obtain ⟨a0, a1, a2, a3, a4⟩ := hagree c
  obtain ⟨h0, h1⟩ := h c
  exact ⟨h0.trans (by rw [a0, a1, a2, a3, a4]), h1⟩

/-- The state-space mixer's output projection with the loss: arguments and counters are as they were, over machine words. -/
theorem frame_kernelL : Cert.quiescent_KernelL := fun m ρ _ => Cert.KernelL.Gen.frame m ρ

/-- The same over the extended reals. -/
theorem frame_kernelLIdeal : Cert.quiescent_KernelLIdeal := fun m ρ _ => Cert.KernelLIdeal.Gen.frame m ρ

/-- Its reference leaves its arguments as they were; it has no counter. -/
theorem frame_referenceL : Cert.quiescent_ReferenceLIdeal := fun m ρ _ =>
  (θ_run Cert.ReferenceLIdeal.defs _ _).mono
    (fun r h => ⟨fun c => (h c).2.2.2, sem_eq_zero_of_no_sems (by decide) r.2⟩) (Cert.ReferenceLIdeal.Value.run m ρ)

/-- Kernel and reference end with the same loss and the same gradients of the rows and of the last norm's weight. -/
theorem same_lossL : Cert.algebraic_KernelLIdeal_ReferenceLIdeal := by
  intro m g m' g' _ hagree
  refine ⟨_, _, _, Cert.KernelLIdeal.Rows.run_rows m g, ?_⟩
  refine (θ_run Cert.ReferenceLIdeal.defs _ _).mono (fun r h c => ?_) (Cert.ReferenceLIdeal.Rows.run_rows m' g')
  obtain ⟨a0, a1, a2, a3, a4, a5, a6⟩ := hagree c
  obtain ⟨h0, h1, h2, h3⟩ := h c
  have hR : Cert.ReferenceLIdeal.Rows.R m' c = Cert.KernelLIdeal.Rows.R m c := by
    unfold Cert.ReferenceLIdeal.Rows.R Cert.KernelLIdeal.Rows.R
    rw [a0, a1, a2, a3, a4]
  exact ⟨h0.trans (by rw [hR, a5, a6]), h1.trans (by rw [hR, a5, a6]), h2.trans (by rw [hR, a5, a6]), h3⟩

theorem claim : Cert.Claim := ⟨Cert.Kernel.Gen.facts, Cert.KernelIdeal.Gen.facts, Cert.ReferenceIdeal.Gen.facts,
  Cert.KernelW.Gen.facts, Cert.KernelWIdeal.Gen.facts, Cert.ReferenceWIdeal.Gen.facts,
  Cert.KernelG.Gen.facts, Cert.KernelGIdeal.Gen.facts, Cert.ReferenceGIdeal.Gen.facts,
  Cert.KernelS.Gen.facts, Cert.KernelSIdeal.Gen.facts, Cert.ReferenceSIdeal.Gen.facts,
  Cert.KernelX.Gen.facts, Cert.KernelXIdeal.Gen.facts, Cert.ReferenceXIdeal.Gen.facts,
  Cert.KernelO.Gen.facts, Cert.KernelOIdeal.Gen.facts, Cert.ReferenceOIdeal.Gen.facts,
  Cert.KernelL.Gen.facts, Cert.KernelLIdeal.Gen.facts, Cert.ReferenceLIdeal.Gen.facts, Cert.Pre_finite.Gen.facts,
  frame_kernel, frame_kernelIdeal, frame_kernelIdeal_finite, frame_reference, frame_reference_finite,
  frame_kernelW, frame_kernelWIdeal, frame_referenceW, frame_kernelG, frame_kernelGIdeal, frame_referenceG,
  frame_kernelS, frame_kernelSIdeal, frame_referenceS, frame_kernelX, frame_kernelXIdeal, frame_referenceX,
  frame_kernelO, frame_kernelOIdeal, frame_referenceO, frame_kernelL, frame_kernelLIdeal, frame_referenceL,
  trivial, same_gradients, trivial, same_weightsW, trivial, same_weightsG, trivial, same_rowsS, trivial, same_rowsX,
  trivial, same_rowsO, trivial, same_lossL⟩

end Cert.Proof

end
